-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_d" .f32 0x392AAAAB#32 ((1 / 6144 : ℝ) : EReal)
  ∧ IdealRules.named_const.Statement Cert.KernelIdeal.κ "inv_softcap" .f32 0x3D088889#32 ((1 / 30 : ℝ) : EReal)
  ∧ IdealRules.named_const.Statement Cert.KernelIdeal.κ "softcap_log2e" .f32 0x422D1F97#32 ((30 * (Real.log 2)⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v40_0) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2x128x6144 : Shape := ⟨3, ![2, 128, 6144]⟩
abbrev S6144 : Shape := ⟨1, ![6144]⟩
abbrev S32768x6144 : Shape := ⟨2, ![32768, 6144]⟩
abbrev S32768x1 : Shape := ⟨2, ![32768, 1]⟩
abbrev S32768 : Shape := ⟨1, ![32768]⟩
abbrev S2x128 : Shape := ⟨2, ![2, 128]⟩
abbrev S_ : Shape := ⟨0, ![]⟩

class Facts : Prop where
  bcast_S_S6144 : S_.BroadcastsInDim S6144 (![] : Fin 0 → Fin S6144.rank)
  bcast_S_S2x128 : S_.BroadcastsInDim S2x128 (![] : Fin 0 → Fin S2x128.rank)

variable [Facts]

def fn {F : FTy → Type} [FloatOps F] (main_arg0 : FVec F S2x128x6144 .bf16) (main_arg1 : FVec F S6144 .f32) (main_arg2 : FVec F S32768x6144 .fp8e4m3) (main_arg3 : FVec F S32768x1 .f32) (main_arg4 : FVec F S32768 .f32) (main_arg5 : IVec S2x128 32) : IVec S6144 1 × IVec S2x128 1 :=
  let main_v0 : FVec F S6144 .f32 := Host.absf main_arg1
  let main_cst : FVec F S_ .f32 := constant S_ .f32 0x7F7FFFFF#32
  let main_v1 : FVec F S6144 .f32 := broadcastInDim S6144 ![] bcast_S_S6144 main_cst
  let main_v2 : IVec S6144 1 := cmpf .ole main_v0 main_v1
  let main_c : IVec S_ 32 := constantI S_ 32 0#32
  let main_v3 : IVec S2x128 32 := broadcastInDim S2x128 ![] bcast_S_S2x128 main_c
  let main_v4 : IVec S2x128 1 := cmpi .sge main_arg5 main_v3
  let main_c_0 : IVec S_ 32 := constantI S_ 32 32768#32
  let main_v5 : IVec S2x128 32 := broadcastInDim S2x128 ![] bcast_S_S2x128 main_c_0
  let main_v6 : IVec S2x128 1 := cmpi .slt main_arg5 main_v5
  let main_v7 : IVec S2x128 1 := andi main_v4 main_v6
  (main_v2, main_v7)
-- ==== Kernel.lean ====
abbrev S2x128x6144 : Shape := ⟨3, ![2, 128, 6144]⟩
abbrev S6144 : Shape := ⟨1, ![6144]⟩
abbrev S32768x6144 : Shape := ⟨2, ![32768, 6144]⟩
abbrev S32768x1 : Shape := ⟨2, ![32768, 1]⟩
abbrev S32768 : Shape := ⟨1, ![32768]⟩
abbrev S2x128 : Shape := ⟨2, ![2, 128]⟩
abbrev S256x6144 : Shape := ⟨2, ![256, 6144]⟩
abbrev S1x6144 : Shape := ⟨2, ![1, 6144]⟩
abbrev S256x128 : Shape := ⟨2, ![256, 128]⟩
abbrev S1024x6144 : Shape := ⟨2, ![1024, 6144]⟩
abbrev S8x128 : Shape := ⟨2, ![8, 128]⟩
abbrev S2x8x128 : Shape := ⟨3, ![2, 8, 128]⟩
abbrev S32x128 : Shape := ⟨2, ![32, 128]⟩
abbrev S32 : Shape := ⟨1, ![32]⟩
abbrev S32x1 : Shape := ⟨2, ![32, 1]⟩
abbrev S1x128 : Shape := ⟨2, ![1, 128]⟩
abbrev S128x128 : Shape := ⟨2, ![128, 128]⟩
abbrev S1024x256 : Shape := ⟨2, ![1024, 256]⟩
abbrev S128x8 : Shape := ⟨2, ![128, 8]⟩
abbrev S128x1 : Shape := ⟨2, ![128, 1]⟩
abbrev S16x8x128 : Shape := ⟨3, ![16, 8, 128]⟩
abbrev S1x8x128 : Shape := ⟨3, ![1, 8, 128]⟩
abbrev S128 : Shape := ⟨1, ![128]⟩

abbrev nBuf : Space → Nat
  | .hbm => 13
  | .vmem => 15
  | .smem => 0
  | _ => 0

abbrev bufTy : (tb : Table) → Fin (tcTables nBuf tb) → BufTy
  | .hbm, ⟨0, _⟩ => ⟨S2x128x6144, .bf16⟩
  | .hbm, ⟨1, _⟩ => ⟨S6144, .f32⟩
  | .hbm, ⟨2, _⟩ => ⟨S32768x6144, .fp8e4m3⟩
  | .hbm, ⟨3, _⟩ => ⟨S32768x1, .f32⟩
  | .hbm, ⟨4, _⟩ => ⟨S32768, .f32⟩
  | .hbm, ⟨5, _⟩ => ⟨S2x128, .i32⟩
  | .hbm, ⟨6, _⟩ => ⟨S256x6144, .bf16⟩
  | .hbm, ⟨7, _⟩ => ⟨S1x6144, .f32⟩
  | .hbm, ⟨8, _⟩ => ⟨S256x128, .f32⟩
  | .hbm, ⟨9, _⟩ => ⟨S256x128, .f32⟩
  | .hbm, ⟨10, _⟩ => ⟨S2x128, .f32⟩
  | .hbm, ⟨11, _⟩ => ⟨S256x6144, .fp8e4m3⟩
  | .hbm, ⟨12, _⟩ => ⟨S2x128, .f32⟩
  | .local _ .vmem, ⟨0, _⟩ => ⟨S256x6144, .bf16⟩
  | .local _ .vmem, ⟨1, _⟩ => ⟨S1x6144, .f32⟩
  | .local _ .vmem, ⟨2, _⟩ => ⟨S1024x6144, .fp8e4m3⟩
  | .local _ .vmem, ⟨3, _⟩ => ⟨S1024x6144, .fp8e4m3⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S2x128, .i32⟩
  | .local _ .vmem, ⟨9, _⟩ => ⟨S2x128, .f32⟩
  | .local _ .vmem, ⟨10, _⟩ => ⟨S256x6144, .fp8e4m3⟩
  | .local _ .vmem, ⟨11, _⟩ => ⟨S2x128, .f32⟩
  | .local _ .vmem, ⟨12, _⟩ => ⟨S256x128, .f32⟩
  | .local _ .vmem, ⟨13, _⟩ => ⟨S2x8x128, .f32⟩
  | .local _ .vmem, ⟨14, _⟩ => ⟨S2x8x128, .f32⟩
  | _, _ => ⟨S2x128x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_120 : BitVec 32 := 0#32
  let c8_i32 : BitVec 32 := 8#32
  let v461 : BitVec 32 := Scalar.addi c0_i32_120 c8_i32
  let c1_i32 : BitVec 32 := 1#32
  ⟨c0_i32_120, v461, c1_i32⟩
def k0_off1 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v480 : Index := Scalar.indexCast v478
  let c0_138 : Index := 0#32
  ![v480.toNat, 0]
def k0_off2 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v486 : Index := Scalar.indexCast v478
  let c128_139 : Index := 128#32
  ![v486.toNat, 128]
def k0_off3 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v492 : Index := Scalar.indexCast v478
  let c256 : Index := 256#32
  ![v492.toNat, 256]
def k0_off4 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v498 : Index := Scalar.indexCast v478
  let c384 : Index := 384#32
  ![v498.toNat, 384]
def k0_off5 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v504 : Index := Scalar.indexCast v478
  let c512 : Index := 512#32
  ![v504.toNat, 512]
def k0_off6 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v510 : Index := Scalar.indexCast v478
  let c640 : Index := 640#32
  ![v510.toNat, 640]
def k0_off7 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v516 : Index := Scalar.indexCast v478
  let c768 : Index := 768#32
  ![v516.toNat, 768]
def k0_off8 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v522 : Index := Scalar.indexCast v478
  let c896 : Index := 896#32
  ![v522.toNat, 896]
def k0_off9 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v528 : Index := Scalar.indexCast v478
  let c1024 : Index := 1024#32
  ![v528.toNat, 1024]
def k0_off10 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v534 : Index := Scalar.indexCast v478
  let c1152 : Index := 1152#32
  ![v534.toNat, 1152]
def k0_off11 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v540 : Index := Scalar.indexCast v478
  let c1280 : Index := 1280#32
  ![v540.toNat, 1280]
def k0_off12 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v546 : Index := Scalar.indexCast v478
  let c1408 : Index := 1408#32
  ![v546.toNat, 1408]
def k0_off13 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v552 : Index := Scalar.indexCast v478
  let c1536 : Index := 1536#32
  ![v552.toNat, 1536]
def k0_off14 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v558 : Index := Scalar.indexCast v478
  let c1664 : Index := 1664#32
  ![v558.toNat, 1664]
def k0_off15 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v564 : Index := Scalar.indexCast v478
  let c1792 : Index := 1792#32
  ![v564.toNat, 1792]
def k0_off16 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v570 : Index := Scalar.indexCast v478
  let c1920 : Index := 1920#32
  ![v570.toNat, 1920]
def k0_off17 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v576 : Index := Scalar.indexCast v478
  let c2048 : Index := 2048#32
  ![v576.toNat, 2048]
def k0_off18 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v582 : Index := Scalar.indexCast v478
  let c2176 : Index := 2176#32
  ![v582.toNat, 2176]
def k0_off19 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v588 : Index := Scalar.indexCast v478
  let c2304 : Index := 2304#32
  ![v588.toNat, 2304]
def k0_off20 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v594 : Index := Scalar.indexCast v478
  let c2432 : Index := 2432#32
  ![v594.toNat, 2432]
def k0_off21 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v600 : Index := Scalar.indexCast v478
  let c2560 : Index := 2560#32
  ![v600.toNat, 2560]
def k0_off22 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v606 : Index := Scalar.indexCast v478
  let c2688 : Index := 2688#32
  ![v606.toNat, 2688]
def k0_off23 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v612 : Index := Scalar.indexCast v478
  let c2816 : Index := 2816#32
  ![v612.toNat, 2816]
def k0_off24 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v618 : Index := Scalar.indexCast v478
  let c2944 : Index := 2944#32
  ![v618.toNat, 2944]
def k0_off25 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v624 : Index := Scalar.indexCast v478
  let c3072 : Index := 3072#32
  ![v624.toNat, 3072]
def k0_off26 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v630 : Index := Scalar.indexCast v478
  let c3200 : Index := 3200#32
  ![v630.toNat, 3200]
def k0_off27 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v636 : Index := Scalar.indexCast v478
  let c3328 : Index := 3328#32
  ![v636.toNat, 3328]
def k0_off28 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v642 : Index := Scalar.indexCast v478
  let c3456 : Index := 3456#32
  ![v642.toNat, 3456]
def k0_off29 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v648 : Index := Scalar.indexCast v478
  let c3584 : Index := 3584#32
  ![v648.toNat, 3584]
def k0_off30 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v654 : Index := Scalar.indexCast v478
  let c3712 : Index := 3712#32
  ![v654.toNat, 3712]
def k0_off31 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v660 : Index := Scalar.indexCast v478
  let c3840 : Index := 3840#32
  ![v660.toNat, 3840]
def k0_off32 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v666 : Index := Scalar.indexCast v478
  let c3968 : Index := 3968#32
  ![v666.toNat, 3968]
def k0_off33 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v672 : Index := Scalar.indexCast v478
  let c4096 : Index := 4096#32
  ![v672.toNat, 4096]
def k0_off34 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v678 : Index := Scalar.indexCast v478
  let c4224 : Index := 4224#32
  ![v678.toNat, 4224]
def k0_off35 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v684 : Index := Scalar.indexCast v478
  let c4352 : Index := 4352#32
  ![v684.toNat, 4352]
def k0_off36 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v690 : Index := Scalar.indexCast v478
  let c4480 : Index := 4480#32
  ![v690.toNat, 4480]
def k0_off37 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v696 : Index := Scalar.indexCast v478
  let c4608 : Index := 4608#32
  ![v696.toNat, 4608]
def k0_off38 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v702 : Index := Scalar.indexCast v478
  let c4736 : Index := 4736#32
  ![v702.toNat, 4736]
def k0_off39 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v708 : Index := Scalar.indexCast v478
  let c4864 : Index := 4864#32
  ![v708.toNat, 4864]
def k0_off40 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v714 : Index := Scalar.indexCast v478
  let c4992 : Index := 4992#32
  ![v714.toNat, 4992]
def k0_off41 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v720 : Index := Scalar.indexCast v478
  let c5120 : Index := 5120#32
  ![v720.toNat, 5120]
def k0_off42 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v726 : Index := Scalar.indexCast v478
  let c5248 : Index := 5248#32
  ![v726.toNat, 5248]
def k0_off43 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v732 : Index := Scalar.indexCast v478
  let c5376 : Index := 5376#32
  ![v732.toNat, 5376]
def k0_off44 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v738 : Index := Scalar.indexCast v478
  let c5504 : Index := 5504#32
  ![v738.toNat, 5504]
def k0_off45 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v744 : Index := Scalar.indexCast v478
  let c5632 : Index := 5632#32
  ![v744.toNat, 5632]
def k0_off46 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v750 : Index := Scalar.indexCast v478
  let c5760 : Index := 5760#32
  ![v750.toNat, 5760]
def k0_off47 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v756 : Index := Scalar.indexCast v478
  let c5888 : Index := 5888#32
  ![v756.toNat, 5888]
def k0_off48 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32 : BitVec 32 := 32#32
  let v478 : BitVec 32 := Scalar.muli arg13 c32_i32
  let v762 : Index := Scalar.indexCast v478
  let c6016 : Index := 6016#32
  ![v762.toNat, 6016]
def k0_off49 (k0_t1 : Fin k0_t1_loop.trips) : Fin 2 → Nat :=
  let c0_i32_120 : BitVec 32 := 0#32
  let c1_i32 : BitVec 32 := 1#32
  let arg13 : BitVec 32 := Scf.iv c0_i32_120 c1_i32 k0_t1
  let c32_i32_604 : BitVec 32 := 32#32
  let v2313 : BitVec 32 := Scalar.muli arg13 c32_i32_604
  let v2314 : Index := Scalar.indexCast v2313
  let c0_605 : Index := 0#32
  ![v2314.toNat, 0]
def k0_cond2 (i : grid0.Coords) : BitVec 1 :=
  let arg0 : BitVec 32 := BitVec.ofNat 32 (i 0).val
  let c31_i32 : BitVec 32 := 31#32
  let v458 : BitVec 1 := Scalar.cmpi .eq arg0 c31_i32
  let v459 : BitVec 32 := Scalar.extui v458
  let c0_i32_119 : BitVec 32 := 0#32
  let v460 : BitVec 1 := Scalar.cmpi .ne v459 c0_i32_119
  v460

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x6144 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x6144 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "inv_d" => some ((1 / 6144 : ℝ) : EReal)
  | "inv_softcap" => some ((1 / 30 : ℝ) : EReal)
  | "softcap_log2e" => some ((30 * (Real.log 2)⁻¹ : ℝ) : EReal)
  | _ => none
-- ==== ReferenceIdeal.lean ====
abbrev S2x128x6144 : Shape := ⟨3, ![2, 128, 6144]⟩
abbrev S6144 : Shape := ⟨1, ![6144]⟩
abbrev S32768x6144 : Shape := ⟨2, ![32768, 6144]⟩
abbrev S32768x1 : Shape := ⟨2, ![32768, 1]⟩
abbrev S32768 : Shape := ⟨1, ![32768]⟩
abbrev S2x128 : Shape := ⟨2, ![2, 128]⟩
abbrev S_ : Shape := ⟨0, ![]⟩
abbrev S2x128x1 : Shape := ⟨3, ![2, 128, 1]⟩
abbrev S1x1x6144 : Shape := ⟨3, ![1, 1, 6144]⟩
abbrev S256x1 : Shape := ⟨2, ![256, 1]⟩
abbrev S256x6144 : Shape := ⟨2, ![256, 6144]⟩
abbrev S256x32768 : Shape := ⟨2, ![256, 32768]⟩
abbrev S256 : Shape := ⟨1, ![256]⟩
abbrev S1x32768 : Shape := ⟨2, ![1, 32768]⟩
abbrev S256x1x1 : Shape := ⟨3, ![256, 1, 1]⟩
abbrev S1 : Shape := ⟨1, ![1]⟩
abbrev S1x1x1 : Shape := ⟨3, ![1, 1, 1]⟩

abbrev nBuf : Space → Nat
  | .hbm => 123
  | .vmem => 5
  | .smem => 0
  | _ => 0

abbrev bufTy : (tb : Table) → Fin (tcTables nBuf tb) → BufTy
  | .hbm, ⟨0, _⟩ => ⟨S2x128x6144, .bf16⟩
  | .hbm, ⟨1, _⟩ => ⟨S6144, .f32⟩
  | .hbm, ⟨2, _⟩ => ⟨S32768x6144, .fp8e4m3⟩
  | .hbm, ⟨3, _⟩ => ⟨S32768x1, .f32⟩
  | .hbm, ⟨4, _⟩ => ⟨S32768, .f32⟩
  | .hbm, ⟨5, _⟩ => ⟨S2x128, .i32⟩
  | .hbm, ⟨6, _⟩ => ⟨S2x128x6144, .f32⟩
  | .hbm, ⟨7, _⟩ => ⟨S2x128x6144, .f32⟩
  | .hbm, ⟨8, _⟩ => ⟨S_, .f32⟩
  | .hbm, ⟨9, _⟩ => ⟨S2x128, .f32⟩
  | .hbm, ⟨10, _⟩ => ⟨S2x128x1, .f32⟩
  | .hbm, ⟨11, _⟩ => ⟨S_, .f32⟩
  | .hbm, ⟨12, _⟩ => ⟨S2x128x1, .f32⟩
  | .hbm, ⟨13, _⟩ => ⟨S2x128x1, .f32⟩
  | .hbm, ⟨14, _⟩ => ⟨S_, .f32⟩
  | .hbm, ⟨15, _⟩ => ⟨S2x128x1, .f32⟩
  | .hbm, ⟨16, _⟩ => ⟨S2x128x1, .f32⟩
  | .hbm, ⟨17, _⟩ => ⟨S2x128x1, .f32⟩
  | .hbm, ⟨18, _⟩ => ⟨S2x128x6144, .f32⟩
  | .hbm, ⟨19, _⟩ => ⟨S2x128x6144, .f32⟩
  | .hbm, ⟨20, _⟩ => ⟨S1x1x6144, .f32⟩
  | .hbm, ⟨21, _⟩ => ⟨S2x128x6144, .f32⟩
  | .hbm, ⟨22, _⟩ => ⟨S2x128x6144, .f32⟩
  | .hbm, ⟨23, _⟩ => ⟨S2x128x6144, .f32⟩
  | .hbm, ⟨24, _⟩ => ⟨S_, .f32⟩
  | .hbm, ⟨25, _⟩ => ⟨S2x128, .f32⟩
  | .hbm, ⟨26, _⟩ => ⟨S2x128x1, .f32⟩
  | .hbm, ⟨27, _⟩ => ⟨S_, .f32⟩
  | .hbm, ⟨28, _⟩ => ⟨S2x128x1, .f32⟩
  | .hbm, ⟨29, _⟩ => ⟨S2x128x1, .f32⟩
  | .hbm, ⟨30, _⟩ => ⟨S_, .f32⟩
  | .hbm, ⟨31, _⟩ => ⟨S2x128x1, .f32⟩
  | .hbm, ⟨32, _⟩ => ⟨S2x128x1, .i1⟩
  | .hbm, ⟨33, _⟩ => ⟨S_, .f32⟩
  | .hbm, ⟨34, _⟩ => ⟨S_, .f32⟩
  | .hbm, ⟨35, _⟩ => ⟨S2x128x1, .f32⟩
  | .hbm, ⟨36, _⟩ => ⟨S2x128x1, .f32⟩
  | .hbm, ⟨37, _⟩ => ⟨S_, .f32⟩
  | .hbm, ⟨38, _⟩ => ⟨S2x128x1, .f32⟩
  | .hbm, ⟨39, _⟩ => ⟨S2x128x1, .i1⟩
  | .hbm, ⟨40, _⟩ => ⟨S2x128x1, .f32⟩
  | .hbm, ⟨41, _⟩ => ⟨S_, .f32⟩
  | .hbm, ⟨42, _⟩ => ⟨S2x128x1, .f32⟩
  | .hbm, ⟨43, _⟩ => ⟨S2x128x1, .f32⟩
  | .hbm, ⟨44, _⟩ => ⟨S2x128x1, .f32⟩
  | .hbm, ⟨45, _⟩ => ⟨S2x128x1, .f32⟩
  | .hbm, ⟨46, _⟩ => ⟨S_, .f32⟩
  | .hbm, ⟨47, _⟩ => ⟨S2x128x1, .f32⟩
  | .hbm, ⟨48, _⟩ => ⟨S2x128x1, .f32⟩
  | .hbm, ⟨49, _⟩ => ⟨S_, .f32⟩
  | .hbm, ⟨50, _⟩ => ⟨S_, .f32⟩
  | .hbm, ⟨51, _⟩ => ⟨S2x128x1, .f32⟩
  | .hbm, ⟨52, _⟩ => ⟨S2x128x1, .f32⟩
  | .hbm, ⟨53, _⟩ => ⟨S_, .f32⟩
  | .hbm, ⟨54, _⟩ => ⟨S2x128x1, .f32⟩
  | .hbm, ⟨55, _⟩ => ⟨S2x128x1, .f32⟩
  | .hbm, ⟨56, _⟩ => ⟨S256x1, .f32⟩
  | .hbm, ⟨57, _⟩ => ⟨S2x128x1, .f32⟩
  | .hbm, ⟨58, _⟩ => ⟨S_, .f32⟩
  | .hbm, ⟨59, _⟩ => ⟨S2x128x1, .f32⟩
  | .hbm, ⟨60, _⟩ => ⟨S2x128x1, .f32⟩
  | .hbm, ⟨61, _⟩ => ⟨S256x1, .f32⟩
  | .hbm, ⟨62, _⟩ => ⟨S256x6144, .f32⟩
  | .hbm, ⟨63, _⟩ => ⟨S256x6144, .fp8e4m3⟩
  | .hbm, ⟨64, _⟩ => ⟨S256x32768, .f32⟩
  | .hbm, ⟨65, _⟩ => ⟨S256, .i32⟩
  | .hbm, ⟨66, _⟩ => ⟨S32768, .f32⟩
  | .hbm, ⟨67, _⟩ => ⟨S1x32768, .f32⟩
  | .hbm, ⟨68, _⟩ => ⟨S256x32768, .f32⟩
  | .hbm, ⟨69, _⟩ => ⟨S256x32768, .f32⟩
  | .hbm, ⟨70, _⟩ => ⟨S256x32768, .f32⟩
  | .hbm, ⟨71, _⟩ => ⟨S256x32768, .f32⟩
  | .hbm, ⟨72, _⟩ => ⟨S1x32768, .f32⟩
  | .hbm, ⟨73, _⟩ => ⟨S256x32768, .f32⟩
  | .hbm, ⟨74, _⟩ => ⟨S256x32768, .f32⟩
  | .hbm, ⟨75, _⟩ => ⟨S_, .f32⟩
  | .hbm, ⟨76, _⟩ => ⟨S256x32768, .f32⟩
  | .hbm, ⟨77, _⟩ => ⟨S256x32768, .f32⟩
  | .hbm, ⟨78, _⟩ => ⟨S256x32768, .f32⟩
  | .hbm, ⟨79, _⟩ => ⟨S_, .f32⟩
  | .hbm, ⟨80, _⟩ => ⟨S256x32768, .f32⟩
  | .hbm, ⟨81, _⟩ => ⟨S256x32768, .f32⟩
  | .hbm, ⟨82, _⟩ => ⟨S_, .f32⟩
  | .hbm, ⟨83, _⟩ => ⟨S256, .f32⟩
  | .hbm, ⟨84, _⟩ => ⟨S256x1, .f32⟩
  | .hbm, ⟨85, _⟩ => ⟨S256, .f32⟩
  | .hbm, ⟨86, _⟩ => ⟨S256x32768, .f32⟩
  | .hbm, ⟨87, _⟩ => ⟨S256x32768, .f32⟩
  | .hbm, ⟨88, _⟩ => ⟨S256x32768, .f32⟩
  | .hbm, ⟨89, _⟩ => ⟨S_, .f32⟩
  | .hbm, ⟨90, _⟩ => ⟨S256, .f32⟩
  | .hbm, ⟨91, _⟩ => ⟨S256, .f32⟩
  | .hbm, ⟨92, _⟩ => ⟨S256, .f32⟩
  | .hbm, ⟨93, _⟩ => ⟨S256x1, .i32⟩
  | .hbm, ⟨94, _⟩ => ⟨S_, .i32⟩
  | .hbm, ⟨95, _⟩ => ⟨S256x1, .i32⟩
  | .hbm, ⟨96, _⟩ => ⟨S256x1, .i1⟩
  | .hbm, ⟨97, _⟩ => ⟨S_, .i32⟩
  | .hbm, ⟨98, _⟩ => ⟨S256x1, .i32⟩
  | .hbm, ⟨99, _⟩ => ⟨S256x1, .i32⟩
  | .hbm, ⟨100, _⟩ => ⟨S256x1, .i32⟩
  | .hbm, ⟨101, _⟩ => ⟨S256x1x1, .i32⟩
  | .hbm, ⟨102, _⟩ => ⟨S1, .i32⟩
  | .hbm, ⟨103, _⟩ => ⟨S_, .i32⟩
  | .hbm, ⟨104, _⟩ => ⟨S256x1x1, .i32⟩
  | .hbm, ⟨105, _⟩ => ⟨S256x1x1, .i1⟩
  | .hbm, ⟨106, _⟩ => ⟨S1x1x1, .i32⟩
  | .hbm, ⟨107, _⟩ => ⟨S256x1x1, .i32⟩
  | .hbm, ⟨108, _⟩ => ⟨S256x1x1, .i1⟩
  | .hbm, ⟨109, _⟩ => ⟨S256x1x1, .i1⟩
  | .hbm, ⟨110, _⟩ => ⟨S_, .i1⟩
  | .hbm, ⟨111, _⟩ => ⟨S256x1, .i1⟩
  | .hbm, ⟨112, _⟩ => ⟨S256x1, .f32⟩
  | .hbm, ⟨113, _⟩ => ⟨S_, .f32⟩
  | .hbm, ⟨114, _⟩ => ⟨S256x1, .f32⟩
  | .hbm, ⟨115, _⟩ => ⟨S256x1, .f32⟩
  | .hbm, ⟨116, _⟩ => ⟨S256, .f32⟩
  | .hbm, ⟨117, _⟩ => ⟨S256, .f32⟩
  | .hbm, ⟨118, _⟩ => ⟨S_, .f32⟩
  | .hbm, ⟨119, _⟩ => ⟨S256, .f32⟩
  | .hbm, ⟨120, _⟩ => ⟨S256, .f32⟩
  | .hbm, ⟨121, _⟩ => ⟨S2x128, .f32⟩
  | .hbm, ⟨122, _⟩ => ⟨S2x128, .f32⟩
  | .local _ .vmem, ⟨0, _⟩ => ⟨S256x6144, .f32⟩
  | .local _ .vmem, ⟨1, _⟩ => ⟨S256x1, .f32⟩
  | .local _ .vmem, ⟨2, _⟩ => ⟨S32768x6144, .fp8e4m3⟩
  | .local _ .vmem, ⟨3, _⟩ => ⟨S256x6144, .fp8e4m3⟩
  | .local _ .vmem, ⟨4, _⟩ => ⟨S256x32768, .f32⟩
  | _, _ => ⟨S2x128x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_call0_v0 : Ref sig .tc := ⟨.hbm, 34, rfl⟩
abbrev main_call0_v1 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_call1_v0 : Ref sig .tc := ⟨.hbm, 50, rfl⟩
abbrev main_call1_v1 : Ref sig .tc := ⟨.hbm, 51, rfl⟩
abbrev main_v31 : Ref sig .tc := ⟨.hbm, 52, rfl⟩
abbrev main_cst_10 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_11 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40_0 : Ref sig .tc := ⟨.hbm, 63, rfl⟩
abbrev main_v40_1 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_12 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_13 : Ref sig .tc := ⟨.hbm, 79, rfl⟩
abbrev main_v54 : Ref sig .tc := ⟨.hbm, 80, rfl⟩
abbrev main_v55 : Ref sig .tc := ⟨.hbm, 81, rfl⟩
abbrev main_cst_14 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_15 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_call2_c : Ref sig .tc := ⟨.hbm, 94, rfl⟩
abbrev main_call2_v0 : Ref sig .tc := ⟨.hbm, 95, rfl⟩
abbrev main_call2_v1 : Ref sig .tc := ⟨.hbm, 96, rfl⟩
abbrev main_call2_c_0 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_v5 : Ref sig .tc := ⟨.hbm, 101, rfl⟩
abbrev main_call2_c_1 : Ref sig .tc := ⟨.hbm, 102, rfl⟩
abbrev main_call2_c_2 : Ref sig .tc := ⟨.hbm, 103, rfl⟩
abbrev main_call2_v6 : Ref sig .tc := ⟨.hbm, 104, rfl⟩
abbrev main_call2_v7 : Ref sig .tc := ⟨.hbm, 105, rfl⟩
abbrev main_call2_v8 : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_call2_c_3 : Ref sig .tc := ⟨.hbm, 110, rfl⟩
abbrev main_call2_v12 : Ref sig .tc := ⟨.hbm, 111, rfl⟩
abbrev main_call2_v13 : Ref sig .tc := ⟨.hbm, 112, rfl⟩
abbrev main_call2_cst : Ref sig .tc := ⟨.hbm, 113, rfl⟩
abbrev main_call2_v14 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_cst_16 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768x6144 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x6144 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x32768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.RunsKernel.lean ====
module

public import proofs.«01_k».proof.Proof.Gen.Kernel.Frame
public import proofs.«01_k».proof.Proof.Gen.Kernel.Loops

/-! # What the runs of the kernel body share

The two conditions of the body in closed form (the first grid point; the last grid point), where the three output
windows are stored into and written back, and the names of the memrefs the body is handed. -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, k0_cond1, e0]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_1, k0_cond2, e0]
    word_cmp
   : ∀ t : Fin grid0.N, cond0_1 (grid0.coords t) ↔ t.val % 32 = 31)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cfg0.idle 6 (grid0.coords t) = false := by decide +kernel

/-- At the first point the body stores into output 7. -/
theorem liveAt0_7_A : ∀ t : Fin cfg0.N, cond0_0 (grid0.coords t) → ¬cond0_1 (grid0.coords t) → cfg0.idle 7 (grid0.coords t) = false := by decide +kernel
/-- At every later point the body leaves output 7 alone. -/
theorem idleAt0_7 : ∀ t : Fin cfg0.N, ¬cond0_0 (grid0.coords t) → cfg0.idle 7 (grid0.coords t) = true := by decide +kernel
/-- Before the last point output 7's block is not written back. -/
theorem noFlush0_7 : ∀ t : Fin cfg0.N, ¬cond0_1 (grid0.coords t) → (cfg0.win 7).flush t = false := by decide +kernel
/-- At the last point output 7's block is written back. -/
theorem flushAt0_7 : ∀ t : Fin cfg0.N, cond0_1 (grid0.coords t) → (cfg0.win 7).flush t = true := by decide +kernel
/-- At the first point the body stores into output 8. -/
theorem liveAt0_8_A : ∀ t : Fin cfg0.N, cond0_0 (grid0.coords t) → ¬cond0_1 (grid0.coords t) → cfg0.idle 8 (grid0.coords t) = false := by decide +kernel
/-- At every later point the body leaves output 8 alone. -/
theorem idleAt0_8 : ∀ t : Fin cfg0.N, ¬cond0_0 (grid0.coords t) → cfg0.idle 8 (grid0.coords t) = true := by decide +kernel
/-- Before the last point output 8's block is not written back. -/
theorem noFlush0_8 : ∀ t : Fin cfg0.N, ¬cond0_1 (grid0.coords t) → (cfg0.win 8).flush t = false := by decide +kernel
/-- At the last point output 8's block is written back. -/
theorem flushAt0_8 : ∀ t : Fin cfg0.N, cond0_1 (grid0.coords t) → (cfg0.win 8).flush t = true := by decide +kernel

/-! ## The kernel body on any staging memrefs: a subtype the run finds -/

/-- One staging buffer of output window 6, through which its contents are stated (`View.read_writes_of_cover`: the
    choice does not matter). -/
abbrev VO0_6 : View sig .tc .vmem S2x128 .f32 := (Memref.whole cc0_stg6_0 : Memref sig .tc .vmem S2x128 .f32).view
abbrev VO0_7 : View sig .tc .vmem S256x6144 .fp8e4m3 := (Memref.whole cc0_stg7_0 : Memref sig .tc .vmem S256x6144 .fp8e4m3).view
abbrev VO0_8 : View sig .tc .vmem S2x128 .f32 := (Memref.whole cc0_stg8_0 : Memref sig .tc .vmem S2x128 .f32).view
/-- Each window's current staging memref at point `t`, spelled as the pipeline passes it (`bodyAt0`), and its wholeness. -/
abbrev ms0_0 (t : Fin cfg0.N) : Memref sig .tc .vmem S256x6144 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x6144 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x6144 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x128 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x6144 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x128 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_2 : Memref sig .tc .vmem S256x128 .f32 := Memref.whole cc0_scratch0
abbrev scM0_3 : Memref sig .tc .vmem S2x8x128 .f32 := Memref.whole cc0_scratch1
abbrev scM0_4 : Memref sig .tc .vmem S2x8x128 .f32 := Memref.whole cc0_scratch2
/-- The scratch the kernel carries between points, as views: what they hold is stated through them. -/
abbrev VS0_3 : View sig .tc .vmem S2x8x128 .f32 := scM0_3.view
abbrev VS0_4 : View sig .tc .vmem S2x8x128 .f32 := scM0_4.view

/-- The scratch buffers and the generator, as memrefs owned at some contents: what the body obligation hands the run
    and takes back. -/
theorem PhiA0_eq (c : Dev nD) :
    (Pipeline.ΦA spec0 c : sProp (MT nD τ sig Unit (Elt F) ℕ (UR sig nD τ) ℕ))
      = iprop(iprop((∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_2, scM0_3, scM0_4, owns_whole]; try rfl

end Cert.Kernel.Gen

end
-- ==== Proof.RunKernelA.lean ====
module

public import proofs.«01_k».proof.Proof.RunsKernel

/-! # The kernel body at the first grid point -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 1000000 in
/-- The body's run at the first grid point: the rows are normalised and quantised, the two accumulators are cleared, and the first vocabulary block is added.
    The lists are the pieces stored into the three output blocks and the two carried accumulators, last first; the
    second component says that from whole memrefs the body runs to its end with those pieces written. -/
noncomputable def kernelRun0_A (c : Dev nD) (i : grid0.Coords) (arg1 : Memref sig .tc .vmem S256x6144 .bf16) (harg1 : arg1.IsWhole) (arg2 : Memref sig .tc .vmem S1x6144 .f32) (harg2 : arg2.IsWhole) (arg3 : Memref sig .tc .vmem S1024x6144 .fp8e4m3) (harg3 : arg3.IsWhole) (arg4 : Memref sig .tc .vmem S8x128 .f32) (harg4 : arg4.IsWhole) (arg5 : Memref sig .tc .vmem S8x128 .f32) (harg5 : arg5.IsWhole) (arg6 : Memref sig .tc .vmem S2x128 .i32) (harg6 : arg6.IsWhole) (arg7 : Memref sig .tc .vmem S2x128 .f32) (harg7 : arg7.IsWhole) (arg8 : Memref sig .tc .vmem S256x6144 .fp8e4m3) (harg8 : arg8.IsWhole) (arg9 : Memref sig .tc .vmem S2x128 .f32) (harg9 : arg9.IsWhole) (arg10 : Memref sig .tc .vmem S256x128 .f32) (harg10 : arg10.IsWhole) (arg11 : Memref sig .tc .vmem S2x8x128 .f32) (harg11 : arg11.IsWhole) (arg12 : Memref sig .tc .vmem S2x8x128 .f32) (harg12 : arg12.IsWhole) (hc0 : cond0_0 i) (hc1 : ¬cond0_1 i)
    (x0 : Vec F S256x6144 .bf16) (x1 : Vec F S1x6144 .f32) (x2 : Vec F S1024x6144 .fp8e4m3) (x3 : Vec F S8x128 .f32) (x4 : Vec F S8x128 .f32) (x5 : Vec F S2x128 .i32) :
    Σ' (L6 : List (View.Piece (Elt F) S2x128 .f32)), Σ' (LS0 : List (View.Piece (Elt F) S256x6144 .fp8e4m3)), Σ' (LS1 : List (View.Piece (Elt F) S2x128 .f32)), Σ' (LS3 : List (View.Piece (Elt F) S2x8x128 .f32)), { LS4 : List (View.Piece (Elt F) S2x8x128 .f32) //
      ∀ (xi6 : Vec F S2x128 .f32) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ d, owns (c : Thread nD τ) arg10 fullShare d) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4)) -∗ K ⟨⟩))
          ⊢ wp frame (wpE (defs₀ (F := F)) Variants.none c none) E (cc0_head_xent i arg1 harg1 arg2 harg2 arg3 harg3 arg4 harg4 arg5 harg5 arg6 harg6 arg7 harg7 arg8 harg8 arg9 harg9 arg10 harg10 arg11 harg11 arg12 harg12) K } := by
  refine ⟨[], ?_, ?_, ?_, ?_, fun xi6 E K => ?run⟩
  case run =>
    simp only [cc0_head_xent_eq_skeleton]; unfold cc0_head_xent_skel
    simp only [k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    have hrd0 : ∀ (𝒱 : Variants) (c : Dev nD) (bd : Option 𝒱.V) (i : grid0.Coords) (arg1 : Memref sig .tc .vmem S256x6144 .bf16) (harg1 : arg1.IsWhole) (arg2 : Memref sig .tc .vmem S1x6144 .f32) (harg2 : arg2.IsWhole) (arg3 : Memref sig .tc .vmem S1024x6144 .fp8e4m3) (harg3 : arg3.IsWhole) (arg4 : Memref sig .tc .vmem S8x128 .f32) (harg4 : arg4.IsWhole) (arg5 : Memref sig .tc .vmem S8x128 .f32) (harg5 : arg5.IsWhole) (arg6 : Memref sig .tc .vmem S2x128 .i32) (harg6 : arg6.IsWhole) (arg7 : Memref sig .tc .vmem S2x128 .f32) (harg7 : arg7.IsWhole) (arg8 : Memref sig .tc .vmem S256x6144 .fp8e4m3) (harg8 : arg8.IsWhole) (arg9 : Memref sig .tc .vmem S2x128 .f32) (harg9 : arg9.IsWhole) (arg10 : Memref sig .tc .vmem S256x128 .f32) (harg10 : arg10.IsWhole) (arg11 : Memref sig .tc .vmem S2x8x128 .f32) (harg11 : arg11.IsWhole) (arg12 : Memref sig .tc .vmem S2x8x128 .f32) (harg12 : arg12.IsWhole) (k0_h1 : k0_cond1 i = 1#1) (X_arg1 : BufTy.Contents (Elt F) arg1.view.ty) (X_arg2 : BufTy.Contents (Elt F) arg2.view.ty) (hrdF : BufTy.Contents (Elt F) arg10.view.ty) (hrdB : LoadRect S256x128), arg10.view.readAt (Elt F) hrdB (arg10.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 (Scf.trips k0_t1_loop.lb k0_t1_loop.ub k0_t1_loop.st)).2) = arg10.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 (Scf.trips k0_t1_loop.lb k0_t1_loop.ub k0_t1_loop.st)).2 hrdB := fun 𝒱 c bd i arg1 harg1 arg2 harg2 arg3 harg3 arg4 harg4 arg5 harg5 arg6 harg6 arg7 harg7 arg8 harg8 arg9 harg9 arg10 harg10 arg11 harg11 arg12 harg12 k0_h1 X_arg1 X_arg2 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 (Scf.trips k0_t1_loop.lb k0_t1_loop.ub k0_t1_loop.st)).2 S32x128.size (by sl_kernel_rfl) (hrdB.idx hrdJ))
    have hrd1 : ∀ (𝒱 : Variants) (c : Dev nD) (bd : Option 𝒱.V) (i : grid0.Coords) (arg1 : Memref sig .tc .vmem S256x6144 .bf16) (harg1 : arg1.IsWhole) (arg2 : Memref sig .tc .vmem S1x6144 .f32) (harg2 : arg2.IsWhole) (arg3 : Memref sig .tc .vmem S1024x6144 .fp8e4m3) (harg3 : arg3.IsWhole) (arg4 : Memref sig .tc .vmem S8x128 .f32) (harg4 : arg4.IsWhole) (arg5 : Memref sig .tc .vmem S8x128 .f32) (harg5 : arg5.IsWhole) (arg6 : Memref sig .tc .vmem S2x128 .i32) (harg6 : arg6.IsWhole) (arg7 : Memref sig .tc .vmem S2x128 .f32) (harg7 : arg7.IsWhole) (arg8 : Memref sig .tc .vmem S256x6144 .fp8e4m3) (harg8 : arg8.IsWhole) (arg9 : Memref sig .tc .vmem S2x128 .f32) (harg9 : arg9.IsWhole) (arg10 : Memref sig .tc .vmem S256x128 .f32) (harg10 : arg10.IsWhole) (arg11 : Memref sig .tc .vmem S2x8x128 .f32) (harg11 : arg11.IsWhole) (arg12 : Memref sig .tc .vmem S2x8x128 .f32) (harg12 : arg12.IsWhole) (k0_h1 : k0_cond1 i = 1#1) (X_arg1 : BufTy.Contents (Elt F) arg1.view.ty) (X_arg2 : BufTy.Contents (Elt F) arg2.view.ty) (hrdF : BufTy.Contents (Elt F) arg8.view.ty) (hrdB : LoadRect S256x6144), arg8.view.readAt (Elt F) hrdB (arg8.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 (Scf.trips k0_t1_loop.lb k0_t1_loop.ub k0_t1_loop.st)).1) = arg8.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 (Scf.trips k0_t1_loop.lb k0_t1_loop.ub k0_t1_loop.st)).1 hrdB := fun 𝒱 c bd i arg1 harg1 arg2 harg2 arg3 harg3 arg4 harg4 arg5 harg5 arg6 harg6 arg7 harg7 arg8 harg8 arg9 harg9 arg10 harg10 arg11 harg11 arg12 harg12 k0_h1 X_arg1 X_arg2 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 (Scf.trips k0_t1_loop.lb k0_t1_loop.ub k0_t1_loop.st)).1 S32x128.size (by sl_kernel_rfl) (hrdB.idx hrdJ))
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    isplitl [HS1]; · iexists _; iexact HS1
    isplitl [HS2]
    · iexists _, _; isplitr; swap; · iexact HS2
      ipureintro; rfl
    isplitl [HS3]; · iexists _; iexact HS3
    iexists _; iexact HS4

end Cert.Kernel.Gen

end
-- ==== Proof.RunKernelB.lean ====
module

public import proofs.«01_k».proof.Proof.RunKernelA

/-! # The kernel body at a grid point strictly between the first and the last -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1600000 in
/-- The body's run at a grid point strictly between the first and the last: one vocabulary block is added to the two accumulators.
    The lists are the pieces stored into the three output blocks and the two carried accumulators, last first; the
    second component says that from whole memrefs the body runs to its end with those pieces written. -/
noncomputable def kernelRun0_B (c : Dev nD) (i : grid0.Coords) (arg1 : Memref sig .tc .vmem S256x6144 .bf16) (harg1 : arg1.IsWhole) (arg2 : Memref sig .tc .vmem S1x6144 .f32) (harg2 : arg2.IsWhole) (arg3 : Memref sig .tc .vmem S1024x6144 .fp8e4m3) (harg3 : arg3.IsWhole) (arg4 : Memref sig .tc .vmem S8x128 .f32) (harg4 : arg4.IsWhole) (arg5 : Memref sig .tc .vmem S8x128 .f32) (harg5 : arg5.IsWhole) (arg6 : Memref sig .tc .vmem S2x128 .i32) (harg6 : arg6.IsWhole) (arg7 : Memref sig .tc .vmem S2x128 .f32) (harg7 : arg7.IsWhole) (arg8 : Memref sig .tc .vmem S256x6144 .fp8e4m3) (harg8 : arg8.IsWhole) (arg9 : Memref sig .tc .vmem S2x128 .f32) (harg9 : arg9.IsWhole) (arg10 : Memref sig .tc .vmem S256x128 .f32) (harg10 : arg10.IsWhole) (arg11 : Memref sig .tc .vmem S2x8x128 .f32) (harg11 : arg11.IsWhole) (arg12 : Memref sig .tc .vmem S2x8x128 .f32) (harg12 : arg12.IsWhole) (hc0 : ¬cond0_0 i) (hc1 : ¬cond0_1 i)
    (x0 : Vec F S256x6144 .bf16) (x1 : Vec F S1x6144 .f32) (x2 : Vec F S1024x6144 .fp8e4m3) (x3 : Vec F S8x128 .f32) (x4 : Vec F S8x128 .f32) (x5 : Vec F S2x128 .i32) (xs0 : Vec F S256x6144 .fp8e4m3) (xs1 : Vec F S2x128 .f32) (xs3 : Vec F S2x8x128 .f32) (xs4 : Vec F S2x8x128 .f32) :
    Σ' (L6 : List (View.Piece (Elt F) S2x128 .f32)), Σ' (LS0 : List (View.Piece (Elt F) S256x6144 .fp8e4m3)), Σ' (LS1 : List (View.Piece (Elt F) S2x128 .f32)), Σ' (LS3 : List (View.Piece (Elt F) S2x8x128 .f32)), { LS4 : List (View.Piece (Elt F) S2x8x128 .f32) //
      ∀ (xi6 : Vec F S2x128 .f32) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0 ∗ owns (c : Thread nD τ) arg9 fullShare xs1 ∗ (∃ d, owns (c : Thread nD τ) arg10 fullShare d) ∗ owns (c : Thread nD τ) arg11 fullShare xs3 ∗ owns (c : Thread nD τ) arg12 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0 ∗ owns (c : Thread nD τ) arg9 fullShare xs1 ∗ (∃ d, owns (c : Thread nD τ) arg10 fullShare d) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4)) -∗ K ⟨⟩))
          ⊢ wp frame (wpE (defs₀ (F := F)) Variants.none c none) E (cc0_head_xent i arg1 harg1 arg2 harg2 arg3 harg3 arg4 harg4 arg5 harg5 arg6 harg6 arg7 harg7 arg8 harg8 arg9 harg9 arg10 harg10 arg11 harg11 arg12 harg12) K } := by
  refine ⟨[], [], [], ?_, ?_, fun xi6 E K => ?run⟩
  case run =>
    simp only [cc0_head_xent_eq_skeleton]; unfold cc0_head_xent_skel
    simp only [k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%ds2, %fs2, -, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1; obtain rfl := harg11.eq_unread hfs3; obtain rfl := harg12.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]
    · iexists _; isplitr; · ipureintro; exact harg8.read_unread _
      iexact HS0
    isplitl [HS1]
    · iexists _; isplitr; · ipureintro; exact harg9.read_unread _
      iexact HS1
    isplitl [HS2]
    · iexists _, _; isplitr; swap; · iexact HS2
      ipureintro; rfl
    isplitl [HS3]; · iexists _; iexact HS3
    iexists _; iexact HS4

end Cert.Kernel.Gen

end
-- ==== Proof.RunKernelC.lean ====
module

public import proofs.«01_k».proof.Proof.RunKernelB

/-! # The kernel body at the last grid point -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1600000 in
/-- The body's run at the last grid point: one vocabulary block is added to the two accumulators and the loss is stored.
    The lists are the pieces stored into the three output blocks and the two carried accumulators, last first; the
    second component says that from whole memrefs the body runs to its end with those pieces written. -/
noncomputable def kernelRun0_C (c : Dev nD) (i : grid0.Coords) (arg1 : Memref sig .tc .vmem S256x6144 .bf16) (harg1 : arg1.IsWhole) (arg2 : Memref sig .tc .vmem S1x6144 .f32) (harg2 : arg2.IsWhole) (arg3 : Memref sig .tc .vmem S1024x6144 .fp8e4m3) (harg3 : arg3.IsWhole) (arg4 : Memref sig .tc .vmem S8x128 .f32) (harg4 : arg4.IsWhole) (arg5 : Memref sig .tc .vmem S8x128 .f32) (harg5 : arg5.IsWhole) (arg6 : Memref sig .tc .vmem S2x128 .i32) (harg6 : arg6.IsWhole) (arg7 : Memref sig .tc .vmem S2x128 .f32) (harg7 : arg7.IsWhole) (arg8 : Memref sig .tc .vmem S256x6144 .fp8e4m3) (harg8 : arg8.IsWhole) (arg9 : Memref sig .tc .vmem S2x128 .f32) (harg9 : arg9.IsWhole) (arg10 : Memref sig .tc .vmem S256x128 .f32) (harg10 : arg10.IsWhole) (arg11 : Memref sig .tc .vmem S2x8x128 .f32) (harg11 : arg11.IsWhole) (arg12 : Memref sig .tc .vmem S2x8x128 .f32) (harg12 : arg12.IsWhole) (hc0 : ¬cond0_0 i) (hc1 : cond0_1 i)
    (x0 : Vec F S256x6144 .bf16) (x1 : Vec F S1x6144 .f32) (x2 : Vec F S1024x6144 .fp8e4m3) (x3 : Vec F S8x128 .f32) (x4 : Vec F S8x128 .f32) (x5 : Vec F S2x128 .i32) (xs0 : Vec F S256x6144 .fp8e4m3) (xs1 : Vec F S2x128 .f32) (xs3 : Vec F S2x8x128 .f32) (xs4 : Vec F S2x8x128 .f32) :
    Σ' (L6 : List (View.Piece (Elt F) S2x128 .f32)), Σ' (LS0 : List (View.Piece (Elt F) S256x6144 .fp8e4m3)), Σ' (LS1 : List (View.Piece (Elt F) S2x128 .f32)), Σ' (LS3 : List (View.Piece (Elt F) S2x8x128 .f32)), { LS4 : List (View.Piece (Elt F) S2x8x128 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1 ∗ (∃ d, owns (c : Thread nD τ) arg10 fullShare d) ∗ owns (c : Thread nD τ) arg11 fullShare xs3 ∗ owns (c : Thread nD τ) arg12 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xs0 ∗ owns (c : Thread nD τ) arg9 fullShare xs1 ∗ (∃ d, owns (c : Thread nD τ) arg10 fullShare d) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4)) -∗ K ⟨⟩))
          ⊢ wp frame (wpE (defs₀ (F := F)) Variants.none c none) E (cc0_head_xent i arg1 harg1 arg2 harg2 arg3 harg3 arg4 harg4 arg5 harg5 arg6 harg6 arg7 harg7 arg8 harg8 arg9 harg9 arg10 harg10 arg11 harg11 arg12 harg12) K } := by
  refine ⟨?_, [], [], ?_, ?_, fun E K => ?run⟩
  case run =>
    simp only [cc0_head_xent_eq_skeleton]; unfold cc0_head_xent_skel
    simp only [k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%ds2, %fs2, -, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1; obtain rfl := harg11.eq_unread hfs3; obtain rfl := harg12.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]
    · iexists _; isplitr; · ipureintro; exact harg8.read_unread _
      iexact HS0
    isplitl [HS1]
    · iexists _; isplitr; · ipureintro; exact harg9.read_unread _
      iexact HS1
    isplitl [HS2]
    · iexists _, _; isplitr; swap; · iexact HS2
      ipureintro; rfl
    isplitl [HS3]; · iexists _; iexact HS3
    iexists _; iexact HS4

end Cert.Kernel.Gen

end
-- ==== Proof.FrameKernel.lean ====
module

public import proofs.«01_k».proof.Proof.RunKernelC
public import Idealize.ShloMosaic.Lib.Claim
public import Idealize.ShloMosaic.Lib.Pipeline.TableIdle

/-! # The frame of the kernel

What the output blocks and the carried accumulators hold after each grid point, the pipeline's proof data over them,
the body's triple at a generic point, and from these the run of the program: it terminates, leaves its arguments and
every counter alone, and ends with each output array at what the proof data says. -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The runs at a grid point's memrefs and blocks -/

/-- The body's run at the first point. -/
abbrev runA (c : Dev nD) (t : Fin cfg0.N) (h0 : cond0_0 (grid0.coords t)) (h1 : ¬cond0_1 (grid0.coords t)) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_2 (Memref.isWhole_whole _) scM0_3 (Memref.isWhole_whole _) scM0_4 (Memref.isWhole_whole _) h0 h1 (iblk m c 0 t) (iblk m c 1 t) (iblk m c 2 t) (iblk m c 3 t) (iblk m c 4 t) (iblk m c 5 t)

/-- The body's run at a point strictly between the first and the last. -/
abbrev runB (c : Dev nD) (t : Fin cfg0.N) (h0 : ¬cond0_0 (grid0.coords t)) (h1 : ¬cond0_1 (grid0.coords t)) (xs0 : Vec F S256x6144 .fp8e4m3) (xs1 : Vec F S2x128 .f32) (xs3 : Vec F S2x8x128 .f32) (xs4 : Vec F S2x8x128 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_2 (Memref.isWhole_whole _) scM0_3 (Memref.isWhole_whole _) scM0_4 (Memref.isWhole_whole _) h0 h1 (iblk m c 0 t) (iblk m c 1 t) (iblk m c 2 t) (iblk m c 3 t) (iblk m c 4 t) (iblk m c 5 t) xs0 xs1 xs3 xs4

/-- The body's run at the last point. -/
abbrev runC (c : Dev nD) (t : Fin cfg0.N) (h0 : ¬cond0_0 (grid0.coords t)) (h1 : cond0_1 (grid0.coords t)) (xs0 : Vec F S256x6144 .fp8e4m3) (xs1 : Vec F S2x128 .f32) (xs3 : Vec F S2x8x128 .f32) (xs4 : Vec F S2x8x128 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_2 (Memref.isWhole_whole _) scM0_3 (Memref.isWhole_whole _) scM0_4 (Memref.isWhole_whole _) h0 h1 (iblk m c 0 t) (iblk m c 1 t) (iblk m c 2 t) (iblk m c 3 t) (iblk m c 4 t) (iblk m c 5 t) xs0 xs1 xs3 xs4

/-- At the first point the stores into the code block cover it. -/
theorem coverA_7 (c : Dev nD) (t : Fin cfg0.N) (h0 : cond0_0 (grid0.coords t)) (h1 : ¬cond0_1 (grid0.coords t)) (y : S256x6144.Idx) :
    ∃ pc ∈ (runA m c t h0 h1).2.1, y ∈ pc.1.set :=
  View.cover_of_tiledL (runA m c t h0 h1).2.1 S32x128.size (by sl_kernel_rfl) y

/-- At the first point the stores into the scale block cover it. -/
theorem coverA_8 (c : Dev nD) (t : Fin cfg0.N) (h0 : cond0_0 (grid0.coords t)) (h1 : ¬cond0_1 (grid0.coords t)) (y : S2x128.Idx) :
    ∃ pc ∈ (runA m c t h0 h1).2.2.1, y ∈ pc.1.set :=
  View.cover_of_tiledL (runA m c t h0 h1).2.2.1 S1x128.size (by sl_kernel_rfl) y

/-- At the first point the stores into the running sum cover it. -/
theorem coverA_3 (c : Dev nD) (t : Fin cfg0.N) (h0 : cond0_0 (grid0.coords t)) (h1 : ¬cond0_1 (grid0.coords t)) (y : S2x8x128.Idx) :
    ∃ pc ∈ (runA m c t h0 h1).2.2.2.1, y ∈ pc.1.set :=
  View.cover_of_wholeMem (runA m c t h0 h1).2.2.2.1 (by sl_whole_mem) y

/-- At the first point the stores into the running pick cover it. -/
theorem coverA_4 (c : Dev nD) (t : Fin cfg0.N) (h0 : cond0_0 (grid0.coords t)) (h1 : ¬cond0_1 (grid0.coords t)) (y : S2x8x128.Idx) :
    ∃ pc ∈ (runA m c t h0 h1).2.2.2.2.1, y ∈ pc.1.set :=
  View.cover_of_wholeMem (runA m c t h0 h1).2.2.2.2.1 (by sl_whole_mem) y

/-- The stores into the running sum cover it. -/
theorem coverB_3 (c : Dev nD) (t : Fin cfg0.N) (h0 : ¬cond0_0 (grid0.coords t)) (h1 : ¬cond0_1 (grid0.coords t)) (xs0 : Vec F S256x6144 .fp8e4m3) (xs1 : Vec F S2x128 .f32) (xs3 : Vec F S2x8x128 .f32) (xs4 : Vec F S2x8x128 .f32) (y : S2x8x128.Idx) :
    ∃ pc ∈ (runB m c t h0 h1 xs0 xs1 xs3 xs4).2.2.2.1, y ∈ pc.1.set :=
  View.cover_of_tiledL (runB m c t h0 h1 xs0 xs1 xs3 xs4).2.2.2.1 S1x8x128.size (by sl_kernel_rfl) y

/-- The stores into the running pick cover it. -/
theorem coverB_4 (c : Dev nD) (t : Fin cfg0.N) (h0 : ¬cond0_0 (grid0.coords t)) (h1 : ¬cond0_1 (grid0.coords t)) (xs0 : Vec F S256x6144 .fp8e4m3) (xs1 : Vec F S2x128 .f32) (xs3 : Vec F S2x8x128 .f32) (xs4 : Vec F S2x8x128 .f32) (y : S2x8x128.Idx) :
    ∃ pc ∈ (runB m c t h0 h1 xs0 xs1 xs3 xs4).2.2.2.2.1, y ∈ pc.1.set :=
  View.cover_of_tiledL (runB m c t h0 h1 xs0 xs1 xs3 xs4).2.2.2.2.1 S1x8x128.size (by sl_kernel_rfl) y

/-- The stores into the running sum cover it. -/
theorem coverC_3 (c : Dev nD) (t : Fin cfg0.N) (h0 : ¬cond0_0 (grid0.coords t)) (h1 : cond0_1 (grid0.coords t)) (xs0 : Vec F S256x6144 .fp8e4m3) (xs1 : Vec F S2x128 .f32) (xs3 : Vec F S2x8x128 .f32) (xs4 : Vec F S2x8x128 .f32) (y : S2x8x128.Idx) :
    ∃ pc ∈ (runC m c t h0 h1 xs0 xs1 xs3 xs4).2.2.2.1, y ∈ pc.1.set :=
  View.cover_of_tiledL (runC m c t h0 h1 xs0 xs1 xs3 xs4).2.2.2.1 S1x8x128.size (by sl_kernel_rfl) y

/-- The stores into the running pick cover it. -/
theorem coverC_4 (c : Dev nD) (t : Fin cfg0.N) (h0 : ¬cond0_0 (grid0.coords t)) (h1 : cond0_1 (grid0.coords t)) (xs0 : Vec F S256x6144 .fp8e4m3) (xs1 : Vec F S2x128 .f32) (xs3 : Vec F S2x8x128 .f32) (xs4 : Vec F S2x8x128 .f32) (y : S2x8x128.Idx) :
    ∃ pc ∈ (runC m c t h0 h1 xs0 xs1 xs3 xs4).2.2.2.2.1, y ∈ pc.1.set :=
  View.cover_of_tiledL (runC m c t h0 h1 xs0 xs1 xs3 xs4).2.2.2.2.1 S1x8x128.size (by sl_kernel_rfl) y

/-- At the last point the stores into the loss block cover it. -/
theorem coverC_6 (c : Dev nD) (t : Fin cfg0.N) (h0 : ¬cond0_0 (grid0.coords t)) (h1 : cond0_1 (grid0.coords t)) (xs0 : Vec F S256x6144 .fp8e4m3) (xs1 : Vec F S2x128 .f32) (xs3 : Vec F S2x8x128 .f32) (xs4 : Vec F S2x8x128 .f32) (y : S2x128.Idx) :
    ∃ pc ∈ (runC m c t h0 h1 xs0 xs1 xs3 xs4).1, y ∈ pc.1.set :=
  View.cover_of_tiledL (runC m c t h0 h1 xs0 xs1 xs3 xs4).1 S1x128.size (by sl_kernel_rfl) y

/-! ## What the buffers hold after each point -/

/-- The first grid point. -/
abbrev t00 : Fin cfg0.N := ⟨0, by rw [show cfg0.N = 32 from N_0]; decide⟩
theorem c00 : cond0_0 (grid0.coords t00) := (hcond0_0 t00).mpr rfl
theorem n00 : ¬cond0_1 (grid0.coords t00) := fun h => absurd ((hcond0_1 t00).mp h) (by decide)

/-- The codes the first point stores. -/
def codesAt (c : Dev nD) : Vec F S256x6144 .fp8e4m3 :=
  VO0_7.read (Elt F) (VO0_7.writes (Elt F) VO0_7.junk (runA m c t00 c00 n00).2.1)
/-- The scales the first point stores. -/
def scaleAt (c : Dev nD) : Vec F S2x128 .f32 :=
  VO0_8.read (Elt F) (VO0_8.writes (Elt F) VO0_8.junk (runA m c t00 c00 n00).2.2.1)

/-- The running sum and the running pick after point `n`: the first point's stores, then each later point's over what
    the point before left. -/
def accAt (c : Dev nD) : (n : ℕ) → n < cfg0.N → Vec F S2x8x128 .f32 × Vec F S2x8x128 .f32
  | 0, _ => (VS0_3.read (Elt F) (VS0_3.writes (Elt F) VS0_3.junk (runA m c t00 c00 n00).2.2.2.1), VS0_4.read (Elt F) (VS0_4.writes (Elt F) VS0_4.junk (runA m c t00 c00 n00).2.2.2.2.1))
  | n + 1, hn =>
    if h0 : cond0_0 (grid0.coords ⟨n + 1, hn⟩) then (VS0_3.read (Elt F) VS0_3.junk, VS0_4.read (Elt F) VS0_4.junk)
    else if h1 : cond0_1 (grid0.coords ⟨n + 1, hn⟩) then
      (VS0_3.read (Elt F) (VS0_3.writes (Elt F) VS0_3.junk (runC m c ⟨n + 1, hn⟩ h0 h1 (codesAt m c) (scaleAt m c) (accAt c n (Nat.lt_of_succ_lt hn)).1 (accAt c n (Nat.lt_of_succ_lt hn)).2).2.2.2.1),
       VS0_4.read (Elt F) (VS0_4.writes (Elt F) VS0_4.junk (runC m c ⟨n + 1, hn⟩ h0 h1 (codesAt m c) (scaleAt m c) (accAt c n (Nat.lt_of_succ_lt hn)).1 (accAt c n (Nat.lt_of_succ_lt hn)).2).2.2.2.2.1))
    else
      (VS0_3.read (Elt F) (VS0_3.writes (Elt F) VS0_3.junk (runB m c ⟨n + 1, hn⟩ h0 h1 (codesAt m c) (scaleAt m c) (accAt c n (Nat.lt_of_succ_lt hn)).1 (accAt c n (Nat.lt_of_succ_lt hn)).2).2.2.2.1),
       VS0_4.read (Elt F) (VS0_4.writes (Elt F) VS0_4.junk (runB m c ⟨n + 1, hn⟩ h0 h1 (codesAt m c) (scaleAt m c) (accAt c n (Nat.lt_of_succ_lt hn)).1 (accAt c n (Nat.lt_of_succ_lt hn)).2).2.2.2.2.1))

/-- The running sum and pick the body finds at a point that is not the first. -/
abbrev prevAt (c : Dev nD) (t : Fin cfg0.N) : Vec F S2x8x128 .f32 × Vec F S2x8x128 .f32 :=
  accAt m c (t.val - 1) (Nat.lt_of_le_of_lt (Nat.sub_le _ _) t.isLt)

theorem accAt_B (c : Dev nD) (t : Fin cfg0.N) (h0 : ¬cond0_0 (grid0.coords t)) (h1 : ¬cond0_1 (grid0.coords t)) :
    accAt m c t.val t.isLt
      = (VS0_3.read (Elt F) (VS0_3.writes (Elt F) VS0_3.junk (runB m c t h0 h1 (codesAt m c) (scaleAt m c) (prevAt m c t).1 (prevAt m c t).2).2.2.2.1),
         VS0_4.read (Elt F) (VS0_4.writes (Elt F) VS0_4.junk (runB m c t h0 h1 (codesAt m c) (scaleAt m c) (prevAt m c t).1 (prevAt m c t).2).2.2.2.2.1)) := by
  obtain ⟨n, hn⟩ := t
  cases n with
  | zero => exact absurd c00 h0
  | succ n => exact (dif_neg h0).trans ((dif_neg h1).trans rfl)

theorem accAt_C (c : Dev nD) (t : Fin cfg0.N) (h0 : ¬cond0_0 (grid0.coords t)) (h1 : cond0_1 (grid0.coords t)) :
    accAt m c t.val t.isLt
      = (VS0_3.read (Elt F) (VS0_3.writes (Elt F) VS0_3.junk (runC m c t h0 h1 (codesAt m c) (scaleAt m c) (prevAt m c t).1 (prevAt m c t).2).2.2.2.1),
         VS0_4.read (Elt F) (VS0_4.writes (Elt F) VS0_4.junk (runC m c t h0 h1 (codesAt m c) (scaleAt m c) (prevAt m c t).1 (prevAt m c t).2).2.2.2.2.1)) := by
  obtain ⟨n, hn⟩ := t
  cases n with
  | zero => exact absurd c00 h0
  | succ n => exact (dif_neg h0).trans ((dif_pos h1).trans rfl)

/-- The loss block: stored at the last point, nothing before. -/
def lossAt (c : Dev nD) (t : Fin cfg0.N) : Vec F S2x128 .f32 :=
  if h0 : cond0_0 (grid0.coords t) then VO0_6.read (Elt F) VO0_6.junk
  else if h1 : cond0_1 (grid0.coords t) then
    VO0_6.read (Elt F) (VO0_6.writes (Elt F) VO0_6.junk (runC m c t h0 h1 (codesAt m c) (scaleAt m c) (prevAt m c t).1 (prevAt m c t).2).1)
  else VO0_6.read (Elt F) VO0_6.junk

theorem lossAt_C (c : Dev nD) (t : Fin cfg0.N) (h0 : ¬cond0_0 (grid0.coords t)) (h1 : cond0_1 (grid0.coords t)) :
    lossAt m c t = VO0_6.read (Elt F) (VO0_6.writes (Elt F) VO0_6.junk (runC m c t h0 h1 (codesAt m c) (scaleAt m c) (prevAt m c t).1 (prevAt m c t).2).1) := by
  unfold lossAt; rw [dif_neg h0, dif_pos h1]

/-- The invariant before position `n`: before the first point every scratch holds anything; afterwards the running sum
    and the running pick hold what the point before left. -/
def PhiS (c : Dev nD) : (n : ℕ) → n ≤ cfg0.N → sProp (MT nD τ sig Unit (Elt F) ℕ (UR sig nD τ) ℕ)
  | 0, _ => Pipeline.ΦA spec0 c
  | n + 1, hn => iprop(iprop((∃ d, owns (c : Thread nD τ) scM0_2 fullShare d) ∗ owns (c : Thread nD τ) scM0_3 fullShare (accAt m c n hn).1 ∗ owns (c : Thread nD τ) scM0_4 fullShare (accAt m c n hn).2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_2 fullShare d) ∗ owns (c : Thread nD τ) scM0_3 fullShare (accAt m c n hn).1 ∗ owns (c : Thread nD τ) scM0_4 fullShare (accAt m c n hn).2) ∗ (∃ r, prngReg c r)) := rfl

theorem PhiS_pos (c : Dev nD) (t : Fin cfg0.N) (hz : t.val ≠ 0) :
    PhiS m c t.val (Nat.le_of_lt t.isLt) = iprop(iprop((∃ d, owns (c : Thread nD τ) scM0_2 fullShare d) ∗ owns (c : Thread nD τ) scM0_3 fullShare (prevAt m c t).1 ∗ owns (c : Thread nD τ) scM0_4 fullShare (prevAt m c t).2) ∗ (∃ r, prngReg c r)) := by
  obtain ⟨n, hn⟩ := t
  cases n with
  | zero => exact absurd rfl hz
  | succ n => rfl

/-! ## The pipeline's proof data -/

/-- The proof data: the arrays as the region finds them; after the body each input's buffer at its block, the loss at
    `lossAt`, the codes and the scales at the first point's at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => lossAt m c t
    | ⟨7, _⟩ => codesAt m c
    | ⟨8, _⟩ => scaleAt m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = lossAt m c t := by dsimp only [dats]
theorem after0_7 (c : Dev nD) (t : Fin cfg0.N) : (dats m 0 c).after 7 t = codesAt m c := by dsimp only [dats]
theorem after0_8 (c : Dev nD) (t : Fin cfg0.N) : (dats m 0 c).after 8 t = scaleAt m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem fresh0_7 : ∀ t : Fin cfg0.N, ¬cond0_0 (grid0.coords t) → cfg0.fresh 7 t.val = false := by decide +kernel
/-- After the first point the body finds in output 7's buffer what the first point stored. -/
theorem before0_7 (c : Dev nD) (t : Fin cfg0.N) (h0 : ¬cond0_0 (grid0.coords t)) (d) : (dats m 0 c).before 7 t d = codesAt m c := by
  rw [(dats m 0 c).before_out_traj 7 rfl (fun _ _ => rfl) (fun t _ _ _ => by rw [after0_7, after0_7]) t.val t rfl d,
    fresh0_7 t h0, if_neg Bool.false_ne_true, after0_7]

theorem fresh0_8 : ∀ t : Fin cfg0.N, ¬cond0_0 (grid0.coords t) → cfg0.fresh 8 t.val = false := by decide +kernel
/-- After the first point the body finds in output 8's buffer what the first point stored. -/
theorem before0_8 (c : Dev nD) (t : Fin cfg0.N) (h0 : ¬cond0_0 (grid0.coords t)) (d) : (dats m 0 c).before 8 t d = scaleAt m c := by
  rw [(dats m 0 c).before_out_traj 8 rfl (fun _ _ => rfl) (fun t _ _ _ => by rw [after0_8, after0_8]) t.val t rfl d,
    fresh0_8 t h0, if_neg Bool.false_ne_true, after0_8]

/-! ## The body obligation, at a generic point -/

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves0_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
theorem leaves0_4 (c : Dev nD) (t : Fin cfg0.N) : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]
theorem leaves0_5 (c : Dev nD) (t : Fin cfg0.N) : (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
    unfold Dat.leavesExact; rw [liveAt0_5 t], after0_5]
theorem leaves0_7_A (c : Dev nD) (t : Fin cfg0.N) (h0 : cond0_0 (grid0.coords t)) (h1 : ¬cond0_1 (grid0.coords t)) : (dats m 0 c).leavesExact 7 t = owns (c : Thread nD τ) (ms0_7 t) fullShare (codesAt m c) := by
  rw [show (dats m 0 c).leavesExact 7 t = owns (c : Thread nD τ) (ms0_7 t) fullShare ((dats m 0 c).after 7 t) from by
    unfold Dat.leavesExact; rw [liveAt0_7_A t h0 h1], after0_7]
theorem leaves0_7_C (c : Dev nD) (t : Fin cfg0.N) (h0 : ¬cond0_0 (grid0.coords t)) (h1 : cond0_1 (grid0.coords t)) : (dats m 0 c).leavesExact 7 t = owns (c : Thread nD τ) (ms0_7 t) fullShare (codesAt m c) := by
  rw [show (dats m 0 c).leavesExact 7 t = owns (c : Thread nD τ) (ms0_7 t) fullShare ((dats m 0 c).after 7 t) from by
    unfold Dat.leavesExact; rw [idleAt0_7 t h0, flushAt0_7 t h1], after0_7]
theorem leaves0_8_A (c : Dev nD) (t : Fin cfg0.N) (h0 : cond0_0 (grid0.coords t)) (h1 : ¬cond0_1 (grid0.coords t)) : (dats m 0 c).leavesExact 8 t = owns (c : Thread nD τ) (ms0_8 t) fullShare (scaleAt m c) := by
  rw [show (dats m 0 c).leavesExact 8 t = owns (c : Thread nD τ) (ms0_8 t) fullShare ((dats m 0 c).after 8 t) from by
    unfold Dat.leavesExact; rw [liveAt0_8_A t h0 h1], after0_8]
theorem leaves0_8_C (c : Dev nD) (t : Fin cfg0.N) (h0 : ¬cond0_0 (grid0.coords t)) (h1 : cond0_1 (grid0.coords t)) : (dats m 0 c).leavesExact 8 t = owns (c : Thread nD τ) (ms0_8 t) fullShare (scaleAt m c) := by
  rw [show (dats m 0 c).leavesExact 8 t = owns (c : Thread nD τ) (ms0_8 t) fullShare ((dats m 0 c).after 8 t) from by
    unfold Dat.leavesExact; rw [idleAt0_8 t h0, flushAt0_8 t h1], after0_8]

set_option maxHeartbeats 4000000 in
/-- The body at the first point. -/
theorem sound_A (c : Dev nD) (t : Fin cfg0.N) (h0 : cond0_0 (grid0.coords t)) (h1 : ¬cond0_1 (grid0.coords t)) (ht : t = t00) :
    bodyPre m c t ⊢ wp frame (wpE (defs₀ (F := F)) Variants.none c none) Set.univ (bodyAt0 t) (fun _ => bodyPost m c t) := by
  subst ht
  let t : Fin cfg0.N := t00
  unfold bodyPre bodyPost bodyAt0
  simp only [before0_0, before0_1, before0_2, before0_3, before0_4, before0_5]
  rw [show (dats m 0 c).owesAt () t00.succ = (dats m 0 c).owesAt () t00.castSucc from rfl]
  rw [show (dats m 0 c).Φ t00.succ = PhiS m c (t00.val + 1) t00.isLt from rfl, PhiS_succ]
  rw [leaves0_0, leaves0_1, leaves0_2, leaves0_3, leaves0_4, leaves0_5]
  rw [Dat.leavesExact_idle (dats m 0 c) 6 t00 (idleAt0_6_A t00 h0 h1) (noFlush0_6_A t00 h0 h1), leaves0_7_A m c t00 h0 h1, leaves0_8_A m c t00 h0 h1]
  rw [PhiS_castSucc m c t00, PhiS_zero m c _ _ rfl, PhiA0_eq]
  unfold codesAt scaleAt accAt; dsimp only
  iintro ⟨⟨⟨HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runA m c t00 h0 h1).2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS2]; · iexact HS2
  isplitl [HS3]; · iexact HS3
  isplitl [HS4]; · iexact HS4
  iintro ⟨H0, H1, H2, H3, H4, H5, H6, ⟨%e7, H7⟩, ⟨%e8, H8⟩, HS2, ⟨%es3, HS3⟩, ⟨%es4, HS4⟩⟩
  isplitl [HS2 HS3 HS4 Hg]
  · isplitl [HS2 HS3 HS4]
    · isplitl [HS2]
      · iexact HS2
      isplitl [HS3]
      · unfold owns; iexists _; isplitr
        swap; · iexact HS3
        ipureintro; exact View.read_writes_of_cover _ _ _ _ _ (coverA_3 m c t00 h0 h1)
      unfold owns; iexists _; isplitr
      swap; · iexact HS4
      ipureintro; exact View.read_writes_of_cover _ _ _ _ _ (coverA_4 m c t00 h0 h1)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]
  · unfold owns; iexists _; isplitr
    swap; · iexact H7
    ipureintro; exact View.read_writes_of_cover _ _ _ _ _ (coverA_7 m c t00 h0 h1)
  unfold owns; iexists _; isplitr
  swap; · iexact H8
  ipureintro; exact View.read_writes_of_cover _ _ _ _ _ (coverA_8 m c t00 h0 h1)

set_option maxHeartbeats 4000000 in
/-- The body at a point strictly between the first and the last. -/
theorem sound_B (c : Dev nD) (t : Fin cfg0.N) (h0 : ¬cond0_0 (grid0.coords t)) (h1 : ¬cond0_1 (grid0.coords t)) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5]
  rw [Dat.leavesExact_idle (dats m 0 c) 6 t (idleAt0_6_B t h0 h1) (noFlush0_6_B t h0 h1), Dat.leavesExact_idle (dats m 0 c) 7 t (idleAt0_7 t h0) (noFlush0_7 t h1), Dat.leavesExact_idle (dats m 0 c) 8 t (idleAt0_8 t h0) (noFlush0_8 t h1)]
  simp only [before0_7 m c t h0, before0_8 m c t h0]
  rw [PhiS_castSucc m c t, PhiS_pos m c t hz, accAt_B m c t h0 h1]; dsimp only
  iintro ⟨⟨⟨HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runB m c t h0 h1 _ _ _ _).2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS2]; · iexact HS2
  isplitl [HS3]; · iexact HS3
  isplitl [HS4]; · iexact HS4
  iintro ⟨H0, H1, H2, H3, H4, H5, H6, H7, H8, HS2, ⟨%es3, HS3⟩, ⟨%es4, HS4⟩⟩
  isplitl [HS2 HS3 HS4 Hg]
  · isplitl [HS2 HS3 HS4]
    · isplitl [HS2]
      · iexact HS2
      isplitl [HS3]
      · unfold owns; iexists _; isplitr
        swap; · iexact HS3
        ipureintro; exact View.read_writes_of_cover _ _ _ _ _ (coverB_3 m c t h0 h1 _ _ _ _)
      unfold owns; iexists _; isplitr
      swap; · iexact HS4
      ipureintro; exact View.read_writes_of_cover _ _ _ _ _ (coverB_4 m c t h0 h1 _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists d7; iexact H7
  iexists d8; iexact H8

set_option maxHeartbeats 4000000 in
/-- The body at the last point. -/
theorem sound_C (c : Dev nD) (t : Fin cfg0.N) (h0 : ¬cond0_0 (grid0.coords t)) (h1 : cond0_1 (grid0.coords t)) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5]
  rw [show (dats m 0 c).leavesExact 6 t = owns (c : Thread nD τ) (ms0_6 t) fullShare ((dats m 0 c).after 6 t) from by
    unfold Dat.leavesExact; rw [liveAt0_6_C t h0 h1], after0_6, leaves0_7_C m c t h0 h1, leaves0_8_C m c t h0 h1]
  simp only [before0_7 m c t h0, before0_8 m c t h0]
  rw [PhiS_castSucc m c t, PhiS_pos m c t hz, accAt_C m c t h0 h1, lossAt_C m c t h0 h1]; dsimp only
  iintro ⟨⟨⟨HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runC m c t h0 h1 _ _ _ _).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [HS2]; · iexact HS2
  isplitl [HS3]; · iexact HS3
  isplitl [HS4]; · iexact HS4
  iintro ⟨H0, H1, H2, H3, H4, H5, ⟨%e6, H6⟩, H7, H8, HS2, ⟨%es3, HS3⟩, ⟨%es4, HS4⟩⟩
  isplitl [HS2 HS3 HS4 Hg]
  · isplitl [HS2 HS3 HS4]
    · isplitl [HS2]
      · iexact HS2
      isplitl [HS3]
      · unfold owns; iexists _; isplitr
        swap; · iexact HS3
        ipureintro; exact View.read_writes_of_cover _ _ _ _ _ (coverC_3 m c t h0 h1 _ _ _ _)
      unfold owns; iexists _; isplitr
      swap; · iexact HS4
      ipureintro; exact View.read_writes_of_cover _ _ _ _ _ (coverC_4 m c t h0 h1 _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (coverC_6 m c t h0 h1 _ _ _ _)
  isplitl [H7]; · iexact H7
  iexact H8

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  by_cases h0 : cond0_0 (grid0.coords t)
  · have e := (hcond0_0 t).mp h0
    have h1 : ¬cond0_1 (grid0.coords t) := fun h => by have := (hcond0_1 t).mp h; omega
    exact sound_A m c t h0 h1 (Fin.ext (show t.val = 0 by omega))
  · have hz : t.val ≠ 0 := fun h => h0 ((hcond0_0 t).mpr (by omega))
    by_cases h1 : cond0_1 (grid0.coords t)
    · exact sound_C m c t h0 h1 hz
    · exact sound_B m c t h0 h1 hz

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives every scratch back at some contents. -/
theorem hout (c : Dev nD) : (dats m 0 c).Φ (Fin.last cfg0.N) ⊢ Pipeline.ΦA spec0 c := by
  rw [show (dats m 0 c).Φ (Fin.last cfg0.N) = PhiS m c (31 + 1) (by rw [show cfg0.N = 32 from N_0]) from rfl, PhiS_succ, PhiA0_eq]
  iintro ⟨⟨HS2, HS3, HS4⟩, Hg⟩
  isplitl [HS2 HS3 HS4]
  · isplitl [HS2]
    · iexact HS2
    isplitl [HS3]
    · iexists _; iexact HS3
    iexists _; iexact HS4
  iexact Hg

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_Kernel`'s statement  at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Gen

end
-- ==== Proof.RunsIdeal.lean ====
module

public import proofs.«01_k».proof.Proof.Gen.KernelIdeal.Frame
public import proofs.«01_k».proof.Proof.Gen.KernelIdeal.Loops

/-! # What the runs of the kernel body share

The two conditions of the body in closed form (the first grid point; the last grid point), where the three output
windows are stored into and written back, and the names of the memrefs the body is handed. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, k0_cond1, e0]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_1, k0_cond2, e0]
    word_cmp
   : ∀ t : Fin grid0.N, cond0_1 (grid0.coords t) ↔ t.val % 32 = 31)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cfg0.idle 6 (grid0.coords t) = false := by decide +kernel

/-- At the first point the body stores into output 7. -/
theorem liveAt0_7_A : ∀ t : Fin cfg0.N, cond0_0 (grid0.coords t) → ¬cond0_1 (grid0.coords t) → cfg0.idle 7 (grid0.coords t) = false := by decide +kernel
/-- At every later point the body leaves output 7 alone. -/
theorem idleAt0_7 : ∀ t : Fin cfg0.N, ¬cond0_0 (grid0.coords t) → cfg0.idle 7 (grid0.coords t) = true := by decide +kernel
/-- Before the last point output 7's block is not written back. -/
theorem noFlush0_7 : ∀ t : Fin cfg0.N, ¬cond0_1 (grid0.coords t) → (cfg0.win 7).flush t = false := by decide +kernel
/-- At the last point output 7's block is written back. -/
theorem flushAt0_7 : ∀ t : Fin cfg0.N, cond0_1 (grid0.coords t) → (cfg0.win 7).flush t = true := by decide +kernel
/-- At the first point the body stores into output 8. -/
theorem liveAt0_8_A : ∀ t : Fin cfg0.N, cond0_0 (grid0.coords t) → ¬cond0_1 (grid0.coords t) → cfg0.idle 8 (grid0.coords t) = false := by decide +kernel
/-- At every later point the body leaves output 8 alone. -/
theorem idleAt0_8 : ∀ t : Fin cfg0.N, ¬cond0_0 (grid0.coords t) → cfg0.idle 8 (grid0.coords t) = true := by decide +kernel
/-- Before the last point output 8's block is not written back. -/
theorem noFlush0_8 : ∀ t : Fin cfg0.N, ¬cond0_1 (grid0.coords t) → (cfg0.win 8).flush t = false := by decide +kernel
/-- At the last point output 8's block is written back. -/
theorem flushAt0_8 : ∀ t : Fin cfg0.N, cond0_1 (grid0.coords t) → (cfg0.win 8).flush t = true := by decide +kernel

/-! ## The kernel body on any staging memrefs: a subtype the run finds -/

/-- One staging buffer of output window 6, through which its contents are stated (`View.read_writes_of_cover`: the
    choice does not matter). -/
abbrev VO0_6 : View sig .tc .vmem S2x128 .f32 := (Memref.whole cc0_stg6_0 : Memref sig .tc .vmem S2x128 .f32).view
abbrev VO0_7 : View sig .tc .vmem S256x6144 .fp8e4m3 := (Memref.whole cc0_stg7_0 : Memref sig .tc .vmem S256x6144 .fp8e4m3).view
abbrev VO0_8 : View sig .tc .vmem S2x128 .f32 := (Memref.whole cc0_stg8_0 : Memref sig .tc .vmem S2x128 .f32).view
/-- Each window's current staging memref at point `t`, spelled as the pipeline passes it (`bodyAt0`), and its wholeness. -/
abbrev ms0_0 (t : Fin cfg0.N) : Memref sig .tc .vmem S256x6144 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x6144 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x6144 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x128 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x6144 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x128 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_2 : Memref sig .tc .vmem S256x128 .f32 := Memref.whole cc0_scratch0
abbrev scM0_3 : Memref sig .tc .vmem S2x8x128 .f32 := Memref.whole cc0_scratch1
abbrev scM0_4 : Memref sig .tc .vmem S2x8x128 .f32 := Memref.whole cc0_scratch2
/-- The scratch the kernel carries between points, as views: what they hold is stated through them. -/
abbrev VS0_3 : View sig .tc .vmem S2x8x128 .f32 := scM0_3.view
abbrev VS0_4 : View sig .tc .vmem S2x8x128 .f32 := scM0_4.view

/-- The scratch buffers and the generator, as memrefs owned at some contents: what the body obligation hands the run
    and takes back. -/
theorem PhiA0_eq (c : Dev nD) :
    (Pipeline.ΦA spec0 c : sProp (MT nD τ sig Unit (Elt F) ℕ (UR sig nD τ) ℕ))
      = iprop(iprop((∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_2, scM0_3, scM0_4, owns_whole]; try rfl

end Cert.KernelIdeal.Gen

end
-- ==== Proof.RunIdealA.lean ====
module

public import proofs.«01_k».proof.Proof.RunsIdeal

/-! # The kernel body at the first grid point -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 1000000 in
/-- The body's run at the first grid point: the rows are normalised and quantised, the two accumulators are cleared, and the first vocabulary block is added.
    The lists are the pieces stored into the three output blocks and the two carried accumulators, last first; the
    second component says that from whole memrefs the body runs to its end with those pieces written. -/
noncomputable def kernelRun0_A (c : Dev nD) (i : grid0.Coords) (arg1 : Memref sig .tc .vmem S256x6144 .bf16) (harg1 : arg1.IsWhole) (arg2 : Memref sig .tc .vmem S1x6144 .f32) (harg2 : arg2.IsWhole) (arg3 : Memref sig .tc .vmem S1024x6144 .fp8e4m3) (harg3 : arg3.IsWhole) (arg4 : Memref sig .tc .vmem S8x128 .f32) (harg4 : arg4.IsWhole) (arg5 : Memref sig .tc .vmem S8x128 .f32) (harg5 : arg5.IsWhole) (arg6 : Memref sig .tc .vmem S2x128 .i32) (harg6 : arg6.IsWhole) (arg7 : Memref sig .tc .vmem S2x128 .f32) (harg7 : arg7.IsWhole) (arg8 : Memref sig .tc .vmem S256x6144 .fp8e4m3) (harg8 : arg8.IsWhole) (arg9 : Memref sig .tc .vmem S2x128 .f32) (harg9 : arg9.IsWhole) (arg10 : Memref sig .tc .vmem S256x128 .f32) (harg10 : arg10.IsWhole) (arg11 : Memref sig .tc .vmem S2x8x128 .f32) (harg11 : arg11.IsWhole) (arg12 : Memref sig .tc .vmem S2x8x128 .f32) (harg12 : arg12.IsWhole) (hc0 : cond0_0 i) (hc1 : ¬cond0_1 i)
    (x0 : Vec F S256x6144 .bf16) (x1 : Vec F S1x6144 .f32) (x2 : Vec F S1024x6144 .fp8e4m3) (x3 : Vec F S8x128 .f32) (x4 : Vec F S8x128 .f32) (x5 : Vec F S2x128 .i32) :
    Σ' (L6 : List (View.Piece (Elt F) S2x128 .f32)), Σ' (LS0 : List (View.Piece (Elt F) S256x6144 .fp8e4m3)), Σ' (LS1 : List (View.Piece (Elt F) S2x128 .f32)), Σ' (LS3 : List (View.Piece (Elt F) S2x8x128 .f32)), { LS4 : List (View.Piece (Elt F) S2x8x128 .f32) //
      ∀ (xi6 : Vec F S2x128 .f32) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ d, owns (c : Thread nD τ) arg10 fullShare d) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4)) -∗ K ⟨⟩))
          ⊢ wp frame (wpE (defs₀ (F := F)) Variants.none c none) E (cc0_head_xent i arg1 harg1 arg2 harg2 arg3 harg3 arg4 harg4 arg5 harg5 arg6 harg6 arg7 harg7 arg8 harg8 arg9 harg9 arg10 harg10 arg11 harg11 arg12 harg12) K } := by
  refine ⟨[], ?_, ?_, ?_, ?_, fun xi6 E K => ?run⟩
  case run =>
    simp only [cc0_head_xent_eq_skeleton]; unfold cc0_head_xent_skel
    simp only [k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    have hrd0 : ∀ (𝒱 : Variants) (c : Dev nD) (bd : Option 𝒱.V) (i : grid0.Coords) (arg1 : Memref sig .tc .vmem S256x6144 .bf16) (harg1 : arg1.IsWhole) (arg2 : Memref sig .tc .vmem S1x6144 .f32) (harg2 : arg2.IsWhole) (arg3 : Memref sig .tc .vmem S1024x6144 .fp8e4m3) (harg3 : arg3.IsWhole) (arg4 : Memref sig .tc .vmem S8x128 .f32) (harg4 : arg4.IsWhole) (arg5 : Memref sig .tc .vmem S8x128 .f32) (harg5 : arg5.IsWhole) (arg6 : Memref sig .tc .vmem S2x128 .i32) (harg6 : arg6.IsWhole) (arg7 : Memref sig .tc .vmem S2x128 .f32) (harg7 : arg7.IsWhole) (arg8 : Memref sig .tc .vmem S256x6144 .fp8e4m3) (harg8 : arg8.IsWhole) (arg9 : Memref sig .tc .vmem S2x128 .f32) (harg9 : arg9.IsWhole) (arg10 : Memref sig .tc .vmem S256x128 .f32) (harg10 : arg10.IsWhole) (arg11 : Memref sig .tc .vmem S2x8x128 .f32) (harg11 : arg11.IsWhole) (arg12 : Memref sig .tc .vmem S2x8x128 .f32) (harg12 : arg12.IsWhole) (k0_h1 : k0_cond1 i = 1#1) (X_arg1 : BufTy.Contents (Elt F) arg1.view.ty) (X_arg2 : BufTy.Contents (Elt F) arg2.view.ty) (hrdF : BufTy.Contents (Elt F) arg10.view.ty) (hrdB : LoadRect S256x128), arg10.view.readAt (Elt F) hrdB (arg10.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 (Scf.trips k0_t1_loop.lb k0_t1_loop.ub k0_t1_loop.st)).2) = arg10.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 (Scf.trips k0_t1_loop.lb k0_t1_loop.ub k0_t1_loop.st)).2 hrdB := fun 𝒱 c bd i arg1 harg1 arg2 harg2 arg3 harg3 arg4 harg4 arg5 harg5 arg6 harg6 arg7 harg7 arg8 harg8 arg9 harg9 arg10 harg10 arg11 harg11 arg12 harg12 k0_h1 X_arg1 X_arg2 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 (Scf.trips k0_t1_loop.lb k0_t1_loop.ub k0_t1_loop.st)).2 S32x128.size (by sl_kernel_rfl) (hrdB.idx hrdJ))
    have hrd1 : ∀ (𝒱 : Variants) (c : Dev nD) (bd : Option 𝒱.V) (i : grid0.Coords) (arg1 : Memref sig .tc .vmem S256x6144 .bf16) (harg1 : arg1.IsWhole) (arg2 : Memref sig .tc .vmem S1x6144 .f32) (harg2 : arg2.IsWhole) (arg3 : Memref sig .tc .vmem S1024x6144 .fp8e4m3) (harg3 : arg3.IsWhole) (arg4 : Memref sig .tc .vmem S8x128 .f32) (harg4 : arg4.IsWhole) (arg5 : Memref sig .tc .vmem S8x128 .f32) (harg5 : arg5.IsWhole) (arg6 : Memref sig .tc .vmem S2x128 .i32) (harg6 : arg6.IsWhole) (arg7 : Memref sig .tc .vmem S2x128 .f32) (harg7 : arg7.IsWhole) (arg8 : Memref sig .tc .vmem S256x6144 .fp8e4m3) (harg8 : arg8.IsWhole) (arg9 : Memref sig .tc .vmem S2x128 .f32) (harg9 : arg9.IsWhole) (arg10 : Memref sig .tc .vmem S256x128 .f32) (harg10 : arg10.IsWhole) (arg11 : Memref sig .tc .vmem S2x8x128 .f32) (harg11 : arg11.IsWhole) (arg12 : Memref sig .tc .vmem S2x8x128 .f32) (harg12 : arg12.IsWhole) (k0_h1 : k0_cond1 i = 1#1) (X_arg1 : BufTy.Contents (Elt F) arg1.view.ty) (X_arg2 : BufTy.Contents (Elt F) arg2.view.ty) (hrdF : BufTy.Contents (Elt F) arg8.view.ty) (hrdB : LoadRect S256x6144), arg8.view.readAt (Elt F) hrdB (arg8.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 (Scf.trips k0_t1_loop.lb k0_t1_loop.ub k0_t1_loop.st)).1) = arg8.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 (Scf.trips k0_t1_loop.lb k0_t1_loop.ub k0_t1_loop.st)).1 hrdB := fun 𝒱 c bd i arg1 harg1 arg2 harg2 arg3 harg3 arg4 harg4 arg5 harg5 arg6 harg6 arg7 harg7 arg8 harg8 arg9 harg9 arg10 harg10 arg11 harg11 arg12 harg12 k0_h1 X_arg1 X_arg2 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 (Scf.trips k0_t1_loop.lb k0_t1_loop.ub k0_t1_loop.st)).1 S32x128.size (by sl_kernel_rfl) (hrdB.idx hrdJ))
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    isplitl [HS1]; · iexists _; iexact HS1
    isplitl [HS2]
    · iexists _, _; isplitr; swap; · iexact HS2
      ipureintro; rfl
    isplitl [HS3]; · iexists _; iexact HS3
    iexists _; iexact HS4

end Cert.KernelIdeal.Gen

end
-- ==== Proof.RunIdealB.lean ====
module

public import proofs.«01_k».proof.Proof.RunIdealA

/-! # The kernel body at a grid point strictly between the first and the last -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

-- (the run's proof term is large: the definition's epilogue — `abstractNestedProofs` — walks it past the default budget)
set_option maxHeartbeats 1600000 in
/-- The body's run at a grid point strictly between the first and the last: one vocabulary block is added to the two accumulators.
    The lists are the pieces stored into the three output blocks and the two carried accumulators, last first; the
    second component says that from whole memrefs the body runs to its end with those pieces written. -/
noncomputable def kernelRun0_B (c : Dev nD) (i : grid0.Coords) (arg1 : Memref sig .tc .vmem S256x6144 .bf16) (harg1 : arg1.IsWhole) (arg2 : Memref sig .tc .vmem S1x6144 .f32) (harg2 : arg2.IsWhole) (arg3 : Memref sig .tc .vmem S1024x6144 .fp8e4m3) (harg3 : arg3.IsWhole) (arg4 : Memref sig .tc .vmem S8x128 .f32) (harg4 : arg4.IsWhole) (arg5 : Memref sig .tc .vmem S8x128 .f32) (harg5 : arg5.IsWhole) (arg6 : Memref sig .tc .vmem S2x128 .i32) (harg6 : arg6.IsWhole) (arg7 : Memref sig .tc .vmem S2x128 .f32) (harg7 : arg7.IsWhole) (arg8 : Memref sig .tc .vmem S256x6144 .fp8e4m3) (harg8 : arg8.IsWhole) (arg9 : Memref sig .tc .vmem S2x128 .f32) (harg9 : arg9.IsWhole) (arg10 : Memref sig .tc .vmem S256x128 .f32) (harg10 : arg10.IsWhole) (arg11 : Memref sig .tc .vmem S2x8x128 .f32) (harg11 : arg11.IsWhole) (arg12 : Memref sig .tc .vmem S2x8x128 .f32) (harg12 : arg12.IsWhole) (hc0 : ¬cond0_0 i) (hc1 : ¬cond0_1 i)
    (x0 : Vec F S256x6144 .bf16) (x1 : Vec F S1x6144 .f32) (x2 : Vec F S1024x6144 .fp8e4m3) (x3 : Vec F S8x128 .f32) (x4 : Vec F S8x128 .f32) (x5 : Vec F S2x128 .i32) (xs0 : Vec F S256x6144 .fp8e4m3) (xs1 : Vec F S2x128 .f32) (xs3 : Vec F S2x8x128 .f32) (xs4 : Vec F S2x8x128 .f32) :
    Σ' (L6 : List (View.Piece (Elt F) S2x128 .f32)), Σ' (LS0 : List (View.Piece (Elt F) S256x6144 .fp8e4m3)), Σ' (LS1 : List (View.Piece (Elt F) S2x128 .f32)), Σ' (LS3 : List (View.Piece (Elt F) S2x8x128 .f32)), { LS4 : List (View.Piece (Elt F) S2x8x128 .f32) //
      ∀ (xi6 : Vec F S2x128 .f32) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0 ∗ owns (c : Thread nD τ) arg9 fullShare xs1 ∗ (∃ d, owns (c : Thread nD τ) arg10 fullShare d) ∗ owns (c : Thread nD τ) arg11 fullShare xs3 ∗ owns (c : Thread nD τ) arg12 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0 ∗ owns (c : Thread nD τ) arg9 fullShare xs1 ∗ (∃ d, owns (c : Thread nD τ) arg10 fullShare d) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4)) -∗ K ⟨⟩))
          ⊢ wp frame (wpE (defs₀ (F := F)) Variants.none c none) E (cc0_head_xent i arg1 harg1 arg2 harg2 arg3 harg3 arg4 harg4 arg5 harg5 arg6 harg6 arg7 harg7 arg8 harg8 arg9 harg9 arg10 harg10 arg11 harg11 arg12 harg12) K } := by
  refine ⟨[], [], [], ?_, ?_, fun xi6 E K => ?run⟩
  case run =>
    simp only [cc0_head_xent_eq_skeleton]; unfold cc0_head_xent_skel
    simp only [k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%ds2, %fs2, -, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1; obtain rfl := harg11.eq_unread hfs3; obtain rfl := harg12.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]
    · iexists _; isplitr; · ipureintro; exact harg8.read_unread _
      iexact HS0
    isplitl [HS1]
    · iexists _; isplitr; · ipureintro; exact harg9.read_unread _
      iexact HS1
    isplitl [HS2]
    · iexists _, _; isplitr; swap; · iexact HS2
      ipureintro; rfl
    isplitl [HS3]; · iexists _; iexact HS3
    iexists _; iexact HS4

end Cert.KernelIdeal.Gen

end
-- ==== Proof.RunIdealC.lean ====
module

public import proofs.«01_k».proof.Proof.RunIdealB

/-! # The kernel body at the last grid point -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

-- (the run's proof term is large: the definition's epilogue — `abstractNestedProofs` — walks it past the default budget)
set_option maxHeartbeats 1600000 in
/-- The body's run at the last grid point: one vocabulary block is added to the two accumulators and the loss is stored.
    The lists are the pieces stored into the three output blocks and the two carried accumulators, last first; the
    second component says that from whole memrefs the body runs to its end with those pieces written. -/
noncomputable def kernelRun0_C (c : Dev nD) (i : grid0.Coords) (arg1 : Memref sig .tc .vmem S256x6144 .bf16) (harg1 : arg1.IsWhole) (arg2 : Memref sig .tc .vmem S1x6144 .f32) (harg2 : arg2.IsWhole) (arg3 : Memref sig .tc .vmem S1024x6144 .fp8e4m3) (harg3 : arg3.IsWhole) (arg4 : Memref sig .tc .vmem S8x128 .f32) (harg4 : arg4.IsWhole) (arg5 : Memref sig .tc .vmem S8x128 .f32) (harg5 : arg5.IsWhole) (arg6 : Memref sig .tc .vmem S2x128 .i32) (harg6 : arg6.IsWhole) (arg7 : Memref sig .tc .vmem S2x128 .f32) (harg7 : arg7.IsWhole) (arg8 : Memref sig .tc .vmem S256x6144 .fp8e4m3) (harg8 : arg8.IsWhole) (arg9 : Memref sig .tc .vmem S2x128 .f32) (harg9 : arg9.IsWhole) (arg10 : Memref sig .tc .vmem S256x128 .f32) (harg10 : arg10.IsWhole) (arg11 : Memref sig .tc .vmem S2x8x128 .f32) (harg11 : arg11.IsWhole) (arg12 : Memref sig .tc .vmem S2x8x128 .f32) (harg12 : arg12.IsWhole) (hc0 : ¬cond0_0 i) (hc1 : cond0_1 i)
    (x0 : Vec F S256x6144 .bf16) (x1 : Vec F S1x6144 .f32) (x2 : Vec F S1024x6144 .fp8e4m3) (x3 : Vec F S8x128 .f32) (x4 : Vec F S8x128 .f32) (x5 : Vec F S2x128 .i32) (xs0 : Vec F S256x6144 .fp8e4m3) (xs1 : Vec F S2x128 .f32) (xs3 : Vec F S2x8x128 .f32) (xs4 : Vec F S2x8x128 .f32) :
    Σ' (L6 : List (View.Piece (Elt F) S2x128 .f32)), Σ' (LS0 : List (View.Piece (Elt F) S256x6144 .fp8e4m3)), Σ' (LS1 : List (View.Piece (Elt F) S2x128 .f32)), Σ' (LS3 : List (View.Piece (Elt F) S2x8x128 .f32)), { LS4 : List (View.Piece (Elt F) S2x8x128 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1 ∗ (∃ d, owns (c : Thread nD τ) arg10 fullShare d) ∗ owns (c : Thread nD τ) arg11 fullShare xs3 ∗ owns (c : Thread nD τ) arg12 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xs0 ∗ owns (c : Thread nD τ) arg9 fullShare xs1 ∗ (∃ d, owns (c : Thread nD τ) arg10 fullShare d) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4)) -∗ K ⟨⟩))
          ⊢ wp frame (wpE (defs₀ (F := F)) Variants.none c none) E (cc0_head_xent i arg1 harg1 arg2 harg2 arg3 harg3 arg4 harg4 arg5 harg5 arg6 harg6 arg7 harg7 arg8 harg8 arg9 harg9 arg10 harg10 arg11 harg11 arg12 harg12) K } := by
  refine ⟨?_, [], [], ?_, ?_, fun E K => ?run⟩
  case run =>
    simp only [cc0_head_xent_eq_skeleton]; unfold cc0_head_xent_skel
    simp only [k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%ds2, %fs2, -, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1; obtain rfl := harg11.eq_unread hfs3; obtain rfl := harg12.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]
    · iexists _; isplitr; · ipureintro; exact harg8.read_unread _
      iexact HS0
    isplitl [HS1]
    · iexists _; isplitr; · ipureintro; exact harg9.read_unread _
      iexact HS1
    isplitl [HS2]
    · iexists _, _; isplitr; swap; · iexact HS2
      ipureintro; rfl
    isplitl [HS3]; · iexists _; iexact HS3
    iexists _; iexact HS4

end Cert.KernelIdeal.Gen

end
-- ==== Proof.FrameIdeal.lean ====
module

public import proofs.«01_k».proof.Proof.RunIdealC
public import Idealize.ShloMosaic.Lib.Claim
public import Idealize.ShloMosaic.Lib.Pipeline.TableIdle

/-! # The frame of the kernel

What the output blocks and the carried accumulators hold after each grid point, the pipeline's proof data over them,
the body's triple at a generic point, and from these the run of the program: it terminates, leaves its arguments and
every counter alone, and ends with each output array at what the proof data says. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! ## The runs at a grid point's memrefs and blocks -/

/-- The body's run at the first point. -/
abbrev runA (c : Dev nD) (t : Fin cfg0.N) (h0 : cond0_0 (grid0.coords t)) (h1 : ¬cond0_1 (grid0.coords t)) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_2 (Memref.isWhole_whole _) scM0_3 (Memref.isWhole_whole _) scM0_4 (Memref.isWhole_whole _) h0 h1 (iblk m c 0 t) (iblk m c 1 t) (iblk m c 2 t) (iblk m c 3 t) (iblk m c 4 t) (iblk m c 5 t)

/-- The body's run at a point strictly between the first and the last. -/
abbrev runB (c : Dev nD) (t : Fin cfg0.N) (h0 : ¬cond0_0 (grid0.coords t)) (h1 : ¬cond0_1 (grid0.coords t)) (xs0 : Vec F S256x6144 .fp8e4m3) (xs1 : Vec F S2x128 .f32) (xs3 : Vec F S2x8x128 .f32) (xs4 : Vec F S2x8x128 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_2 (Memref.isWhole_whole _) scM0_3 (Memref.isWhole_whole _) scM0_4 (Memref.isWhole_whole _) h0 h1 (iblk m c 0 t) (iblk m c 1 t) (iblk m c 2 t) (iblk m c 3 t) (iblk m c 4 t) (iblk m c 5 t) xs0 xs1 xs3 xs4

/-- The body's run at the last point. -/
abbrev runC (c : Dev nD) (t : Fin cfg0.N) (h0 : ¬cond0_0 (grid0.coords t)) (h1 : cond0_1 (grid0.coords t)) (xs0 : Vec F S256x6144 .fp8e4m3) (xs1 : Vec F S2x128 .f32) (xs3 : Vec F S2x8x128 .f32) (xs4 : Vec F S2x8x128 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_2 (Memref.isWhole_whole _) scM0_3 (Memref.isWhole_whole _) scM0_4 (Memref.isWhole_whole _) h0 h1 (iblk m c 0 t) (iblk m c 1 t) (iblk m c 2 t) (iblk m c 3 t) (iblk m c 4 t) (iblk m c 5 t) xs0 xs1 xs3 xs4

/-- At the first point the stores into the code block cover it. -/
theorem coverA_7 (c : Dev nD) (t : Fin cfg0.N) (h0 : cond0_0 (grid0.coords t)) (h1 : ¬cond0_1 (grid0.coords t)) (y : S256x6144.Idx) :
    ∃ pc ∈ (runA m c t h0 h1).2.1, y ∈ pc.1.set :=
  View.cover_of_tiledL (runA m c t h0 h1).2.1 S32x128.size (by sl_kernel_rfl) y

/-- At the first point the stores into the scale block cover it. -/
theorem coverA_8 (c : Dev nD) (t : Fin cfg0.N) (h0 : cond0_0 (grid0.coords t)) (h1 : ¬cond0_1 (grid0.coords t)) (y : S2x128.Idx) :
    ∃ pc ∈ (runA m c t h0 h1).2.2.1, y ∈ pc.1.set :=
  View.cover_of_tiledL (runA m c t h0 h1).2.2.1 S1x128.size (by sl_kernel_rfl) y

/-- At the first point the stores into the running sum cover it. -/
theorem coverA_3 (c : Dev nD) (t : Fin cfg0.N) (h0 : cond0_0 (grid0.coords t)) (h1 : ¬cond0_1 (grid0.coords t)) (y : S2x8x128.Idx) :
    ∃ pc ∈ (runA m c t h0 h1).2.2.2.1, y ∈ pc.1.set :=
  View.cover_of_wholeMem (runA m c t h0 h1).2.2.2.1 (by sl_whole_mem) y

/-- At the first point the stores into the running pick cover it. -/
theorem coverA_4 (c : Dev nD) (t : Fin cfg0.N) (h0 : cond0_0 (grid0.coords t)) (h1 : ¬cond0_1 (grid0.coords t)) (y : S2x8x128.Idx) :
    ∃ pc ∈ (runA m c t h0 h1).2.2.2.2.1, y ∈ pc.1.set :=
  View.cover_of_wholeMem (runA m c t h0 h1).2.2.2.2.1 (by sl_whole_mem) y

/-- The stores into the running sum cover it. -/
theorem coverB_3 (c : Dev nD) (t : Fin cfg0.N) (h0 : ¬cond0_0 (grid0.coords t)) (h1 : ¬cond0_1 (grid0.coords t)) (xs0 : Vec F S256x6144 .fp8e4m3) (xs1 : Vec F S2x128 .f32) (xs3 : Vec F S2x8x128 .f32) (xs4 : Vec F S2x8x128 .f32) (y : S2x8x128.Idx) :
    ∃ pc ∈ (runB m c t h0 h1 xs0 xs1 xs3 xs4).2.2.2.1, y ∈ pc.1.set :=
  View.cover_of_tiledL (runB m c t h0 h1 xs0 xs1 xs3 xs4).2.2.2.1 S1x8x128.size (by sl_kernel_rfl) y

/-- The stores into the running pick cover it. -/
theorem coverB_4 (c : Dev nD) (t : Fin cfg0.N) (h0 : ¬cond0_0 (grid0.coords t)) (h1 : ¬cond0_1 (grid0.coords t)) (xs0 : Vec F S256x6144 .fp8e4m3) (xs1 : Vec F S2x128 .f32) (xs3 : Vec F S2x8x128 .f32) (xs4 : Vec F S2x8x128 .f32) (y : S2x8x128.Idx) :
    ∃ pc ∈ (runB m c t h0 h1 xs0 xs1 xs3 xs4).2.2.2.2.1, y ∈ pc.1.set :=
  View.cover_of_tiledL (runB m c t h0 h1 xs0 xs1 xs3 xs4).2.2.2.2.1 S1x8x128.size (by sl_kernel_rfl) y

/-- The stores into the running sum cover it. -/
theorem coverC_3 (c : Dev nD) (t : Fin cfg0.N) (h0 : ¬cond0_0 (grid0.coords t)) (h1 : cond0_1 (grid0.coords t)) (xs0 : Vec F S256x6144 .fp8e4m3) (xs1 : Vec F S2x128 .f32) (xs3 : Vec F S2x8x128 .f32) (xs4 : Vec F S2x8x128 .f32) (y : S2x8x128.Idx) :
    ∃ pc ∈ (runC m c t h0 h1 xs0 xs1 xs3 xs4).2.2.2.1, y ∈ pc.1.set :=
  View.cover_of_tiledL (runC m c t h0 h1 xs0 xs1 xs3 xs4).2.2.2.1 S1x8x128.size (by sl_kernel_rfl) y

/-- The stores into the running pick cover it. -/
theorem coverC_4 (c : Dev nD) (t : Fin cfg0.N) (h0 : ¬cond0_0 (grid0.coords t)) (h1 : cond0_1 (grid0.coords t)) (xs0 : Vec F S256x6144 .fp8e4m3) (xs1 : Vec F S2x128 .f32) (xs3 : Vec F S2x8x128 .f32) (xs4 : Vec F S2x8x128 .f32) (y : S2x8x128.Idx) :
    ∃ pc ∈ (runC m c t h0 h1 xs0 xs1 xs3 xs4).2.2.2.2.1, y ∈ pc.1.set :=
  View.cover_of_tiledL (runC m c t h0 h1 xs0 xs1 xs3 xs4).2.2.2.2.1 S1x8x128.size (by sl_kernel_rfl) y

/-- At the last point the stores into the loss block cover it. -/
theorem coverC_6 (c : Dev nD) (t : Fin cfg0.N) (h0 : ¬cond0_0 (grid0.coords t)) (h1 : cond0_1 (grid0.coords t)) (xs0 : Vec F S256x6144 .fp8e4m3) (xs1 : Vec F S2x128 .f32) (xs3 : Vec F S2x8x128 .f32) (xs4 : Vec F S2x8x128 .f32) (y : S2x128.Idx) :
    ∃ pc ∈ (runC m c t h0 h1 xs0 xs1 xs3 xs4).1, y ∈ pc.1.set :=
  View.cover_of_tiledL (runC m c t h0 h1 xs0 xs1 xs3 xs4).1 S1x128.size (by sl_kernel_rfl) y

/-! ## What the buffers hold after each point -/

/-- The first grid point. -/
abbrev t00 : Fin cfg0.N := ⟨0, by rw [show cfg0.N = 32 from N_0]; decide⟩
theorem c00 : cond0_0 (grid0.coords t00) := (hcond0_0 t00).mpr rfl
theorem n00 : ¬cond0_1 (grid0.coords t00) := fun h => absurd ((hcond0_1 t00).mp h) (by decide)

/-- The codes the first point stores. -/
def codesAt (c : Dev nD) : Vec F S256x6144 .fp8e4m3 :=
  VO0_7.read (Elt F) (VO0_7.writes (Elt F) VO0_7.junk (runA m c t00 c00 n00).2.1)
/-- The scales the first point stores. -/
def scaleAt (c : Dev nD) : Vec F S2x128 .f32 :=
  VO0_8.read (Elt F) (VO0_8.writes (Elt F) VO0_8.junk (runA m c t00 c00 n00).2.2.1)

/-- The running sum and the running pick after point `n`: the first point's stores, then each later point's over what
    the point before left. -/
def accAt (c : Dev nD) : (n : ℕ) → n < cfg0.N → Vec F S2x8x128 .f32 × Vec F S2x8x128 .f32
  | 0, _ => (VS0_3.read (Elt F) (VS0_3.writes (Elt F) VS0_3.junk (runA m c t00 c00 n00).2.2.2.1), VS0_4.read (Elt F) (VS0_4.writes (Elt F) VS0_4.junk (runA m c t00 c00 n00).2.2.2.2.1))
  | n + 1, hn =>
    if h0 : cond0_0 (grid0.coords ⟨n + 1, hn⟩) then (VS0_3.read (Elt F) VS0_3.junk, VS0_4.read (Elt F) VS0_4.junk)
    else if h1 : cond0_1 (grid0.coords ⟨n + 1, hn⟩) then
      (VS0_3.read (Elt F) (VS0_3.writes (Elt F) VS0_3.junk (runC m c ⟨n + 1, hn⟩ h0 h1 (codesAt m c) (scaleAt m c) (accAt c n (Nat.lt_of_succ_lt hn)).1 (accAt c n (Nat.lt_of_succ_lt hn)).2).2.2.2.1),
       VS0_4.read (Elt F) (VS0_4.writes (Elt F) VS0_4.junk (runC m c ⟨n + 1, hn⟩ h0 h1 (codesAt m c) (scaleAt m c) (accAt c n (Nat.lt_of_succ_lt hn)).1 (accAt c n (Nat.lt_of_succ_lt hn)).2).2.2.2.2.1))
    else
      (VS0_3.read (Elt F) (VS0_3.writes (Elt F) VS0_3.junk (runB m c ⟨n + 1, hn⟩ h0 h1 (codesAt m c) (scaleAt m c) (accAt c n (Nat.lt_of_succ_lt hn)).1 (accAt c n (Nat.lt_of_succ_lt hn)).2).2.2.2.1),
       VS0_4.read (Elt F) (VS0_4.writes (Elt F) VS0_4.junk (runB m c ⟨n + 1, hn⟩ h0 h1 (codesAt m c) (scaleAt m c) (accAt c n (Nat.lt_of_succ_lt hn)).1 (accAt c n (Nat.lt_of_succ_lt hn)).2).2.2.2.2.1))

/-- The running sum and pick the body finds at a point that is not the first. -/
abbrev prevAt (c : Dev nD) (t : Fin cfg0.N) : Vec F S2x8x128 .f32 × Vec F S2x8x128 .f32 :=
  accAt m c (t.val - 1) (Nat.lt_of_le_of_lt (Nat.sub_le _ _) t.isLt)

theorem accAt_B (c : Dev nD) (t : Fin cfg0.N) (h0 : ¬cond0_0 (grid0.coords t)) (h1 : ¬cond0_1 (grid0.coords t)) :
    accAt m c t.val t.isLt
      = (VS0_3.read (Elt F) (VS0_3.writes (Elt F) VS0_3.junk (runB m c t h0 h1 (codesAt m c) (scaleAt m c) (prevAt m c t).1 (prevAt m c t).2).2.2.2.1),
         VS0_4.read (Elt F) (VS0_4.writes (Elt F) VS0_4.junk (runB m c t h0 h1 (codesAt m c) (scaleAt m c) (prevAt m c t).1 (prevAt m c t).2).2.2.2.2.1)) := by
  obtain ⟨n, hn⟩ := t
  cases n with
  | zero => exact absurd c00 h0
  | succ n => exact (dif_neg h0).trans ((dif_neg h1).trans rfl)

theorem accAt_C (c : Dev nD) (t : Fin cfg0.N) (h0 : ¬cond0_0 (grid0.coords t)) (h1 : cond0_1 (grid0.coords t)) :
    accAt m c t.val t.isLt
      = (VS0_3.read (Elt F) (VS0_3.writes (Elt F) VS0_3.junk (runC m c t h0 h1 (codesAt m c) (scaleAt m c) (prevAt m c t).1 (prevAt m c t).2).2.2.2.1),
         VS0_4.read (Elt F) (VS0_4.writes (Elt F) VS0_4.junk (runC m c t h0 h1 (codesAt m c) (scaleAt m c) (prevAt m c t).1 (prevAt m c t).2).2.2.2.2.1)) := by
  obtain ⟨n, hn⟩ := t
  cases n with
  | zero => exact absurd c00 h0
  | succ n => exact (dif_neg h0).trans ((dif_pos h1).trans rfl)

/-- The loss block: stored at the last point, nothing before. -/
def lossAt (c : Dev nD) (t : Fin cfg0.N) : Vec F S2x128 .f32 :=
  if h0 : cond0_0 (grid0.coords t) then VO0_6.read (Elt F) VO0_6.junk
  else if h1 : cond0_1 (grid0.coords t) then
    VO0_6.read (Elt F) (VO0_6.writes (Elt F) VO0_6.junk (runC m c t h0 h1 (codesAt m c) (scaleAt m c) (prevAt m c t).1 (prevAt m c t).2).1)
  else VO0_6.read (Elt F) VO0_6.junk

theorem lossAt_C (c : Dev nD) (t : Fin cfg0.N) (h0 : ¬cond0_0 (grid0.coords t)) (h1 : cond0_1 (grid0.coords t)) :
    lossAt m c t = VO0_6.read (Elt F) (VO0_6.writes (Elt F) VO0_6.junk (runC m c t h0 h1 (codesAt m c) (scaleAt m c) (prevAt m c t).1 (prevAt m c t).2).1) := by
  unfold lossAt; rw [dif_neg h0, dif_pos h1]

/-- The invariant before position `n`: before the first point every scratch holds anything; afterwards the running sum
    and the running pick hold what the point before left. -/
def PhiS (c : Dev nD) : (n : ℕ) → n ≤ cfg0.N → sProp (MT nD τ sig Unit (Elt F) ℕ (UR sig nD τ) ℕ)
  | 0, _ => Pipeline.ΦA spec0 c
  | n + 1, hn => iprop(iprop((∃ d, owns (c : Thread nD τ) scM0_2 fullShare d) ∗ owns (c : Thread nD τ) scM0_3 fullShare (accAt m c n hn).1 ∗ owns (c : Thread nD τ) scM0_4 fullShare (accAt m c n hn).2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_2 fullShare d) ∗ owns (c : Thread nD τ) scM0_3 fullShare (accAt m c n hn).1 ∗ owns (c : Thread nD τ) scM0_4 fullShare (accAt m c n hn).2) ∗ (∃ r, prngReg c r)) := rfl

theorem PhiS_pos (c : Dev nD) (t : Fin cfg0.N) (hz : t.val ≠ 0) :
    PhiS m c t.val (Nat.le_of_lt t.isLt) = iprop(iprop((∃ d, owns (c : Thread nD τ) scM0_2 fullShare d) ∗ owns (c : Thread nD τ) scM0_3 fullShare (prevAt m c t).1 ∗ owns (c : Thread nD τ) scM0_4 fullShare (prevAt m c t).2) ∗ (∃ r, prngReg c r)) := by
  obtain ⟨n, hn⟩ := t
  cases n with
  | zero => exact absurd rfl hz
  | succ n => rfl

/-! ## The pipeline's proof data -/

/-- The proof data: the arrays as the region finds them; after the body each input's buffer at its block, the loss at
    `lossAt`, the codes and the scales at the first point's at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => lossAt m c t
    | ⟨7, _⟩ => codesAt m c
    | ⟨8, _⟩ => scaleAt m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = lossAt m c t := by dsimp only [dats]
theorem after0_7 (c : Dev nD) (t : Fin cfg0.N) : (dats m 0 c).after 7 t = codesAt m c := by dsimp only [dats]
theorem after0_8 (c : Dev nD) (t : Fin cfg0.N) : (dats m 0 c).after 8 t = scaleAt m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem fresh0_7 : ∀ t : Fin cfg0.N, ¬cond0_0 (grid0.coords t) → cfg0.fresh 7 t.val = false := by decide +kernel
/-- After the first point the body finds in output 7's buffer what the first point stored. -/
theorem before0_7 (c : Dev nD) (t : Fin cfg0.N) (h0 : ¬cond0_0 (grid0.coords t)) (d) : (dats m 0 c).before 7 t d = codesAt m c := by
  rw [(dats m 0 c).before_out_traj 7 rfl (fun _ _ => rfl) (fun t _ _ _ => by rw [after0_7, after0_7]) t.val t rfl d,
    fresh0_7 t h0, if_neg Bool.false_ne_true, after0_7]

theorem fresh0_8 : ∀ t : Fin cfg0.N, ¬cond0_0 (grid0.coords t) → cfg0.fresh 8 t.val = false := by decide +kernel
/-- After the first point the body finds in output 8's buffer what the first point stored. -/
theorem before0_8 (c : Dev nD) (t : Fin cfg0.N) (h0 : ¬cond0_0 (grid0.coords t)) (d) : (dats m 0 c).before 8 t d = scaleAt m c := by
  rw [(dats m 0 c).before_out_traj 8 rfl (fun _ _ => rfl) (fun t _ _ _ => by rw [after0_8, after0_8]) t.val t rfl d,
    fresh0_8 t h0, if_neg Bool.false_ne_true, after0_8]

/-! ## The body obligation, at a generic point -/

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves0_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
theorem leaves0_4 (c : Dev nD) (t : Fin cfg0.N) : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]
theorem leaves0_5 (c : Dev nD) (t : Fin cfg0.N) : (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
    unfold Dat.leavesExact; rw [liveAt0_5 t], after0_5]
theorem leaves0_7_A (c : Dev nD) (t : Fin cfg0.N) (h0 : cond0_0 (grid0.coords t)) (h1 : ¬cond0_1 (grid0.coords t)) : (dats m 0 c).leavesExact 7 t = owns (c : Thread nD τ) (ms0_7 t) fullShare (codesAt m c) := by
  rw [show (dats m 0 c).leavesExact 7 t = owns (c : Thread nD τ) (ms0_7 t) fullShare ((dats m 0 c).after 7 t) from by
    unfold Dat.leavesExact; rw [liveAt0_7_A t h0 h1], after0_7]
theorem leaves0_7_C (c : Dev nD) (t : Fin cfg0.N) (h0 : ¬cond0_0 (grid0.coords t)) (h1 : cond0_1 (grid0.coords t)) : (dats m 0 c).leavesExact 7 t = owns (c : Thread nD τ) (ms0_7 t) fullShare (codesAt m c) := by
  rw [show (dats m 0 c).leavesExact 7 t = owns (c : Thread nD τ) (ms0_7 t) fullShare ((dats m 0 c).after 7 t) from by
    unfold Dat.leavesExact; rw [idleAt0_7 t h0, flushAt0_7 t h1], after0_7]
theorem leaves0_8_A (c : Dev nD) (t : Fin cfg0.N) (h0 : cond0_0 (grid0.coords t)) (h1 : ¬cond0_1 (grid0.coords t)) : (dats m 0 c).leavesExact 8 t = owns (c : Thread nD τ) (ms0_8 t) fullShare (scaleAt m c) := by
  rw [show (dats m 0 c).leavesExact 8 t = owns (c : Thread nD τ) (ms0_8 t) fullShare ((dats m 0 c).after 8 t) from by
    unfold Dat.leavesExact; rw [liveAt0_8_A t h0 h1], after0_8]
theorem leaves0_8_C (c : Dev nD) (t : Fin cfg0.N) (h0 : ¬cond0_0 (grid0.coords t)) (h1 : cond0_1 (grid0.coords t)) : (dats m 0 c).leavesExact 8 t = owns (c : Thread nD τ) (ms0_8 t) fullShare (scaleAt m c) := by
  rw [show (dats m 0 c).leavesExact 8 t = owns (c : Thread nD τ) (ms0_8 t) fullShare ((dats m 0 c).after 8 t) from by
    unfold Dat.leavesExact; rw [idleAt0_8 t h0, flushAt0_8 t h1], after0_8]

set_option maxHeartbeats 4000000 in
/-- The body at the first point. -/
theorem sound_A (c : Dev nD) (t : Fin cfg0.N) (h0 : cond0_0 (grid0.coords t)) (h1 : ¬cond0_1 (grid0.coords t)) (ht : t = t00) :
    bodyPre m c t ⊢ wp frame (wpE (defs₀ (F := F)) Variants.none c none) Set.univ (bodyAt0 t) (fun _ => bodyPost m c t) := by
  subst ht
  let t : Fin cfg0.N := t00
  unfold bodyPre bodyPost bodyAt0
  simp only [before0_0, before0_1, before0_2, before0_3, before0_4, before0_5]
  rw [show (dats m 0 c).owesAt () t00.succ = (dats m 0 c).owesAt () t00.castSucc from rfl]
  rw [show (dats m 0 c).Φ t00.succ = PhiS m c (t00.val + 1) t00.isLt from rfl, PhiS_succ]
  rw [leaves0_0, leaves0_1, leaves0_2, leaves0_3, leaves0_4, leaves0_5]
  rw [Dat.leavesExact_idle (dats m 0 c) 6 t00 (idleAt0_6_A t00 h0 h1) (noFlush0_6_A t00 h0 h1), leaves0_7_A m c t00 h0 h1, leaves0_8_A m c t00 h0 h1]
  rw [PhiS_castSucc m c t00, PhiS_zero m c _ _ rfl, PhiA0_eq]
  unfold codesAt scaleAt accAt; dsimp only
  iintro ⟨⟨⟨HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runA m c t00 h0 h1).2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS2]; · iexact HS2
  isplitl [HS3]; · iexact HS3
  isplitl [HS4]; · iexact HS4
  iintro ⟨H0, H1, H2, H3, H4, H5, H6, ⟨%e7, H7⟩, ⟨%e8, H8⟩, HS2, ⟨%es3, HS3⟩, ⟨%es4, HS4⟩⟩
  isplitl [HS2 HS3 HS4 Hg]
  · isplitl [HS2 HS3 HS4]
    · isplitl [HS2]
      · iexact HS2
      isplitl [HS3]
      · unfold owns; iexists _; isplitr
        swap; · iexact HS3
        ipureintro; exact View.read_writes_of_cover _ _ _ _ _ (coverA_3 m c t00 h0 h1)
      unfold owns; iexists _; isplitr
      swap; · iexact HS4
      ipureintro; exact View.read_writes_of_cover _ _ _ _ _ (coverA_4 m c t00 h0 h1)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]
  · unfold owns; iexists _; isplitr
    swap; · iexact H7
    ipureintro; exact View.read_writes_of_cover _ _ _ _ _ (coverA_7 m c t00 h0 h1)
  unfold owns; iexists _; isplitr
  swap; · iexact H8
  ipureintro; exact View.read_writes_of_cover _ _ _ _ _ (coverA_8 m c t00 h0 h1)

set_option maxHeartbeats 4000000 in
/-- The body at a point strictly between the first and the last. -/
theorem sound_B (c : Dev nD) (t : Fin cfg0.N) (h0 : ¬cond0_0 (grid0.coords t)) (h1 : ¬cond0_1 (grid0.coords t)) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5]
  rw [Dat.leavesExact_idle (dats m 0 c) 6 t (idleAt0_6_B t h0 h1) (noFlush0_6_B t h0 h1), Dat.leavesExact_idle (dats m 0 c) 7 t (idleAt0_7 t h0) (noFlush0_7 t h1), Dat.leavesExact_idle (dats m 0 c) 8 t (idleAt0_8 t h0) (noFlush0_8 t h1)]
  simp only [before0_7 m c t h0, before0_8 m c t h0]
  rw [PhiS_castSucc m c t, PhiS_pos m c t hz, accAt_B m c t h0 h1]; dsimp only
  iintro ⟨⟨⟨HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runB m c t h0 h1 _ _ _ _).2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS2]; · iexact HS2
  isplitl [HS3]; · iexact HS3
  isplitl [HS4]; · iexact HS4
  iintro ⟨H0, H1, H2, H3, H4, H5, H6, H7, H8, HS2, ⟨%es3, HS3⟩, ⟨%es4, HS4⟩⟩
  isplitl [HS2 HS3 HS4 Hg]
  · isplitl [HS2 HS3 HS4]
    · isplitl [HS2]
      · iexact HS2
      isplitl [HS3]
      · unfold owns; iexists _; isplitr
        swap; · iexact HS3
        ipureintro; exact View.read_writes_of_cover _ _ _ _ _ (coverB_3 m c t h0 h1 _ _ _ _)
      unfold owns; iexists _; isplitr
      swap; · iexact HS4
      ipureintro; exact View.read_writes_of_cover _ _ _ _ _ (coverB_4 m c t h0 h1 _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists d7; iexact H7
  iexists d8; iexact H8

set_option maxHeartbeats 4000000 in
/-- The body at the last point. -/
theorem sound_C (c : Dev nD) (t : Fin cfg0.N) (h0 : ¬cond0_0 (grid0.coords t)) (h1 : cond0_1 (grid0.coords t)) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5]
  rw [show (dats m 0 c).leavesExact 6 t = owns (c : Thread nD τ) (ms0_6 t) fullShare ((dats m 0 c).after 6 t) from by
    unfold Dat.leavesExact; rw [liveAt0_6_C t h0 h1], after0_6, leaves0_7_C m c t h0 h1, leaves0_8_C m c t h0 h1]
  simp only [before0_7 m c t h0, before0_8 m c t h0]
  rw [PhiS_castSucc m c t, PhiS_pos m c t hz, accAt_C m c t h0 h1, lossAt_C m c t h0 h1]; dsimp only
  iintro ⟨⟨⟨HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runC m c t h0 h1 _ _ _ _).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [HS2]; · iexact HS2
  isplitl [HS3]; · iexact HS3
  isplitl [HS4]; · iexact HS4
  iintro ⟨H0, H1, H2, H3, H4, H5, ⟨%e6, H6⟩, H7, H8, HS2, ⟨%es3, HS3⟩, ⟨%es4, HS4⟩⟩
  isplitl [HS2 HS3 HS4 Hg]
  · isplitl [HS2 HS3 HS4]
    · isplitl [HS2]
      · iexact HS2
      isplitl [HS3]
      · unfold owns; iexists _; isplitr
        swap; · iexact HS3
        ipureintro; exact View.read_writes_of_cover _ _ _ _ _ (coverC_3 m c t h0 h1 _ _ _ _)
      unfold owns; iexists _; isplitr
      swap; · iexact HS4
      ipureintro; exact View.read_writes_of_cover _ _ _ _ _ (coverC_4 m c t h0 h1 _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (coverC_6 m c t h0 h1 _ _ _ _)
  isplitl [H7]; · iexact H7
  iexact H8

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  by_cases h0 : cond0_0 (grid0.coords t)
  · have e := (hcond0_0 t).mp h0
    have h1 : ¬cond0_1 (grid0.coords t) := fun h => by have := (hcond0_1 t).mp h; omega
    exact sound_A m c t h0 h1 (Fin.ext (show t.val = 0 by omega))
  · have hz : t.val ≠ 0 := fun h => h0 ((hcond0_0 t).mpr (by omega))
    by_cases h1 : cond0_1 (grid0.coords t)
    · exact sound_C m c t h0 h1 hz
    · exact sound_B m c t h0 h1 hz

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives every scratch back at some contents. -/
theorem hout (c : Dev nD) : (dats m 0 c).Φ (Fin.last cfg0.N) ⊢ Pipeline.ΦA spec0 c := by
  rw [show (dats m 0 c).Φ (Fin.last cfg0.N) = PhiS m c (31 + 1) (by rw [show cfg0.N = 32 from N_0]) from rfl, PhiS_succ, PhiA0_eq]
  iintro ⟨⟨HS2, HS3, HS4⟩, Hg⟩
  isplitl [HS2 HS3 HS4]
  · isplitl [HS2]
    · iexact HS2
    isplitl [HS3]
    · iexists _; iexact HS3
    iexists _; iexact HS4
  iexact Hg

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_KernelIdeal`'s statement  at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Gen

end
-- ==== Proof.TripIdeal.lean ====
/-
  One trip of the kernel's loop over the rows, read at an index: thirty-two rows are normalised and quantised, and every
  code and every step the trip stores is stated as a function of its row alone.
-/
module

public import proofs.«01_k».proof.Proof.FrameIdeal
public import Idealize.ShloMosaic.Lib.Pointwise

@[expose] public section
set_option maxRecDepth 16384
noncomputable section
namespace Cert.KernelIdeal.Gen
open Idealize.ShloMosaic Idealize.ShloMosaic.TcCoe

/-- Row `a`, column `n` of a matrix of 256 rows of 6144, zero outside. -/
def xr (X : Vec Ideal S256x6144 .bf16) (a n : ℕ) : EReal :=
  if h : a < 256 ∧ n < 6144 then X (ix2 ⟨a, h.1⟩ ⟨n, h.2⟩) else 0

/-- Column `n` of a row of 6144, zero outside. -/
def wr (W : Vec Ideal S1x6144 .f32) (n : ℕ) : EReal :=
  if h : n < 6144 then W (ix2 0 ⟨n, h⟩) else 0

/-- A load of a 32 by 128 window reads the window's place of the matrix. -/
theorem rd_x (v : View sig .tc .vmem S256x6144 .bf16) (X : v.ty.Contents (Elt Ideal)) (off : Fin 2 → ℕ) (a n : ℕ) (ho : off = ![a, n])
    (inb : ∀ q, off q + (![32, 128] : Fin 2 → ℕ) q ≤ S256x6144.size q) (r : Fin 32) (l : Fin 128) :
    v.readAt (Elt Ideal) (Rect.unit (s := S256x6144) off ![32, 128] inb).toLoadRect X (ix2 r l) = xr (v.read (Elt Ideal) X) (a + r.val) (n + l.val) := by
  subst ho
  have h0 : a + 32 ≤ 256 := inb 0
  have h1 : n + 128 ≤ 6144 := inb 1
  have hr := r.isLt
  have hl := l.isLt
  unfold xr
  rw [dif_pos ⟨by omega, by omega⟩]
  refine congrArg (v.read (Elt Ideal) X) (funext fun q => Fin.ext ?_)
  match q with
  | ⟨0, _⟩ => show a + 1 * r.val = a + r.val; omega
  | ⟨1, _⟩ => show n + 1 * l.val = n + l.val; omega

/-- A load of a row of 128 columns reads its place of the row. -/
theorem rd_w (v : View sig .tc .vmem S1x6144 .f32) (X : v.ty.Contents (Elt Ideal)) (n : ℕ)
    (inb : ∀ q, (![0, n] : Fin 2 → ℕ) q + (![1, 128] : Fin 2 → ℕ) q ≤ S1x6144.size q) (l : Fin 128) :
    v.readAt (Elt Ideal) (Rect.unit (s := S1x6144) ![0, n] ![1, 128] inb).toLoadRect X (ix2 0 l) = wr (v.read (Elt Ideal) X) (n + l.val) := by
  have h1 : n + 128 ≤ 6144 := inb 1
  have hl := l.isLt
  unfold wr
  rw [dif_pos (by omega)]
  refine congrArg (v.read (Elt Ideal) X) (funext fun q => Fin.ext ?_)
  match q with
  | ⟨0, _⟩ => rfl
  | ⟨1, _⟩ => show n + 1 * l.val = n + l.val; omega

/-- The greatest of zero and the first `n` values. -/
def runMax (g : ℕ → EReal) : ℕ → EReal
  | 0 => 0
  | n + 1 => max (runMax g n) (g n)

/-- One row's factor `rsqrt(mean of squares + ε)`, the mean as the kernel adds it: lane by lane over 48 blocks, then the lanes. -/
def kRs (x : ℕ → EReal) : EReal :=
  Ideal.rsqrt ((∑ l : Fin 128, ∑ c ∈ Finset.range 48, x (128 * c + l.val) * x (128 * c + l.val)) * (Named.named κ "inv_d" 0x392AAAAB#32 : Ideal .f32)
    + Ideal.ofBits .f32 0x358637BD#32)

/-- One row's normalised entries. -/
def kH (x w : ℕ → EReal) (n : ℕ) : EReal := x n * kRs x * w n

/-- One row's step before its exponent is taken: the greatest magnitude, lane by lane and then over the lanes, times 1/448. -/
def kT (x w : ℕ → EReal) : EReal :=
  Finset.fold max (Ideal.ofBits .f32 0xFF800000#32) (fun l : Fin 128 => runMax (fun c => FloatOps.absf (F := Ideal) (φ := .f32) (kH x w (128 * c + l.val))) 48) Finset.univ
    * Ideal.ofBits .f32 0x3B124925#32

variable (i : grid0.Coords) (arg1 : Memref sig .tc .vmem S256x6144 .bf16) (arg2 : Memref sig .tc .vmem S1x6144 .f32) (k0_h1 : k0_cond1 i = 1#1) (X_arg1 : BufTy.Contents (Elt Ideal) arg1.view.ty) (X_arg2 : BufTy.Contents (Elt Ideal) arg2.view.ty) (k : Fin k0_t1_loop.trips)

/-- Row `r` of trip `k`, as the kernel finds it. -/
abbrev tx (r : Fin 32) (n : ℕ) : EReal := xr (arg1.view.read (Elt Ideal) X_arg1) (32 * k.val + r.val) n
/-- The weights of the normalisation. -/
abbrev tw (n : ℕ) : EReal := wr (arg2.view.read (Elt Ideal) X_arg2) n

theorem v731_apply (r : Fin 32) (l : Fin 128) : trip_k0_t1.sl.v731 (F := Ideal) i arg1 k0_h1 X_arg1 k (ix2 r l)
    = ∑ c ∈ Finset.range 42, tx arg1 X_arg1 k r (128 * c + l.val) * tx arg1 X_arg1 k r (128 * c + l.val) := by
  simp only [Finset.sum_range_succ, Finset.sum_range_zero, Nat.reduceMul, zero_add, Nat.zero_add, tx]
  pointwise [trip_k0_t1.sl.v731, trip_k0_t1.sl.v725, trip_k0_t1.sl.v719, trip_k0_t1.sl.v713, trip_k0_t1.sl.v707, trip_k0_t1.sl.v701, trip_k0_t1.sl.v695, trip_k0_t1.sl.v689,
    trip_k0_t1.sl.v683, trip_k0_t1.sl.v677, trip_k0_t1.sl.v671, trip_k0_t1.sl.v665, trip_k0_t1.sl.v659, trip_k0_t1.sl.v653, trip_k0_t1.sl.v647, trip_k0_t1.sl.v641,
    trip_k0_t1.sl.v635, trip_k0_t1.sl.v629, trip_k0_t1.sl.v623, trip_k0_t1.sl.v617, trip_k0_t1.sl.v611, trip_k0_t1.sl.v605, trip_k0_t1.sl.v599, trip_k0_t1.sl.v593,
    trip_k0_t1.sl.v587, trip_k0_t1.sl.v581, trip_k0_t1.sl.v575, trip_k0_t1.sl.v569, trip_k0_t1.sl.v563, trip_k0_t1.sl.v557, trip_k0_t1.sl.v551, trip_k0_t1.sl.v545,
    trip_k0_t1.sl.v539, trip_k0_t1.sl.v533, trip_k0_t1.sl.v527, trip_k0_t1.sl.v521, trip_k0_t1.sl.v515, trip_k0_t1.sl.v509, trip_k0_t1.sl.v503, trip_k0_t1.sl.v497,
    trip_k0_t1.sl.v491, trip_k0_t1.sl.v485, trip_k0_t1.sl.v479, trip_k0_t1.sl.cst_137, trip_k0_t1.sl.v484, trip_k0_t1.sl.v483, trip_k0_t1.sl.v482, trip_k0_t1.sl.v490,
    trip_k0_t1.sl.v489, trip_k0_t1.sl.v488, trip_k0_t1.sl.v496, trip_k0_t1.sl.v495, trip_k0_t1.sl.v494, trip_k0_t1.sl.v502, trip_k0_t1.sl.v501, trip_k0_t1.sl.v500,
    trip_k0_t1.sl.v508, trip_k0_t1.sl.v507, trip_k0_t1.sl.v506, trip_k0_t1.sl.v514, trip_k0_t1.sl.v513, trip_k0_t1.sl.v512, trip_k0_t1.sl.v520, trip_k0_t1.sl.v519,
    trip_k0_t1.sl.v518, trip_k0_t1.sl.v526, trip_k0_t1.sl.v525, trip_k0_t1.sl.v524, trip_k0_t1.sl.v532, trip_k0_t1.sl.v531, trip_k0_t1.sl.v530, trip_k0_t1.sl.v538,
    trip_k0_t1.sl.v537, trip_k0_t1.sl.v536, trip_k0_t1.sl.v544, trip_k0_t1.sl.v543, trip_k0_t1.sl.v542, trip_k0_t1.sl.v550, trip_k0_t1.sl.v549, trip_k0_t1.sl.v548,
    trip_k0_t1.sl.v556, trip_k0_t1.sl.v555, trip_k0_t1.sl.v554, trip_k0_t1.sl.v562, trip_k0_t1.sl.v561, trip_k0_t1.sl.v560, trip_k0_t1.sl.v568, trip_k0_t1.sl.v567,
    trip_k0_t1.sl.v566, trip_k0_t1.sl.v574, trip_k0_t1.sl.v573, trip_k0_t1.sl.v572, trip_k0_t1.sl.v580, trip_k0_t1.sl.v579, trip_k0_t1.sl.v578, trip_k0_t1.sl.r,
    trip_k0_t1.sl.v586, trip_k0_t1.sl.v585, trip_k0_t1.sl.v584, trip_k0_t1.sl.v592, trip_k0_t1.sl.v591, trip_k0_t1.sl.v590, trip_k0_t1.sl.v598, trip_k0_t1.sl.v597,
    trip_k0_t1.sl.v596, trip_k0_t1.sl.v604, trip_k0_t1.sl.v603, trip_k0_t1.sl.v602, trip_k0_t1.sl.v610, trip_k0_t1.sl.v609, trip_k0_t1.sl.v608, trip_k0_t1.sl.v616,
    trip_k0_t1.sl.v615, trip_k0_t1.sl.v614, trip_k0_t1.sl.v622, trip_k0_t1.sl.v621, trip_k0_t1.sl.v620, trip_k0_t1.sl.v628, trip_k0_t1.sl.v627, trip_k0_t1.sl.v626,
    trip_k0_t1.sl.v634, trip_k0_t1.sl.v633, trip_k0_t1.sl.v632, trip_k0_t1.sl.v640, trip_k0_t1.sl.v639, trip_k0_t1.sl.v638, trip_k0_t1.sl.v646, trip_k0_t1.sl.v645,
    trip_k0_t1.sl.v644, trip_k0_t1.sl.v652, trip_k0_t1.sl.v651, trip_k0_t1.sl.v650, trip_k0_t1.sl.v658, trip_k0_t1.sl.v657, trip_k0_t1.sl.v656, trip_k0_t1.sl.v664,
    trip_k0_t1.sl.v663, trip_k0_t1.sl.v662, trip_k0_t1.sl.v670, trip_k0_t1.sl.v669, trip_k0_t1.sl.v668, trip_k0_t1.sl.v676, trip_k0_t1.sl.v675, trip_k0_t1.sl.v674,
    trip_k0_t1.sl.v682, trip_k0_t1.sl.v681, trip_k0_t1.sl.v680, trip_k0_t1.sl.v688, trip_k0_t1.sl.v687, trip_k0_t1.sl.v686, trip_k0_t1.sl.v694, trip_k0_t1.sl.v693,
    trip_k0_t1.sl.v692, trip_k0_t1.sl.v700, trip_k0_t1.sl.v699, trip_k0_t1.sl.v698, trip_k0_t1.sl.v706, trip_k0_t1.sl.v705, trip_k0_t1.sl.v704, trip_k0_t1.sl.v712,
    trip_k0_t1.sl.v711, trip_k0_t1.sl.v710, trip_k0_t1.sl.v718, trip_k0_t1.sl.v717, trip_k0_t1.sl.v716, trip_k0_t1.sl.v724, trip_k0_t1.sl.v723, trip_k0_t1.sl.v722,
    trip_k0_t1.sl.v730, trip_k0_t1.sl.v729, trip_k0_t1.sl.v728]
  simp only [rd_x arg1.view X_arg1 (k0_off1 k) _ _ (k0_off1_eq k), rd_x arg1.view X_arg1 (k0_off2 k) _ _ (k0_off2_eq k),
    rd_x arg1.view X_arg1 (k0_off3 k) _ _ (k0_off3_eq k), rd_x arg1.view X_arg1 (k0_off4 k) _ _ (k0_off4_eq k),
    rd_x arg1.view X_arg1 (k0_off5 k) _ _ (k0_off5_eq k), rd_x arg1.view X_arg1 (k0_off6 k) _ _ (k0_off6_eq k),
    rd_x arg1.view X_arg1 (k0_off7 k) _ _ (k0_off7_eq k), rd_x arg1.view X_arg1 (k0_off8 k) _ _ (k0_off8_eq k),
    rd_x arg1.view X_arg1 (k0_off9 k) _ _ (k0_off9_eq k), rd_x arg1.view X_arg1 (k0_off10 k) _ _ (k0_off10_eq k),
    rd_x arg1.view X_arg1 (k0_off11 k) _ _ (k0_off11_eq k), rd_x arg1.view X_arg1 (k0_off12 k) _ _ (k0_off12_eq k),
    rd_x arg1.view X_arg1 (k0_off13 k) _ _ (k0_off13_eq k), rd_x arg1.view X_arg1 (k0_off14 k) _ _ (k0_off14_eq k),
    rd_x arg1.view X_arg1 (k0_off15 k) _ _ (k0_off15_eq k), rd_x arg1.view X_arg1 (k0_off16 k) _ _ (k0_off16_eq k),
    rd_x arg1.view X_arg1 (k0_off17 k) _ _ (k0_off17_eq k), rd_x arg1.view X_arg1 (k0_off18 k) _ _ (k0_off18_eq k),
    rd_x arg1.view X_arg1 (k0_off19 k) _ _ (k0_off19_eq k), rd_x arg1.view X_arg1 (k0_off20 k) _ _ (k0_off20_eq k),
    rd_x arg1.view X_arg1 (k0_off21 k) _ _ (k0_off21_eq k), rd_x arg1.view X_arg1 (k0_off22 k) _ _ (k0_off22_eq k),
    rd_x arg1.view X_arg1 (k0_off23 k) _ _ (k0_off23_eq k), rd_x arg1.view X_arg1 (k0_off24 k) _ _ (k0_off24_eq k),
    rd_x arg1.view X_arg1 (k0_off25 k) _ _ (k0_off25_eq k), rd_x arg1.view X_arg1 (k0_off26 k) _ _ (k0_off26_eq k),
    rd_x arg1.view X_arg1 (k0_off27 k) _ _ (k0_off27_eq k), rd_x arg1.view X_arg1 (k0_off28 k) _ _ (k0_off28_eq k),
    rd_x arg1.view X_arg1 (k0_off29 k) _ _ (k0_off29_eq k), rd_x arg1.view X_arg1 (k0_off30 k) _ _ (k0_off30_eq k),
    rd_x arg1.view X_arg1 (k0_off31 k) _ _ (k0_off31_eq k), rd_x arg1.view X_arg1 (k0_off32 k) _ _ (k0_off32_eq k),
    rd_x arg1.view X_arg1 (k0_off33 k) _ _ (k0_off33_eq k), rd_x arg1.view X_arg1 (k0_off34 k) _ _ (k0_off34_eq k),
    rd_x arg1.view X_arg1 (k0_off35 k) _ _ (k0_off35_eq k), rd_x arg1.view X_arg1 (k0_off36 k) _ _ (k0_off36_eq k),
    rd_x arg1.view X_arg1 (k0_off37 k) _ _ (k0_off37_eq k), rd_x arg1.view X_arg1 (k0_off38 k) _ _ (k0_off38_eq k),
    rd_x arg1.view X_arg1 (k0_off39 k) _ _ (k0_off39_eq k), rd_x arg1.view X_arg1 (k0_off40 k) _ _ (k0_off40_eq k),
    rd_x arg1.view X_arg1 (k0_off41 k) _ _ (k0_off41_eq k), rd_x arg1.view X_arg1 (k0_off42 k) _ _ (k0_off42_eq k), Nat.zero_add, zero_add]

/-- The row's factor. -/
theorem r1_apply (r : Fin 32) : trip_k0_t1.sl.r_1 (F := Ideal) i arg1 k0_h1 X_arg1 k (ix2 r 0) = kRs (tx arg1 X_arg1 k r) := by
  unfold kRs
  simp only [Finset.sum_range_succ _ 47, Finset.sum_range_succ _ 46, Finset.sum_range_succ _ 45, Finset.sum_range_succ _ 44,
    Finset.sum_range_succ _ 43, Finset.sum_range_succ _ 42, Nat.reduceMul, tx]
  pointwise [k0_pay10, trip_k0_t1.sl.r_1]
  simp only [v731_apply, rd_x arg1.view X_arg1 (k0_off43 k) _ _ (k0_off43_eq k), rd_x arg1.view X_arg1 (k0_off44 k) _ _ (k0_off44_eq k),
    rd_x arg1.view X_arg1 (k0_off45 k) _ _ (k0_off45_eq k), rd_x arg1.view X_arg1 (k0_off46 k) _ _ (k0_off46_eq k),
    rd_x arg1.view X_arg1 (k0_off47 k) _ _ (k0_off47_eq k), rd_x arg1.view X_arg1 (k0_off48 k) _ _ (k0_off48_eq k), Nat.zero_add, tx]

theorem r2_apply (r : Fin 32) (l : Fin 128) : trip_k0_t1.sl.r_2 (F := Ideal) i arg1 k0_h1 X_arg1 k (ix2 r l)
    = tx arg1 X_arg1 k r (0 + l.val) * kRs (tx arg1 X_arg1 k r) := by
  rw [← r1_apply i arg1 k0_h1 X_arg1 k r]
  pointwise [k0_pay12, trip_k0_t1.sl.r_2, trip_k0_t1.sl.r_1]
  simp only [rd_x arg1.view X_arg1 (k0_off1 k) _ _ (k0_off1_eq k), Nat.zero_add, tx]

/-! ## The normalised entries, block by block -/

theorem h0_apply (r : Fin 32) (l : Fin 128) : trip_k0_t1.sl.v785 (F := Ideal) i arg1 arg2 k0_h1 X_arg1 X_arg2 k (ix2 r l)
    = kH (tx arg1 X_arg1 k r) (tw arg2 X_arg2) (0 + l.val) := by
  unfold kH
  pointwise [trip_k0_t1.sl.v785, trip_k0_t1.sl.v784, trip_k0_t1.sl.v783]
  simp only [r1_apply, r2_apply, rd_w, tx, tw, Nat.zero_add]

theorem h1_apply (r : Fin 32) (l : Fin 128) : trip_k0_t1.sl.v797 (F := Ideal) i arg1 arg2 k0_h1 X_arg1 X_arg2 k (ix2 r l)
    = kH (tx arg1 X_arg1 k r) (tw arg2 X_arg2) (128 + l.val) := by
  unfold kH
  pointwise [trip_k0_t1.sl.v797, trip_k0_t1.sl.v793, trip_k0_t1.sl.v489, trip_k0_t1.sl.v488, trip_k0_t1.sl.v792, trip_k0_t1.sl.v796, trip_k0_t1.sl.v795]
  simp only [r1_apply, r2_apply, rd_x arg1.view X_arg1 (k0_off2 k) _ _ (k0_off2_eq k), rd_w, tx, tw, Nat.zero_add]

theorem h2_apply (r : Fin 32) (l : Fin 128) : trip_k0_t1.sl.v809 (F := Ideal) i arg1 arg2 k0_h1 X_arg1 X_arg2 k (ix2 r l)
    = kH (tx arg1 X_arg1 k r) (tw arg2 X_arg2) (256 + l.val) := by
  unfold kH
  pointwise [trip_k0_t1.sl.v809, trip_k0_t1.sl.v805, trip_k0_t1.sl.v495, trip_k0_t1.sl.v494, trip_k0_t1.sl.v792, trip_k0_t1.sl.v808, trip_k0_t1.sl.v807]
  simp only [r1_apply, r2_apply, rd_x arg1.view X_arg1 (k0_off3 k) _ _ (k0_off3_eq k), rd_w, tx, tw, Nat.zero_add]

theorem h3_apply (r : Fin 32) (l : Fin 128) : trip_k0_t1.sl.v821 (F := Ideal) i arg1 arg2 k0_h1 X_arg1 X_arg2 k (ix2 r l)
    = kH (tx arg1 X_arg1 k r) (tw arg2 X_arg2) (384 + l.val) := by
  unfold kH
  pointwise [trip_k0_t1.sl.v821, trip_k0_t1.sl.v817, trip_k0_t1.sl.v501, trip_k0_t1.sl.v500, trip_k0_t1.sl.v792, trip_k0_t1.sl.v820, trip_k0_t1.sl.v819]
  simp only [r1_apply, r2_apply, rd_x arg1.view X_arg1 (k0_off4 k) _ _ (k0_off4_eq k), rd_w, tx, tw, Nat.zero_add]

theorem h4_apply (r : Fin 32) (l : Fin 128) : trip_k0_t1.sl.v833 (F := Ideal) i arg1 arg2 k0_h1 X_arg1 X_arg2 k (ix2 r l)
    = kH (tx arg1 X_arg1 k r) (tw arg2 X_arg2) (512 + l.val) := by
  unfold kH
  pointwise [trip_k0_t1.sl.v833, trip_k0_t1.sl.v829, trip_k0_t1.sl.v507, trip_k0_t1.sl.v506, trip_k0_t1.sl.v792, trip_k0_t1.sl.v832, trip_k0_t1.sl.v831]
  simp only [r1_apply, r2_apply, rd_x arg1.view X_arg1 (k0_off5 k) _ _ (k0_off5_eq k), rd_w, tx, tw, Nat.zero_add]

theorem h5_apply (r : Fin 32) (l : Fin 128) : trip_k0_t1.sl.v845 (F := Ideal) i arg1 arg2 k0_h1 X_arg1 X_arg2 k (ix2 r l)
    = kH (tx arg1 X_arg1 k r) (tw arg2 X_arg2) (640 + l.val) := by
  unfold kH
  pointwise [trip_k0_t1.sl.v845, trip_k0_t1.sl.v841, trip_k0_t1.sl.v513, trip_k0_t1.sl.v512, trip_k0_t1.sl.v792, trip_k0_t1.sl.v844, trip_k0_t1.sl.v843]
  simp only [r1_apply, r2_apply, rd_x arg1.view X_arg1 (k0_off6 k) _ _ (k0_off6_eq k), rd_w, tx, tw, Nat.zero_add]

theorem h6_apply (r : Fin 32) (l : Fin 128) : trip_k0_t1.sl.v857 (F := Ideal) i arg1 arg2 k0_h1 X_arg1 X_arg2 k (ix2 r l)
    = kH (tx arg1 X_arg1 k r) (tw arg2 X_arg2) (768 + l.val) := by
  unfold kH
  pointwise [trip_k0_t1.sl.v857, trip_k0_t1.sl.v853, trip_k0_t1.sl.v519, trip_k0_t1.sl.v518, trip_k0_t1.sl.v792, trip_k0_t1.sl.v856, trip_k0_t1.sl.v855]
  simp only [r1_apply, r2_apply, rd_x arg1.view X_arg1 (k0_off7 k) _ _ (k0_off7_eq k), rd_w, tx, tw, Nat.zero_add]

theorem h7_apply (r : Fin 32) (l : Fin 128) : trip_k0_t1.sl.v869 (F := Ideal) i arg1 arg2 k0_h1 X_arg1 X_arg2 k (ix2 r l)
    = kH (tx arg1 X_arg1 k r) (tw arg2 X_arg2) (896 + l.val) := by
  unfold kH
  pointwise [trip_k0_t1.sl.v869, trip_k0_t1.sl.v865, trip_k0_t1.sl.v525, trip_k0_t1.sl.v524, trip_k0_t1.sl.v792, trip_k0_t1.sl.v868, trip_k0_t1.sl.v867]
  simp only [r1_apply, r2_apply, rd_x arg1.view X_arg1 (k0_off8 k) _ _ (k0_off8_eq k), rd_w, tx, tw, Nat.zero_add]

theorem h8_apply (r : Fin 32) (l : Fin 128) : trip_k0_t1.sl.v881 (F := Ideal) i arg1 arg2 k0_h1 X_arg1 X_arg2 k (ix2 r l)
    = kH (tx arg1 X_arg1 k r) (tw arg2 X_arg2) (1024 + l.val) := by
  unfold kH
  pointwise [trip_k0_t1.sl.v881, trip_k0_t1.sl.v877, trip_k0_t1.sl.v531, trip_k0_t1.sl.v530, trip_k0_t1.sl.v792, trip_k0_t1.sl.v880, trip_k0_t1.sl.v879]
  simp only [r1_apply, r2_apply, rd_x arg1.view X_arg1 (k0_off9 k) _ _ (k0_off9_eq k), rd_w, tx, tw, Nat.zero_add]

theorem h9_apply (r : Fin 32) (l : Fin 128) : trip_k0_t1.sl.v893 (F := Ideal) i arg1 arg2 k0_h1 X_arg1 X_arg2 k (ix2 r l)
    = kH (tx arg1 X_arg1 k r) (tw arg2 X_arg2) (1152 + l.val) := by
  unfold kH
  pointwise [trip_k0_t1.sl.v893, trip_k0_t1.sl.v889, trip_k0_t1.sl.v537, trip_k0_t1.sl.v536, trip_k0_t1.sl.v792, trip_k0_t1.sl.v892, trip_k0_t1.sl.v891]
  simp only [r1_apply, r2_apply, rd_x arg1.view X_arg1 (k0_off10 k) _ _ (k0_off10_eq k), rd_w, tx, tw, Nat.zero_add]

theorem h10_apply (r : Fin 32) (l : Fin 128) : trip_k0_t1.sl.v905 (F := Ideal) i arg1 arg2 k0_h1 X_arg1 X_arg2 k (ix2 r l)
    = kH (tx arg1 X_arg1 k r) (tw arg2 X_arg2) (1280 + l.val) := by
  unfold kH
  pointwise [trip_k0_t1.sl.v905, trip_k0_t1.sl.v901, trip_k0_t1.sl.v543, trip_k0_t1.sl.v542, trip_k0_t1.sl.v792, trip_k0_t1.sl.v904, trip_k0_t1.sl.v903]
  simp only [r1_apply, r2_apply, rd_x arg1.view X_arg1 (k0_off11 k) _ _ (k0_off11_eq k), rd_w, tx, tw, Nat.zero_add]

theorem h11_apply (r : Fin 32) (l : Fin 128) : trip_k0_t1.sl.v917 (F := Ideal) i arg1 arg2 k0_h1 X_arg1 X_arg2 k (ix2 r l)
    = kH (tx arg1 X_arg1 k r) (tw arg2 X_arg2) (1408 + l.val) := by
  unfold kH
  pointwise [trip_k0_t1.sl.v917, trip_k0_t1.sl.v913, trip_k0_t1.sl.v549, trip_k0_t1.sl.v548, trip_k0_t1.sl.v792, trip_k0_t1.sl.v916, trip_k0_t1.sl.v915]
  simp only [r1_apply, r2_apply, rd_x arg1.view X_arg1 (k0_off12 k) _ _ (k0_off12_eq k), rd_w, tx, tw, Nat.zero_add]

theorem h12_apply (r : Fin 32) (l : Fin 128) : trip_k0_t1.sl.v929 (F := Ideal) i arg1 arg2 k0_h1 X_arg1 X_arg2 k (ix2 r l)
    = kH (tx arg1 X_arg1 k r) (tw arg2 X_arg2) (1536 + l.val) := by
  unfold kH
  pointwise [trip_k0_t1.sl.v929, trip_k0_t1.sl.v925, trip_k0_t1.sl.v555, trip_k0_t1.sl.v554, trip_k0_t1.sl.v792, trip_k0_t1.sl.v928, trip_k0_t1.sl.v927]
  simp only [r1_apply, r2_apply, rd_x arg1.view X_arg1 (k0_off13 k) _ _ (k0_off13_eq k), rd_w, tx, tw, Nat.zero_add]

theorem h13_apply (r : Fin 32) (l : Fin 128) : trip_k0_t1.sl.v941 (F := Ideal) i arg1 arg2 k0_h1 X_arg1 X_arg2 k (ix2 r l)
    = kH (tx arg1 X_arg1 k r) (tw arg2 X_arg2) (1664 + l.val) := by
  unfold kH
  pointwise [trip_k0_t1.sl.v941, trip_k0_t1.sl.v937, trip_k0_t1.sl.v561, trip_k0_t1.sl.v560, trip_k0_t1.sl.v792, trip_k0_t1.sl.v940, trip_k0_t1.sl.v939]
  simp only [r1_apply, r2_apply, rd_x arg1.view X_arg1 (k0_off14 k) _ _ (k0_off14_eq k), rd_w, tx, tw, Nat.zero_add]

theorem h14_apply (r : Fin 32) (l : Fin 128) : trip_k0_t1.sl.v953 (F := Ideal) i arg1 arg2 k0_h1 X_arg1 X_arg2 k (ix2 r l)
    = kH (tx arg1 X_arg1 k r) (tw arg2 X_arg2) (1792 + l.val) := by
  unfold kH
  pointwise [trip_k0_t1.sl.v953, trip_k0_t1.sl.v949, trip_k0_t1.sl.v567, trip_k0_t1.sl.v566, trip_k0_t1.sl.v792, trip_k0_t1.sl.v952, trip_k0_t1.sl.v951]
  simp only [r1_apply, r2_apply, rd_x arg1.view X_arg1 (k0_off15 k) _ _ (k0_off15_eq k), rd_w, tx, tw, Nat.zero_add]

theorem h15_apply (r : Fin 32) (l : Fin 128) : trip_k0_t1.sl.v965 (F := Ideal) i arg1 arg2 k0_h1 X_arg1 X_arg2 k (ix2 r l)
    = kH (tx arg1 X_arg1 k r) (tw arg2 X_arg2) (1920 + l.val) := by
  unfold kH
  pointwise [trip_k0_t1.sl.v965, trip_k0_t1.sl.v961, trip_k0_t1.sl.v573, trip_k0_t1.sl.v572, trip_k0_t1.sl.v792, trip_k0_t1.sl.v964, trip_k0_t1.sl.v963]
  simp only [r1_apply, r2_apply, rd_x arg1.view X_arg1 (k0_off16 k) _ _ (k0_off16_eq k), rd_w, tx, tw, Nat.zero_add]

theorem h16_apply (r : Fin 32) (l : Fin 128) : trip_k0_t1.sl.v977 (F := Ideal) i arg1 arg2 k0_h1 X_arg1 X_arg2 k (ix2 r l)
    = kH (tx arg1 X_arg1 k r) (tw arg2 X_arg2) (2048 + l.val) := by
  unfold kH
  pointwise [trip_k0_t1.sl.v977, trip_k0_t1.sl.v973, trip_k0_t1.sl.v971, trip_k0_t1.sl.v970, trip_k0_t1.sl.v792, trip_k0_t1.sl.v976, trip_k0_t1.sl.v975]
  simp only [r1_apply, r2_apply, rd_x arg1.view X_arg1 (k0_off17 k) _ _ (k0_off17_eq k), rd_w, tx, tw, Nat.zero_add]

theorem h17_apply (r : Fin 32) (l : Fin 128) : trip_k0_t1.sl.v989 (F := Ideal) i arg1 arg2 k0_h1 X_arg1 X_arg2 k (ix2 r l)
    = kH (tx arg1 X_arg1 k r) (tw arg2 X_arg2) (2176 + l.val) := by
  unfold kH
  pointwise [trip_k0_t1.sl.v989, trip_k0_t1.sl.v985, trip_k0_t1.sl.v585, trip_k0_t1.sl.v584, trip_k0_t1.sl.v792, trip_k0_t1.sl.v988, trip_k0_t1.sl.v987]
  simp only [r1_apply, r2_apply, rd_x arg1.view X_arg1 (k0_off18 k) _ _ (k0_off18_eq k), rd_w, tx, tw, Nat.zero_add]

theorem h18_apply (r : Fin 32) (l : Fin 128) : trip_k0_t1.sl.v1001 (F := Ideal) i arg1 arg2 k0_h1 X_arg1 X_arg2 k (ix2 r l)
    = kH (tx arg1 X_arg1 k r) (tw arg2 X_arg2) (2304 + l.val) := by
  unfold kH
  pointwise [trip_k0_t1.sl.v1001, trip_k0_t1.sl.v997, trip_k0_t1.sl.v591, trip_k0_t1.sl.v590, trip_k0_t1.sl.v792, trip_k0_t1.sl.v1000, trip_k0_t1.sl.v999]
  simp only [r1_apply, r2_apply, rd_x arg1.view X_arg1 (k0_off19 k) _ _ (k0_off19_eq k), rd_w, tx, tw, Nat.zero_add]

theorem h19_apply (r : Fin 32) (l : Fin 128) : trip_k0_t1.sl.v1013 (F := Ideal) i arg1 arg2 k0_h1 X_arg1 X_arg2 k (ix2 r l)
    = kH (tx arg1 X_arg1 k r) (tw arg2 X_arg2) (2432 + l.val) := by
  unfold kH
  pointwise [trip_k0_t1.sl.v1013, trip_k0_t1.sl.v1009, trip_k0_t1.sl.v597, trip_k0_t1.sl.v596, trip_k0_t1.sl.v792, trip_k0_t1.sl.v1012, trip_k0_t1.sl.v1011]
  simp only [r1_apply, r2_apply, rd_x arg1.view X_arg1 (k0_off20 k) _ _ (k0_off20_eq k), rd_w, tx, tw, Nat.zero_add]

theorem h20_apply (r : Fin 32) (l : Fin 128) : trip_k0_t1.sl.v1025 (F := Ideal) i arg1 arg2 k0_h1 X_arg1 X_arg2 k (ix2 r l)
    = kH (tx arg1 X_arg1 k r) (tw arg2 X_arg2) (2560 + l.val) := by
  unfold kH
  pointwise [trip_k0_t1.sl.v1025, trip_k0_t1.sl.v1021, trip_k0_t1.sl.v603, trip_k0_t1.sl.v602, trip_k0_t1.sl.v792, trip_k0_t1.sl.v1024, trip_k0_t1.sl.v1023]
  simp only [r1_apply, r2_apply, rd_x arg1.view X_arg1 (k0_off21 k) _ _ (k0_off21_eq k), rd_w, tx, tw, Nat.zero_add]

theorem h21_apply (r : Fin 32) (l : Fin 128) : trip_k0_t1.sl.v1037 (F := Ideal) i arg1 arg2 k0_h1 X_arg1 X_arg2 k (ix2 r l)
    = kH (tx arg1 X_arg1 k r) (tw arg2 X_arg2) (2688 + l.val) := by
  unfold kH
  pointwise [trip_k0_t1.sl.v1037, trip_k0_t1.sl.v1033, trip_k0_t1.sl.v609, trip_k0_t1.sl.v608, trip_k0_t1.sl.v792, trip_k0_t1.sl.v1036, trip_k0_t1.sl.v1035]
  simp only [r1_apply, r2_apply, rd_x arg1.view X_arg1 (k0_off22 k) _ _ (k0_off22_eq k), rd_w, tx, tw, Nat.zero_add]

theorem h22_apply (r : Fin 32) (l : Fin 128) : trip_k0_t1.sl.v1049 (F := Ideal) i arg1 arg2 k0_h1 X_arg1 X_arg2 k (ix2 r l)
    = kH (tx arg1 X_arg1 k r) (tw arg2 X_arg2) (2816 + l.val) := by
  unfold kH
  pointwise [trip_k0_t1.sl.v1049, trip_k0_t1.sl.v1045, trip_k0_t1.sl.v615, trip_k0_t1.sl.v614, trip_k0_t1.sl.v792, trip_k0_t1.sl.v1048, trip_k0_t1.sl.v1047]
  simp only [r1_apply, r2_apply, rd_x arg1.view X_arg1 (k0_off23 k) _ _ (k0_off23_eq k), rd_w, tx, tw, Nat.zero_add]

theorem h23_apply (r : Fin 32) (l : Fin 128) : trip_k0_t1.sl.v1061 (F := Ideal) i arg1 arg2 k0_h1 X_arg1 X_arg2 k (ix2 r l)
    = kH (tx arg1 X_arg1 k r) (tw arg2 X_arg2) (2944 + l.val) := by
  unfold kH
  pointwise [trip_k0_t1.sl.v1061, trip_k0_t1.sl.v1057, trip_k0_t1.sl.v621, trip_k0_t1.sl.v620, trip_k0_t1.sl.v792, trip_k0_t1.sl.v1060, trip_k0_t1.sl.v1059]
  simp only [r1_apply, r2_apply, rd_x arg1.view X_arg1 (k0_off24 k) _ _ (k0_off24_eq k), rd_w, tx, tw, Nat.zero_add]

theorem h24_apply (r : Fin 32) (l : Fin 128) : trip_k0_t1.sl.v1073 (F := Ideal) i arg1 arg2 k0_h1 X_arg1 X_arg2 k (ix2 r l)
    = kH (tx arg1 X_arg1 k r) (tw arg2 X_arg2) (3072 + l.val) := by
  unfold kH
  pointwise [trip_k0_t1.sl.v1073, trip_k0_t1.sl.v1069, trip_k0_t1.sl.v627, trip_k0_t1.sl.v626, trip_k0_t1.sl.v792, trip_k0_t1.sl.v1072, trip_k0_t1.sl.v1071]
  simp only [r1_apply, r2_apply, rd_x arg1.view X_arg1 (k0_off25 k) _ _ (k0_off25_eq k), rd_w, tx, tw, Nat.zero_add]

theorem h25_apply (r : Fin 32) (l : Fin 128) : trip_k0_t1.sl.v1085 (F := Ideal) i arg1 arg2 k0_h1 X_arg1 X_arg2 k (ix2 r l)
    = kH (tx arg1 X_arg1 k r) (tw arg2 X_arg2) (3200 + l.val) := by
  unfold kH
  pointwise [trip_k0_t1.sl.v1085, trip_k0_t1.sl.v1081, trip_k0_t1.sl.v633, trip_k0_t1.sl.v632, trip_k0_t1.sl.v792, trip_k0_t1.sl.v1084, trip_k0_t1.sl.v1083]
  simp only [r1_apply, r2_apply, rd_x arg1.view X_arg1 (k0_off26 k) _ _ (k0_off26_eq k), rd_w, tx, tw, Nat.zero_add]

theorem h26_apply (r : Fin 32) (l : Fin 128) : trip_k0_t1.sl.v1097 (F := Ideal) i arg1 arg2 k0_h1 X_arg1 X_arg2 k (ix2 r l)
    = kH (tx arg1 X_arg1 k r) (tw arg2 X_arg2) (3328 + l.val) := by
  unfold kH
  pointwise [trip_k0_t1.sl.v1097, trip_k0_t1.sl.v1093, trip_k0_t1.sl.v639, trip_k0_t1.sl.v638, trip_k0_t1.sl.v792, trip_k0_t1.sl.v1096, trip_k0_t1.sl.v1095]
  simp only [r1_apply, r2_apply, rd_x arg1.view X_arg1 (k0_off27 k) _ _ (k0_off27_eq k), rd_w, tx, tw, Nat.zero_add]

theorem h27_apply (r : Fin 32) (l : Fin 128) : trip_k0_t1.sl.v1109 (F := Ideal) i arg1 arg2 k0_h1 X_arg1 X_arg2 k (ix2 r l)
    = kH (tx arg1 X_arg1 k r) (tw arg2 X_arg2) (3456 + l.val) := by
  unfold kH
  pointwise [trip_k0_t1.sl.v1109, trip_k0_t1.sl.v1105, trip_k0_t1.sl.v645, trip_k0_t1.sl.v644, trip_k0_t1.sl.v792, trip_k0_t1.sl.v1108, trip_k0_t1.sl.v1107]
  simp only [r1_apply, r2_apply, rd_x arg1.view X_arg1 (k0_off28 k) _ _ (k0_off28_eq k), rd_w, tx, tw, Nat.zero_add]

theorem h28_apply (r : Fin 32) (l : Fin 128) : trip_k0_t1.sl.v1121 (F := Ideal) i arg1 arg2 k0_h1 X_arg1 X_arg2 k (ix2 r l)
    = kH (tx arg1 X_arg1 k r) (tw arg2 X_arg2) (3584 + l.val) := by
  unfold kH
  pointwise [trip_k0_t1.sl.v1121, trip_k0_t1.sl.v1117, trip_k0_t1.sl.v651, trip_k0_t1.sl.v650, trip_k0_t1.sl.v792, trip_k0_t1.sl.v1120, trip_k0_t1.sl.v1119]
  simp only [r1_apply, r2_apply, rd_x arg1.view X_arg1 (k0_off29 k) _ _ (k0_off29_eq k), rd_w, tx, tw, Nat.zero_add]

theorem h29_apply (r : Fin 32) (l : Fin 128) : trip_k0_t1.sl.v1133 (F := Ideal) i arg1 arg2 k0_h1 X_arg1 X_arg2 k (ix2 r l)
    = kH (tx arg1 X_arg1 k r) (tw arg2 X_arg2) (3712 + l.val) := by
  unfold kH
  pointwise [trip_k0_t1.sl.v1133, trip_k0_t1.sl.v1129, trip_k0_t1.sl.v657, trip_k0_t1.sl.v656, trip_k0_t1.sl.v792, trip_k0_t1.sl.v1132, trip_k0_t1.sl.v1131]
  simp only [r1_apply, r2_apply, rd_x arg1.view X_arg1 (k0_off30 k) _ _ (k0_off30_eq k), rd_w, tx, tw, Nat.zero_add]

theorem h30_apply (r : Fin 32) (l : Fin 128) : trip_k0_t1.sl.v1145 (F := Ideal) i arg1 arg2 k0_h1 X_arg1 X_arg2 k (ix2 r l)
    = kH (tx arg1 X_arg1 k r) (tw arg2 X_arg2) (3840 + l.val) := by
  unfold kH
  pointwise [trip_k0_t1.sl.v1145, trip_k0_t1.sl.v1141, trip_k0_t1.sl.v663, trip_k0_t1.sl.v662, trip_k0_t1.sl.v792, trip_k0_t1.sl.v1144, trip_k0_t1.sl.v1143]
  simp only [r1_apply, r2_apply, rd_x arg1.view X_arg1 (k0_off31 k) _ _ (k0_off31_eq k), rd_w, tx, tw, Nat.zero_add]

theorem h31_apply (r : Fin 32) (l : Fin 128) : trip_k0_t1.sl.v1157 (F := Ideal) i arg1 arg2 k0_h1 X_arg1 X_arg2 k (ix2 r l)
    = kH (tx arg1 X_arg1 k r) (tw arg2 X_arg2) (3968 + l.val) := by
  unfold kH
  pointwise [trip_k0_t1.sl.v1157, trip_k0_t1.sl.v1153, trip_k0_t1.sl.v669, trip_k0_t1.sl.v668, trip_k0_t1.sl.v792, trip_k0_t1.sl.v1156, trip_k0_t1.sl.v1155]
  simp only [r1_apply, r2_apply, rd_x arg1.view X_arg1 (k0_off32 k) _ _ (k0_off32_eq k), rd_w, tx, tw, Nat.zero_add]

theorem h32_apply (r : Fin 32) (l : Fin 128) : trip_k0_t1.sl.v1169 (F := Ideal) i arg1 arg2 k0_h1 X_arg1 X_arg2 k (ix2 r l)
    = kH (tx arg1 X_arg1 k r) (tw arg2 X_arg2) (4096 + l.val) := by
  unfold kH
  pointwise [trip_k0_t1.sl.v1169, trip_k0_t1.sl.v1165, trip_k0_t1.sl.v675, trip_k0_t1.sl.v674, trip_k0_t1.sl.v792, trip_k0_t1.sl.v1168, trip_k0_t1.sl.v1167]
  simp only [r1_apply, r2_apply, rd_x arg1.view X_arg1 (k0_off33 k) _ _ (k0_off33_eq k), rd_w, tx, tw, Nat.zero_add]

theorem h33_apply (r : Fin 32) (l : Fin 128) : trip_k0_t1.sl.v1181 (F := Ideal) i arg1 arg2 k0_h1 X_arg1 X_arg2 k (ix2 r l)
    = kH (tx arg1 X_arg1 k r) (tw arg2 X_arg2) (4224 + l.val) := by
  unfold kH
  pointwise [trip_k0_t1.sl.v1181, trip_k0_t1.sl.v1177, trip_k0_t1.sl.v681, trip_k0_t1.sl.v680, trip_k0_t1.sl.v792, trip_k0_t1.sl.v1180, trip_k0_t1.sl.v1179]
  simp only [r1_apply, r2_apply, rd_x arg1.view X_arg1 (k0_off34 k) _ _ (k0_off34_eq k), rd_w, tx, tw, Nat.zero_add]

theorem h34_apply (r : Fin 32) (l : Fin 128) : trip_k0_t1.sl.v1193 (F := Ideal) i arg1 arg2 k0_h1 X_arg1 X_arg2 k (ix2 r l)
    = kH (tx arg1 X_arg1 k r) (tw arg2 X_arg2) (4352 + l.val) := by
  unfold kH
  pointwise [trip_k0_t1.sl.v1193, trip_k0_t1.sl.v1189, trip_k0_t1.sl.v687, trip_k0_t1.sl.v686, trip_k0_t1.sl.v792, trip_k0_t1.sl.v1192, trip_k0_t1.sl.v1191]
  simp only [r1_apply, r2_apply, rd_x arg1.view X_arg1 (k0_off35 k) _ _ (k0_off35_eq k), rd_w, tx, tw, Nat.zero_add]

theorem h35_apply (r : Fin 32) (l : Fin 128) : trip_k0_t1.sl.v1205 (F := Ideal) i arg1 arg2 k0_h1 X_arg1 X_arg2 k (ix2 r l)
    = kH (tx arg1 X_arg1 k r) (tw arg2 X_arg2) (4480 + l.val) := by
  unfold kH
  pointwise [trip_k0_t1.sl.v1205, trip_k0_t1.sl.v1201, trip_k0_t1.sl.v693, trip_k0_t1.sl.v692, trip_k0_t1.sl.v792, trip_k0_t1.sl.v1204, trip_k0_t1.sl.v1203]
  simp only [r1_apply, r2_apply, rd_x arg1.view X_arg1 (k0_off36 k) _ _ (k0_off36_eq k), rd_w, tx, tw, Nat.zero_add]

theorem h36_apply (r : Fin 32) (l : Fin 128) : trip_k0_t1.sl.v1217 (F := Ideal) i arg1 arg2 k0_h1 X_arg1 X_arg2 k (ix2 r l)
    = kH (tx arg1 X_arg1 k r) (tw arg2 X_arg2) (4608 + l.val) := by
  unfold kH
  pointwise [trip_k0_t1.sl.v1217, trip_k0_t1.sl.v1213, trip_k0_t1.sl.v699, trip_k0_t1.sl.v698, trip_k0_t1.sl.v792, trip_k0_t1.sl.v1216, trip_k0_t1.sl.v1215]
  simp only [r1_apply, r2_apply, rd_x arg1.view X_arg1 (k0_off37 k) _ _ (k0_off37_eq k), rd_w, tx, tw, Nat.zero_add]

theorem h37_apply (r : Fin 32) (l : Fin 128) : trip_k0_t1.sl.v1229 (F := Ideal) i arg1 arg2 k0_h1 X_arg1 X_arg2 k (ix2 r l)
    = kH (tx arg1 X_arg1 k r) (tw arg2 X_arg2) (4736 + l.val) := by
  unfold kH
  pointwise [trip_k0_t1.sl.v1229, trip_k0_t1.sl.v1225, trip_k0_t1.sl.v705, trip_k0_t1.sl.v704, trip_k0_t1.sl.v792, trip_k0_t1.sl.v1228, trip_k0_t1.sl.v1227]
  simp only [r1_apply, r2_apply, rd_x arg1.view X_arg1 (k0_off38 k) _ _ (k0_off38_eq k), rd_w, tx, tw, Nat.zero_add]

theorem h38_apply (r : Fin 32) (l : Fin 128) : trip_k0_t1.sl.v1241 (F := Ideal) i arg1 arg2 k0_h1 X_arg1 X_arg2 k (ix2 r l)
    = kH (tx arg1 X_arg1 k r) (tw arg2 X_arg2) (4864 + l.val) := by
  unfold kH
  pointwise [trip_k0_t1.sl.v1241, trip_k0_t1.sl.v1237, trip_k0_t1.sl.v711, trip_k0_t1.sl.v710, trip_k0_t1.sl.v792, trip_k0_t1.sl.v1240, trip_k0_t1.sl.v1239]
  simp only [r1_apply, r2_apply, rd_x arg1.view X_arg1 (k0_off39 k) _ _ (k0_off39_eq k), rd_w, tx, tw, Nat.zero_add]

theorem h39_apply (r : Fin 32) (l : Fin 128) : trip_k0_t1.sl.v1253 (F := Ideal) i arg1 arg2 k0_h1 X_arg1 X_arg2 k (ix2 r l)
    = kH (tx arg1 X_arg1 k r) (tw arg2 X_arg2) (4992 + l.val) := by
  unfold kH
  pointwise [trip_k0_t1.sl.v1253, trip_k0_t1.sl.v1249, trip_k0_t1.sl.v717, trip_k0_t1.sl.v716, trip_k0_t1.sl.v792, trip_k0_t1.sl.v1252, trip_k0_t1.sl.v1251]
  simp only [r1_apply, r2_apply, rd_x arg1.view X_arg1 (k0_off40 k) _ _ (k0_off40_eq k), rd_w, tx, tw, Nat.zero_add]

theorem h40_apply (r : Fin 32) (l : Fin 128) : trip_k0_t1.sl.v1265 (F := Ideal) i arg1 arg2 k0_h1 X_arg1 X_arg2 k (ix2 r l)
    = kH (tx arg1 X_arg1 k r) (tw arg2 X_arg2) (5120 + l.val) := by
  unfold kH
  pointwise [trip_k0_t1.sl.v1265, trip_k0_t1.sl.v1261, trip_k0_t1.sl.v723, trip_k0_t1.sl.v722, trip_k0_t1.sl.v792, trip_k0_t1.sl.v1264, trip_k0_t1.sl.v1263]
  simp only [r1_apply, r2_apply, rd_x arg1.view X_arg1 (k0_off41 k) _ _ (k0_off41_eq k), rd_w, tx, tw, Nat.zero_add]

theorem h41_apply (r : Fin 32) (l : Fin 128) : trip_k0_t1.sl.v1277 (F := Ideal) i arg1 arg2 k0_h1 X_arg1 X_arg2 k (ix2 r l)
    = kH (tx arg1 X_arg1 k r) (tw arg2 X_arg2) (5248 + l.val) := by
  unfold kH
  pointwise [trip_k0_t1.sl.v1277, trip_k0_t1.sl.v1273, trip_k0_t1.sl.v729, trip_k0_t1.sl.v728, trip_k0_t1.sl.v792, trip_k0_t1.sl.v1276, trip_k0_t1.sl.v1275]
  simp only [r1_apply, r2_apply, rd_x arg1.view X_arg1 (k0_off42 k) _ _ (k0_off42_eq k), rd_w, tx, tw, Nat.zero_add]

theorem h42_apply (r : Fin 32) (l : Fin 128) : trip_k0_t1.sl.v1289 (F := Ideal) i arg1 arg2 k0_h1 X_arg1 X_arg2 k (ix2 r l)
    = kH (tx arg1 X_arg1 k r) (tw arg2 X_arg2) (5376 + l.val) := by
  unfold kH
  pointwise [trip_k0_t1.sl.v1289, trip_k0_t1.sl.v1285, trip_k0_t1.sl.v1283, trip_k0_t1.sl.v1282, trip_k0_t1.sl.v792, trip_k0_t1.sl.v1288, trip_k0_t1.sl.v1287]
  simp only [r1_apply, r2_apply, rd_x arg1.view X_arg1 (k0_off43 k) _ _ (k0_off43_eq k), rd_w, tx, tw, Nat.zero_add]

theorem h43_apply (r : Fin 32) (l : Fin 128) : trip_k0_t1.sl.v1301 (F := Ideal) i arg1 arg2 k0_h1 X_arg1 X_arg2 k (ix2 r l)
    = kH (tx arg1 X_arg1 k r) (tw arg2 X_arg2) (5504 + l.val) := by
  unfold kH
  pointwise [trip_k0_t1.sl.v1301, trip_k0_t1.sl.v1297, trip_k0_t1.sl.v1295, trip_k0_t1.sl.v1294, trip_k0_t1.sl.v792, trip_k0_t1.sl.v1300, trip_k0_t1.sl.v1299]
  simp only [r1_apply, r2_apply, rd_x arg1.view X_arg1 (k0_off44 k) _ _ (k0_off44_eq k), rd_w, tx, tw, Nat.zero_add]

theorem h44_apply (r : Fin 32) (l : Fin 128) : trip_k0_t1.sl.v1313 (F := Ideal) i arg1 arg2 k0_h1 X_arg1 X_arg2 k (ix2 r l)
    = kH (tx arg1 X_arg1 k r) (tw arg2 X_arg2) (5632 + l.val) := by
  unfold kH
  pointwise [trip_k0_t1.sl.v1313, trip_k0_t1.sl.v1309, trip_k0_t1.sl.v1307, trip_k0_t1.sl.v1306, trip_k0_t1.sl.v792, trip_k0_t1.sl.v1312, trip_k0_t1.sl.v1311]
  simp only [r1_apply, r2_apply, rd_x arg1.view X_arg1 (k0_off45 k) _ _ (k0_off45_eq k), rd_w, tx, tw, Nat.zero_add]

theorem h45_apply (r : Fin 32) (l : Fin 128) : trip_k0_t1.sl.v1325 (F := Ideal) i arg1 arg2 k0_h1 X_arg1 X_arg2 k (ix2 r l)
    = kH (tx arg1 X_arg1 k r) (tw arg2 X_arg2) (5760 + l.val) := by
  unfold kH
  pointwise [trip_k0_t1.sl.v1325, trip_k0_t1.sl.v1321, trip_k0_t1.sl.v1319, trip_k0_t1.sl.v1318, trip_k0_t1.sl.v792, trip_k0_t1.sl.v1324, trip_k0_t1.sl.v1323]
  simp only [r1_apply, r2_apply, rd_x arg1.view X_arg1 (k0_off46 k) _ _ (k0_off46_eq k), rd_w, tx, tw, Nat.zero_add]

theorem h46_apply (r : Fin 32) (l : Fin 128) : trip_k0_t1.sl.v1337 (F := Ideal) i arg1 arg2 k0_h1 X_arg1 X_arg2 k (ix2 r l)
    = kH (tx arg1 X_arg1 k r) (tw arg2 X_arg2) (5888 + l.val) := by
  unfold kH
  pointwise [trip_k0_t1.sl.v1337, trip_k0_t1.sl.v1333, trip_k0_t1.sl.v1331, trip_k0_t1.sl.v1330, trip_k0_t1.sl.v792, trip_k0_t1.sl.v1336, trip_k0_t1.sl.v1335]
  simp only [r1_apply, r2_apply, rd_x arg1.view X_arg1 (k0_off47 k) _ _ (k0_off47_eq k), rd_w, tx, tw, Nat.zero_add]

theorem h47_apply (r : Fin 32) (l : Fin 128) : trip_k0_t1.sl.v1349 (F := Ideal) i arg1 arg2 k0_h1 X_arg1 X_arg2 k (ix2 r l)
    = kH (tx arg1 X_arg1 k r) (tw arg2 X_arg2) (6016 + l.val) := by
  unfold kH
  pointwise [trip_k0_t1.sl.v1349, trip_k0_t1.sl.v1345, trip_k0_t1.sl.v1343, trip_k0_t1.sl.v1342, trip_k0_t1.sl.v792, trip_k0_t1.sl.v1348, trip_k0_t1.sl.v1347]
  simp only [r1_apply, r2_apply, rd_x arg1.view X_arg1 (k0_off48 k) _ _ (k0_off48_eq k), rd_w, tx, tw, Nat.zero_add]

/-! ## The greatest magnitude, the step and its exponent -/

theorem v1351_apply (r : Fin 32) (l : Fin 128) : trip_k0_t1.sl.v1351 (F := Ideal) i arg1 arg2 k0_h1 X_arg1 X_arg2 k (ix2 r l)
    = runMax (fun c => FloatOps.absf (F := Ideal) (φ := .f32) (kH (tx arg1 X_arg1 k r) (tw arg2 X_arg2) (128 * c + l.val))) 48 := by
  simp only [runMax, Nat.reduceMul]
  pointwise [k0_pay11, trip_k0_t1.sl.v1351, trip_k0_t1.sl.v1339, trip_k0_t1.sl.v1327, trip_k0_t1.sl.v1315, trip_k0_t1.sl.v1303, trip_k0_t1.sl.v1291, trip_k0_t1.sl.v1279, trip_k0_t1.sl.v1267,
    trip_k0_t1.sl.v1255, trip_k0_t1.sl.v1243, trip_k0_t1.sl.v1231, trip_k0_t1.sl.v1219, trip_k0_t1.sl.v1207, trip_k0_t1.sl.v1195, trip_k0_t1.sl.v1183, trip_k0_t1.sl.v1171,
    trip_k0_t1.sl.v1159, trip_k0_t1.sl.v1147, trip_k0_t1.sl.v1135, trip_k0_t1.sl.v1123, trip_k0_t1.sl.v1111, trip_k0_t1.sl.v1099, trip_k0_t1.sl.v1087, trip_k0_t1.sl.v1075,
    trip_k0_t1.sl.v1063, trip_k0_t1.sl.v1051, trip_k0_t1.sl.v1039, trip_k0_t1.sl.v1027, trip_k0_t1.sl.v1015, trip_k0_t1.sl.v1003, trip_k0_t1.sl.v991, trip_k0_t1.sl.v979,
    trip_k0_t1.sl.v967, trip_k0_t1.sl.v955, trip_k0_t1.sl.v943, trip_k0_t1.sl.v931, trip_k0_t1.sl.v919, trip_k0_t1.sl.v907, trip_k0_t1.sl.v895, trip_k0_t1.sl.v883,
    trip_k0_t1.sl.v871, trip_k0_t1.sl.v859, trip_k0_t1.sl.v847, trip_k0_t1.sl.v835, trip_k0_t1.sl.v823, trip_k0_t1.sl.v811, trip_k0_t1.sl.v799, trip_k0_t1.sl.v787,
    trip_k0_t1.sl.v786, trip_k0_t1.sl.v798, trip_k0_t1.sl.v810, trip_k0_t1.sl.v822, trip_k0_t1.sl.v834, trip_k0_t1.sl.v846, trip_k0_t1.sl.v858, trip_k0_t1.sl.v870,
    trip_k0_t1.sl.v882, trip_k0_t1.sl.v894, trip_k0_t1.sl.v906, trip_k0_t1.sl.v918, trip_k0_t1.sl.v930, trip_k0_t1.sl.v942, trip_k0_t1.sl.v954, trip_k0_t1.sl.v966,
    trip_k0_t1.sl.v978, trip_k0_t1.sl.v990, trip_k0_t1.sl.v1002, trip_k0_t1.sl.v1014, trip_k0_t1.sl.v1026, trip_k0_t1.sl.v1038, trip_k0_t1.sl.v1050, trip_k0_t1.sl.v1062,
    trip_k0_t1.sl.v1074, trip_k0_t1.sl.v1086, trip_k0_t1.sl.v1098, trip_k0_t1.sl.v1110, trip_k0_t1.sl.v1122, trip_k0_t1.sl.v1134, trip_k0_t1.sl.v1146, trip_k0_t1.sl.v1158,
    trip_k0_t1.sl.v1170, trip_k0_t1.sl.v1182, trip_k0_t1.sl.v1194, trip_k0_t1.sl.v1206, trip_k0_t1.sl.v1218, trip_k0_t1.sl.v1230, trip_k0_t1.sl.v1242, trip_k0_t1.sl.v1254,
    trip_k0_t1.sl.v1266, trip_k0_t1.sl.v1278, trip_k0_t1.sl.v1290, trip_k0_t1.sl.v1302, trip_k0_t1.sl.v1314, trip_k0_t1.sl.v1326, trip_k0_t1.sl.v1338, trip_k0_t1.sl.v1350]
  simp only [h0_apply, h1_apply, h2_apply, h3_apply, h4_apply, h5_apply, h6_apply, h7_apply, h8_apply, h9_apply, h10_apply, h11_apply, h12_apply, h13_apply, h14_apply, h15_apply, h16_apply, h17_apply, h18_apply, h19_apply, h20_apply, h21_apply, h22_apply, h23_apply, h24_apply, h25_apply, h26_apply, h27_apply, h28_apply, h29_apply, h30_apply, h31_apply, h32_apply, h33_apply, h34_apply, h35_apply, h36_apply, h37_apply, h38_apply, h39_apply, h40_apply, h41_apply, h42_apply, h43_apply, h44_apply, h45_apply, h46_apply, h47_apply, Nat.zero_add]

/-- The row's greatest magnitude times 1/448. -/
theorem v1356_apply (r : Fin 32) : trip_k0_t1.sl.v1356 (F := Ideal) i arg1 arg2 k0_h1 X_arg1 X_arg2 k (ix2 r 0)
    = kT (tx arg1 X_arg1 k r) (tw arg2 X_arg2) := by
  unfold kT
  pointwise [trip_k0_t1.sl.v1356, trip_k0_t1.sl.v1355, trip_k0_t1.sl.v1353, trip_k0_t1.sl.v1352, trip_k0_t1.sl.v1354, trip_k0_t1.sl.cst_289]
  simp only [v1351_apply]

/-- One step of the search for the exponent: the bit is kept when the number with it is at most `t`. -/
def kStep (t : EReal) (bit k : BitVec 32) : BitVec 32 :=
  if Ideal.ofBits .f32 (IntOp.shli .vector (IntOp.addi k bit) 23#32) ≤ t then IntOp.addi k bit else k

/-- The exponent field the search finds. -/
def kBiased (t : EReal) : BitVec 32 :=
  kStep t 1#32 (kStep t 2#32 (kStep t 4#32 (kStep t 8#32 (kStep t 16#32 (kStep t 32#32 (kStep t 64#32 (kStep t 128#32 0#32)))))))

/-- The exponent of the step. -/
def kE (t : EReal) : BitVec 32 :=
  Scalar.select (IntOp.cmpi .eq (kBiased t) 0#32) 0#32 (IntOp.subi (kBiased t) 126#32)

/-- Two to the exponent `e`, by its word. -/
def kPow2 (e : BitVec 32) : EReal := Ideal.ofBits .f32 (IntOp.shli .vector (IntOp.addi e 127#32) 23#32)

/-- One code. -/
def kCode (x w : ℕ → EReal) (n : ℕ) : EReal :=
  min (Ideal.ofBits .f32 0x43E00000#32) (max (Ideal.ofBits .f32 0xC3E00000#32) (kH x w n * kPow2 (IntOp.subi 0#32 (kE (kT x w)))))

set_option maxHeartbeats 4000000 in
theorem v1430_apply (r : Fin 32) (l : Fin 128) : trip_k0_t1.sl.v1430 (F := Ideal) i arg1 arg2 k0_h1 X_arg1 X_arg2 k (ix2 r l)
    = kBiased (kT (tx arg1 X_arg1 k r) (tw arg2 X_arg2)) := by
  rw [← v1356_apply i arg1 arg2 k0_h1 X_arg1 X_arg2 k r]
  unfold kBiased kStep
  generalize hT : trip_k0_t1.sl.v1356 (F := Ideal) i arg1 arg2 k0_h1 X_arg1 X_arg2 k (ix2 r 0) = T
  have h0 : trip_k0_t1.sl.v1367 (F := Ideal) i arg1 arg2 k0_h1 X_arg1 X_arg2 k (ix2 r l) = kStep T 128#32 0#32 := by
    unfold kStep
    rw [← hT]
    pointwise [trip_k0_t1.sl.v1357, trip_k0_t1.sl.v1358, trip_k0_t1.sl.v1359, trip_k0_t1.sl.v1361, trip_k0_t1.sl.v1362, trip_k0_t1.sl.v1364, trip_k0_t1.sl.v1367]
  have h1 : trip_k0_t1.sl.v1376 (F := Ideal) i arg1 arg2 k0_h1 X_arg1 X_arg2 k (ix2 r l)
      = kStep T 64#32 (trip_k0_t1.sl.v1367 (F := Ideal) i arg1 arg2 k0_h1 X_arg1 X_arg2 k (ix2 r l)) := by
    unfold kStep
    rw [← hT]
    pointwise [trip_k0_t1.sl.v1368, trip_k0_t1.sl.v1369, trip_k0_t1.sl.v1371, trip_k0_t1.sl.v1372, trip_k0_t1.sl.v1373, trip_k0_t1.sl.v1376, trip_k0_t1.sl.v1361, trip_k0_t1.sl.v1357]
  have h2 : trip_k0_t1.sl.v1385 (F := Ideal) i arg1 arg2 k0_h1 X_arg1 X_arg2 k (ix2 r l)
      = kStep T 32#32 (trip_k0_t1.sl.v1376 (F := Ideal) i arg1 arg2 k0_h1 X_arg1 X_arg2 k (ix2 r l)) := by
    unfold kStep
    rw [← hT]
    pointwise [trip_k0_t1.sl.v1377, trip_k0_t1.sl.v1378, trip_k0_t1.sl.v1380, trip_k0_t1.sl.v1381, trip_k0_t1.sl.v1382, trip_k0_t1.sl.v1385, trip_k0_t1.sl.v1361, trip_k0_t1.sl.v1357]
  have h3 : trip_k0_t1.sl.v1394 (F := Ideal) i arg1 arg2 k0_h1 X_arg1 X_arg2 k (ix2 r l)
      = kStep T 16#32 (trip_k0_t1.sl.v1385 (F := Ideal) i arg1 arg2 k0_h1 X_arg1 X_arg2 k (ix2 r l)) := by
    unfold kStep
    rw [← hT]
    pointwise [trip_k0_t1.sl.v1386, trip_k0_t1.sl.v1387, trip_k0_t1.sl.v1389, trip_k0_t1.sl.v1390, trip_k0_t1.sl.v1391, trip_k0_t1.sl.v1394, trip_k0_t1.sl.v1361, trip_k0_t1.sl.v1357]
  have h4 : trip_k0_t1.sl.v1403 (F := Ideal) i arg1 arg2 k0_h1 X_arg1 X_arg2 k (ix2 r l)
      = kStep T 8#32 (trip_k0_t1.sl.v1394 (F := Ideal) i arg1 arg2 k0_h1 X_arg1 X_arg2 k (ix2 r l)) := by
    unfold kStep
    rw [← hT]
    pointwise [trip_k0_t1.sl.v1395, trip_k0_t1.sl.v1396, trip_k0_t1.sl.v1398, trip_k0_t1.sl.v1399, trip_k0_t1.sl.v1400, trip_k0_t1.sl.v1403, trip_k0_t1.sl.v1361, trip_k0_t1.sl.v1357]
  have h5 : trip_k0_t1.sl.v1412 (F := Ideal) i arg1 arg2 k0_h1 X_arg1 X_arg2 k (ix2 r l)
      = kStep T 4#32 (trip_k0_t1.sl.v1403 (F := Ideal) i arg1 arg2 k0_h1 X_arg1 X_arg2 k (ix2 r l)) := by
    unfold kStep
    rw [← hT]
    pointwise [trip_k0_t1.sl.v1404, trip_k0_t1.sl.v1405, trip_k0_t1.sl.v1407, trip_k0_t1.sl.v1408, trip_k0_t1.sl.v1409, trip_k0_t1.sl.v1412, trip_k0_t1.sl.v1361, trip_k0_t1.sl.v1357]
  have h6 : trip_k0_t1.sl.v1421 (F := Ideal) i arg1 arg2 k0_h1 X_arg1 X_arg2 k (ix2 r l)
      = kStep T 2#32 (trip_k0_t1.sl.v1412 (F := Ideal) i arg1 arg2 k0_h1 X_arg1 X_arg2 k (ix2 r l)) := by
    unfold kStep
    rw [← hT]
    pointwise [trip_k0_t1.sl.v1413, trip_k0_t1.sl.v1414, trip_k0_t1.sl.v1416, trip_k0_t1.sl.v1417, trip_k0_t1.sl.v1418, trip_k0_t1.sl.v1421, trip_k0_t1.sl.v1361, trip_k0_t1.sl.v1357]
  have h7 : trip_k0_t1.sl.v1430 (F := Ideal) i arg1 arg2 k0_h1 X_arg1 X_arg2 k (ix2 r l)
      = kStep T 1#32 (trip_k0_t1.sl.v1421 (F := Ideal) i arg1 arg2 k0_h1 X_arg1 X_arg2 k (ix2 r l)) := by
    unfold kStep
    rw [← hT]
    pointwise [trip_k0_t1.sl.v1422, trip_k0_t1.sl.v1423, trip_k0_t1.sl.v1425, trip_k0_t1.sl.v1426, trip_k0_t1.sl.v1427, trip_k0_t1.sl.v1430, trip_k0_t1.sl.v1361, trip_k0_t1.sl.v1357]
  rw [h7, h6, h5, h4, h3, h2, h1, h0]
  rfl

theorem v1443_apply (r : Fin 32) (l : Fin 128) : trip_k0_t1.sl.v1443 (F := Ideal) i arg1 arg2 k0_h1 X_arg1 X_arg2 k (ix2 r l)
    = kPow2 (IntOp.subi 0#32 (kE (kT (tx arg1 X_arg1 k r) (tw arg2 X_arg2)))) := by
  unfold kPow2 kE
  rw [← v1430_apply i arg1 arg2 k0_h1 X_arg1 X_arg2 k r l]
  pointwise [trip_k0_t1.sl.v1432, trip_k0_t1.sl.v1433, trip_k0_t1.sl.v1434, trip_k0_t1.sl.v1436, trip_k0_t1.sl.v1438, trip_k0_t1.sl.v1439, trip_k0_t1.sl.v1440, trip_k0_t1.sl.v1442,
    trip_k0_t1.sl.v1443, trip_k0_t1.sl.v1358, trip_k0_t1.sl.v1361]

/-- The step the trip stores for row `r`. -/
theorem pay110_apply (r : Fin 32) (l : Fin 128) :
    k0_pay110 (F := Ideal) (trip_k0_t1.sl.v1436 i arg1 arg2 k0_h1 X_arg1 X_arg2 k) trip_k0_t1.sl.v1439 (ix2 r l)
    = kPow2 (kE (kT (tx arg1 X_arg1 k r) (tw arg2 X_arg2))) := by
  unfold kPow2 kE
  rw [← v1430_apply i arg1 arg2 k0_h1 X_arg1 X_arg2 k r l]
  pointwise [k0_pay110, trip_k0_t1.sl.v1432, trip_k0_t1.sl.v1433, trip_k0_t1.sl.v1434, trip_k0_t1.sl.v1436, trip_k0_t1.sl.v1438, trip_k0_t1.sl.v1439, trip_k0_t1.sl.v1358, trip_k0_t1.sl.v1361]

/-! ## The codes, block by block -/

theorem code0_apply (r : Fin 32) (l : Fin 128) : trip_k0_t1.sl.v1459 (F := Ideal) i arg1 arg2 k0_h1 X_arg1 X_arg2 k (ix2 r l)
    = kCode (tx arg1 X_arg1 k r) (tw arg2 X_arg2) (0 + l.val) := by
  unfold kCode kH
  pointwise [trip_k0_t1.sl.v1459, trip_k0_t1.sl.v1458, trip_k0_t1.sl.v1457, trip_k0_t1.sl.cst_318, trip_k0_t1.sl.v1456, trip_k0_t1.sl.v1455, trip_k0_t1.sl.cst_317, trip_k0_t1.sl.v1454,
    trip_k0_t1.sl.v1453, trip_k0_t1.sl.v1449, trip_k0_t1.sl.v483, trip_k0_t1.sl.v482, trip_k0_t1.sl.v792, trip_k0_t1.sl.v784, trip_k0_t1.sl.v783]
  simp only [h0_apply, r1_apply, r2_apply, v1443_apply, rd_x arg1.view X_arg1 (k0_off1 k) _ _ (k0_off1_eq k), rd_w, tx, tw, Nat.zero_add]

theorem code1_apply (r : Fin 32) (l : Fin 128) : trip_k0_t1.sl.v1477 (F := Ideal) i arg1 arg2 k0_h1 X_arg1 X_arg2 k (ix2 r l)
    = kCode (tx arg1 X_arg1 k r) (tw arg2 X_arg2) (128 + l.val) := by
  unfold kCode
  pointwise [trip_k0_t1.sl.v1477, trip_k0_t1.sl.v1476, trip_k0_t1.sl.v1457, trip_k0_t1.sl.cst_318, trip_k0_t1.sl.v1474, trip_k0_t1.sl.v1455, trip_k0_t1.sl.cst_317, trip_k0_t1.sl.v1472]
  simp only [h1_apply, r1_apply, r2_apply, v1443_apply, rd_w, tx, tw, Nat.zero_add]

theorem code2_apply (r : Fin 32) (l : Fin 128) : trip_k0_t1.sl.v1495 (F := Ideal) i arg1 arg2 k0_h1 X_arg1 X_arg2 k (ix2 r l)
    = kCode (tx arg1 X_arg1 k r) (tw arg2 X_arg2) (256 + l.val) := by
  unfold kCode
  pointwise [trip_k0_t1.sl.v1495, trip_k0_t1.sl.v1494, trip_k0_t1.sl.v1457, trip_k0_t1.sl.cst_318, trip_k0_t1.sl.v1492, trip_k0_t1.sl.v1455, trip_k0_t1.sl.cst_317, trip_k0_t1.sl.v1490]
  simp only [h2_apply, r1_apply, r2_apply, v1443_apply, rd_w, tx, tw, Nat.zero_add]

theorem code3_apply (r : Fin 32) (l : Fin 128) : trip_k0_t1.sl.v1513 (F := Ideal) i arg1 arg2 k0_h1 X_arg1 X_arg2 k (ix2 r l)
    = kCode (tx arg1 X_arg1 k r) (tw arg2 X_arg2) (384 + l.val) := by
  unfold kCode
  pointwise [trip_k0_t1.sl.v1513, trip_k0_t1.sl.v1512, trip_k0_t1.sl.v1457, trip_k0_t1.sl.cst_318, trip_k0_t1.sl.v1510, trip_k0_t1.sl.v1455, trip_k0_t1.sl.cst_317, trip_k0_t1.sl.v1508]
  simp only [h3_apply, r1_apply, r2_apply, v1443_apply, rd_w, tx, tw, Nat.zero_add]

theorem code4_apply (r : Fin 32) (l : Fin 128) : trip_k0_t1.sl.v1531 (F := Ideal) i arg1 arg2 k0_h1 X_arg1 X_arg2 k (ix2 r l)
    = kCode (tx arg1 X_arg1 k r) (tw arg2 X_arg2) (512 + l.val) := by
  unfold kCode
  pointwise [trip_k0_t1.sl.v1531, trip_k0_t1.sl.v1530, trip_k0_t1.sl.v1457, trip_k0_t1.sl.cst_318, trip_k0_t1.sl.v1528, trip_k0_t1.sl.v1455, trip_k0_t1.sl.cst_317, trip_k0_t1.sl.v1526]
  simp only [h4_apply, r1_apply, r2_apply, v1443_apply, rd_w, tx, tw, Nat.zero_add]

theorem code5_apply (r : Fin 32) (l : Fin 128) : trip_k0_t1.sl.v1549 (F := Ideal) i arg1 arg2 k0_h1 X_arg1 X_arg2 k (ix2 r l)
    = kCode (tx arg1 X_arg1 k r) (tw arg2 X_arg2) (640 + l.val) := by
  unfold kCode
  pointwise [trip_k0_t1.sl.v1549, trip_k0_t1.sl.v1548, trip_k0_t1.sl.v1457, trip_k0_t1.sl.cst_318, trip_k0_t1.sl.v1546, trip_k0_t1.sl.v1455, trip_k0_t1.sl.cst_317, trip_k0_t1.sl.v1544]
  simp only [h5_apply, r1_apply, r2_apply, v1443_apply, rd_w, tx, tw, Nat.zero_add]

theorem code6_apply (r : Fin 32) (l : Fin 128) : trip_k0_t1.sl.v1567 (F := Ideal) i arg1 arg2 k0_h1 X_arg1 X_arg2 k (ix2 r l)
    = kCode (tx arg1 X_arg1 k r) (tw arg2 X_arg2) (768 + l.val) := by
  unfold kCode
  pointwise [trip_k0_t1.sl.v1567, trip_k0_t1.sl.v1566, trip_k0_t1.sl.v1457, trip_k0_t1.sl.cst_318, trip_k0_t1.sl.v1564, trip_k0_t1.sl.v1455, trip_k0_t1.sl.cst_317, trip_k0_t1.sl.v1562]
  simp only [h6_apply, r1_apply, r2_apply, v1443_apply, rd_w, tx, tw, Nat.zero_add]

theorem code7_apply (r : Fin 32) (l : Fin 128) : trip_k0_t1.sl.v1585 (F := Ideal) i arg1 arg2 k0_h1 X_arg1 X_arg2 k (ix2 r l)
    = kCode (tx arg1 X_arg1 k r) (tw arg2 X_arg2) (896 + l.val) := by
  unfold kCode
  pointwise [trip_k0_t1.sl.v1585, trip_k0_t1.sl.v1584, trip_k0_t1.sl.v1457, trip_k0_t1.sl.cst_318, trip_k0_t1.sl.v1582, trip_k0_t1.sl.v1455, trip_k0_t1.sl.cst_317, trip_k0_t1.sl.v1580]
  simp only [h7_apply, r1_apply, r2_apply, v1443_apply, rd_w, tx, tw, Nat.zero_add]

theorem code8_apply (r : Fin 32) (l : Fin 128) : trip_k0_t1.sl.v1603 (F := Ideal) i arg1 arg2 k0_h1 X_arg1 X_arg2 k (ix2 r l)
    = kCode (tx arg1 X_arg1 k r) (tw arg2 X_arg2) (1024 + l.val) := by
  unfold kCode
  pointwise [trip_k0_t1.sl.v1603, trip_k0_t1.sl.v1602, trip_k0_t1.sl.v1457, trip_k0_t1.sl.cst_318, trip_k0_t1.sl.v1600, trip_k0_t1.sl.v1455, trip_k0_t1.sl.cst_317, trip_k0_t1.sl.v1598]
  simp only [h8_apply, r1_apply, r2_apply, v1443_apply, rd_w, tx, tw, Nat.zero_add]

theorem code9_apply (r : Fin 32) (l : Fin 128) : trip_k0_t1.sl.v1621 (F := Ideal) i arg1 arg2 k0_h1 X_arg1 X_arg2 k (ix2 r l)
    = kCode (tx arg1 X_arg1 k r) (tw arg2 X_arg2) (1152 + l.val) := by
  unfold kCode
  pointwise [trip_k0_t1.sl.v1621, trip_k0_t1.sl.v1620, trip_k0_t1.sl.v1457, trip_k0_t1.sl.cst_318, trip_k0_t1.sl.v1618, trip_k0_t1.sl.v1455, trip_k0_t1.sl.cst_317, trip_k0_t1.sl.v1616]
  simp only [h9_apply, r1_apply, r2_apply, v1443_apply, rd_w, tx, tw, Nat.zero_add]

theorem code10_apply (r : Fin 32) (l : Fin 128) : trip_k0_t1.sl.v1639 (F := Ideal) i arg1 arg2 k0_h1 X_arg1 X_arg2 k (ix2 r l)
    = kCode (tx arg1 X_arg1 k r) (tw arg2 X_arg2) (1280 + l.val) := by
  unfold kCode
  pointwise [trip_k0_t1.sl.v1639, trip_k0_t1.sl.v1638, trip_k0_t1.sl.v1457, trip_k0_t1.sl.cst_318, trip_k0_t1.sl.v1636, trip_k0_t1.sl.v1455, trip_k0_t1.sl.cst_317, trip_k0_t1.sl.v1634]
  simp only [h10_apply, r1_apply, r2_apply, v1443_apply, rd_w, tx, tw, Nat.zero_add]

theorem code11_apply (r : Fin 32) (l : Fin 128) : trip_k0_t1.sl.v1657 (F := Ideal) i arg1 arg2 k0_h1 X_arg1 X_arg2 k (ix2 r l)
    = kCode (tx arg1 X_arg1 k r) (tw arg2 X_arg2) (1408 + l.val) := by
  unfold kCode
  pointwise [trip_k0_t1.sl.v1657, trip_k0_t1.sl.v1656, trip_k0_t1.sl.v1457, trip_k0_t1.sl.cst_318, trip_k0_t1.sl.v1654, trip_k0_t1.sl.v1455, trip_k0_t1.sl.cst_317, trip_k0_t1.sl.v1652]
  simp only [h11_apply, r1_apply, r2_apply, v1443_apply, rd_w, tx, tw, Nat.zero_add]

theorem code12_apply (r : Fin 32) (l : Fin 128) : trip_k0_t1.sl.v1675 (F := Ideal) i arg1 arg2 k0_h1 X_arg1 X_arg2 k (ix2 r l)
    = kCode (tx arg1 X_arg1 k r) (tw arg2 X_arg2) (1536 + l.val) := by
  unfold kCode
  pointwise [trip_k0_t1.sl.v1675, trip_k0_t1.sl.v1674, trip_k0_t1.sl.v1457, trip_k0_t1.sl.cst_318, trip_k0_t1.sl.v1672, trip_k0_t1.sl.v1455, trip_k0_t1.sl.cst_317, trip_k0_t1.sl.v1670]
  simp only [h12_apply, r1_apply, r2_apply, v1443_apply, rd_w, tx, tw, Nat.zero_add]

theorem code13_apply (r : Fin 32) (l : Fin 128) : trip_k0_t1.sl.v1693 (F := Ideal) i arg1 arg2 k0_h1 X_arg1 X_arg2 k (ix2 r l)
    = kCode (tx arg1 X_arg1 k r) (tw arg2 X_arg2) (1664 + l.val) := by
  unfold kCode
  pointwise [trip_k0_t1.sl.v1693, trip_k0_t1.sl.v1692, trip_k0_t1.sl.v1457, trip_k0_t1.sl.cst_318, trip_k0_t1.sl.v1690, trip_k0_t1.sl.v1455, trip_k0_t1.sl.cst_317, trip_k0_t1.sl.v1688]
  simp only [h13_apply, r1_apply, r2_apply, v1443_apply, rd_w, tx, tw, Nat.zero_add]

theorem code14_apply (r : Fin 32) (l : Fin 128) : trip_k0_t1.sl.v1711 (F := Ideal) i arg1 arg2 k0_h1 X_arg1 X_arg2 k (ix2 r l)
    = kCode (tx arg1 X_arg1 k r) (tw arg2 X_arg2) (1792 + l.val) := by
  unfold kCode
  pointwise [trip_k0_t1.sl.v1711, trip_k0_t1.sl.v1710, trip_k0_t1.sl.v1457, trip_k0_t1.sl.cst_318, trip_k0_t1.sl.v1708, trip_k0_t1.sl.v1455, trip_k0_t1.sl.cst_317, trip_k0_t1.sl.v1706]
  simp only [h14_apply, r1_apply, r2_apply, v1443_apply, rd_w, tx, tw, Nat.zero_add]

theorem code15_apply (r : Fin 32) (l : Fin 128) : trip_k0_t1.sl.v1729 (F := Ideal) i arg1 arg2 k0_h1 X_arg1 X_arg2 k (ix2 r l)
    = kCode (tx arg1 X_arg1 k r) (tw arg2 X_arg2) (1920 + l.val) := by
  unfold kCode
  pointwise [trip_k0_t1.sl.v1729, trip_k0_t1.sl.v1728, trip_k0_t1.sl.v1457, trip_k0_t1.sl.cst_318, trip_k0_t1.sl.v1726, trip_k0_t1.sl.v1455, trip_k0_t1.sl.cst_317, trip_k0_t1.sl.v1724]
  simp only [h15_apply, r1_apply, r2_apply, v1443_apply, rd_w, tx, tw, Nat.zero_add]

theorem code16_apply (r : Fin 32) (l : Fin 128) : trip_k0_t1.sl.v1747 (F := Ideal) i arg1 arg2 k0_h1 X_arg1 X_arg2 k (ix2 r l)
    = kCode (tx arg1 X_arg1 k r) (tw arg2 X_arg2) (2048 + l.val) := by
  unfold kCode
  pointwise [trip_k0_t1.sl.v1747, trip_k0_t1.sl.v1746, trip_k0_t1.sl.v1457, trip_k0_t1.sl.cst_318, trip_k0_t1.sl.v1744, trip_k0_t1.sl.v1455, trip_k0_t1.sl.cst_317, trip_k0_t1.sl.v1742]
  simp only [h16_apply, r1_apply, r2_apply, v1443_apply, rd_w, tx, tw, Nat.zero_add]

theorem code17_apply (r : Fin 32) (l : Fin 128) : trip_k0_t1.sl.v1765 (F := Ideal) i arg1 arg2 k0_h1 X_arg1 X_arg2 k (ix2 r l)
    = kCode (tx arg1 X_arg1 k r) (tw arg2 X_arg2) (2176 + l.val) := by
  unfold kCode
  pointwise [trip_k0_t1.sl.v1765, trip_k0_t1.sl.v1764, trip_k0_t1.sl.v1457, trip_k0_t1.sl.cst_318, trip_k0_t1.sl.v1762, trip_k0_t1.sl.v1455, trip_k0_t1.sl.cst_317, trip_k0_t1.sl.v1760]
  simp only [h17_apply, r1_apply, r2_apply, v1443_apply, rd_w, tx, tw, Nat.zero_add]

theorem code18_apply (r : Fin 32) (l : Fin 128) : trip_k0_t1.sl.v1783 (F := Ideal) i arg1 arg2 k0_h1 X_arg1 X_arg2 k (ix2 r l)
    = kCode (tx arg1 X_arg1 k r) (tw arg2 X_arg2) (2304 + l.val) := by
  unfold kCode
  pointwise [trip_k0_t1.sl.v1783, trip_k0_t1.sl.v1782, trip_k0_t1.sl.v1457, trip_k0_t1.sl.cst_318, trip_k0_t1.sl.v1780, trip_k0_t1.sl.v1455, trip_k0_t1.sl.cst_317, trip_k0_t1.sl.v1778]
  simp only [h18_apply, r1_apply, r2_apply, v1443_apply, rd_w, tx, tw, Nat.zero_add]

theorem code19_apply (r : Fin 32) (l : Fin 128) : trip_k0_t1.sl.v1801 (F := Ideal) i arg1 arg2 k0_h1 X_arg1 X_arg2 k (ix2 r l)
    = kCode (tx arg1 X_arg1 k r) (tw arg2 X_arg2) (2432 + l.val) := by
  unfold kCode
  pointwise [trip_k0_t1.sl.v1801, trip_k0_t1.sl.v1800, trip_k0_t1.sl.v1457, trip_k0_t1.sl.cst_318, trip_k0_t1.sl.v1798, trip_k0_t1.sl.v1455, trip_k0_t1.sl.cst_317, trip_k0_t1.sl.v1796]
  simp only [h19_apply, r1_apply, r2_apply, v1443_apply, rd_w, tx, tw, Nat.zero_add]

theorem code20_apply (r : Fin 32) (l : Fin 128) : trip_k0_t1.sl.v1819 (F := Ideal) i arg1 arg2 k0_h1 X_arg1 X_arg2 k (ix2 r l)
    = kCode (tx arg1 X_arg1 k r) (tw arg2 X_arg2) (2560 + l.val) := by
  unfold kCode
  pointwise [trip_k0_t1.sl.v1819, trip_k0_t1.sl.v1818, trip_k0_t1.sl.v1457, trip_k0_t1.sl.cst_318, trip_k0_t1.sl.v1816, trip_k0_t1.sl.v1455, trip_k0_t1.sl.cst_317, trip_k0_t1.sl.v1814]
  simp only [h20_apply, r1_apply, r2_apply, v1443_apply, rd_w, tx, tw, Nat.zero_add]

theorem code21_apply (r : Fin 32) (l : Fin 128) : trip_k0_t1.sl.v1837 (F := Ideal) i arg1 arg2 k0_h1 X_arg1 X_arg2 k (ix2 r l)
    = kCode (tx arg1 X_arg1 k r) (tw arg2 X_arg2) (2688 + l.val) := by
  unfold kCode
  pointwise [trip_k0_t1.sl.v1837, trip_k0_t1.sl.v1836, trip_k0_t1.sl.v1457, trip_k0_t1.sl.cst_318, trip_k0_t1.sl.v1834, trip_k0_t1.sl.v1455, trip_k0_t1.sl.cst_317, trip_k0_t1.sl.v1832]
  simp only [h21_apply, r1_apply, r2_apply, v1443_apply, rd_w, tx, tw, Nat.zero_add]

theorem code22_apply (r : Fin 32) (l : Fin 128) : trip_k0_t1.sl.v1855 (F := Ideal) i arg1 arg2 k0_h1 X_arg1 X_arg2 k (ix2 r l)
    = kCode (tx arg1 X_arg1 k r) (tw arg2 X_arg2) (2816 + l.val) := by
  unfold kCode
  pointwise [trip_k0_t1.sl.v1855, trip_k0_t1.sl.v1854, trip_k0_t1.sl.v1457, trip_k0_t1.sl.cst_318, trip_k0_t1.sl.v1852, trip_k0_t1.sl.v1455, trip_k0_t1.sl.cst_317, trip_k0_t1.sl.v1850]
  simp only [h22_apply, r1_apply, r2_apply, v1443_apply, rd_w, tx, tw, Nat.zero_add]

theorem code23_apply (r : Fin 32) (l : Fin 128) : trip_k0_t1.sl.v1873 (F := Ideal) i arg1 arg2 k0_h1 X_arg1 X_arg2 k (ix2 r l)
    = kCode (tx arg1 X_arg1 k r) (tw arg2 X_arg2) (2944 + l.val) := by
  unfold kCode
  pointwise [trip_k0_t1.sl.v1873, trip_k0_t1.sl.v1872, trip_k0_t1.sl.v1457, trip_k0_t1.sl.cst_318, trip_k0_t1.sl.v1870, trip_k0_t1.sl.v1455, trip_k0_t1.sl.cst_317, trip_k0_t1.sl.v1868]
  simp only [h23_apply, r1_apply, r2_apply, v1443_apply, rd_w, tx, tw, Nat.zero_add]

theorem code24_apply (r : Fin 32) (l : Fin 128) : trip_k0_t1.sl.v1891 (F := Ideal) i arg1 arg2 k0_h1 X_arg1 X_arg2 k (ix2 r l)
    = kCode (tx arg1 X_arg1 k r) (tw arg2 X_arg2) (3072 + l.val) := by
  unfold kCode
  pointwise [trip_k0_t1.sl.v1891, trip_k0_t1.sl.v1890, trip_k0_t1.sl.v1457, trip_k0_t1.sl.cst_318, trip_k0_t1.sl.v1888, trip_k0_t1.sl.v1455, trip_k0_t1.sl.cst_317, trip_k0_t1.sl.v1886]
  simp only [h24_apply, r1_apply, r2_apply, v1443_apply, rd_w, tx, tw, Nat.zero_add]

theorem code25_apply (r : Fin 32) (l : Fin 128) : trip_k0_t1.sl.v1909 (F := Ideal) i arg1 arg2 k0_h1 X_arg1 X_arg2 k (ix2 r l)
    = kCode (tx arg1 X_arg1 k r) (tw arg2 X_arg2) (3200 + l.val) := by
  unfold kCode
  pointwise [trip_k0_t1.sl.v1909, trip_k0_t1.sl.v1908, trip_k0_t1.sl.v1457, trip_k0_t1.sl.cst_318, trip_k0_t1.sl.v1906, trip_k0_t1.sl.v1455, trip_k0_t1.sl.cst_317, trip_k0_t1.sl.v1904]
  simp only [h25_apply, r1_apply, r2_apply, v1443_apply, rd_w, tx, tw, Nat.zero_add]

theorem code26_apply (r : Fin 32) (l : Fin 128) : trip_k0_t1.sl.v1927 (F := Ideal) i arg1 arg2 k0_h1 X_arg1 X_arg2 k (ix2 r l)
    = kCode (tx arg1 X_arg1 k r) (tw arg2 X_arg2) (3328 + l.val) := by
  unfold kCode
  pointwise [trip_k0_t1.sl.v1927, trip_k0_t1.sl.v1926, trip_k0_t1.sl.v1457, trip_k0_t1.sl.cst_318, trip_k0_t1.sl.v1924, trip_k0_t1.sl.v1455, trip_k0_t1.sl.cst_317, trip_k0_t1.sl.v1922]
  simp only [h26_apply, r1_apply, r2_apply, v1443_apply, rd_w, tx, tw, Nat.zero_add]

theorem code27_apply (r : Fin 32) (l : Fin 128) : trip_k0_t1.sl.v1945 (F := Ideal) i arg1 arg2 k0_h1 X_arg1 X_arg2 k (ix2 r l)
    = kCode (tx arg1 X_arg1 k r) (tw arg2 X_arg2) (3456 + l.val) := by
  unfold kCode
  pointwise [trip_k0_t1.sl.v1945, trip_k0_t1.sl.v1944, trip_k0_t1.sl.v1457, trip_k0_t1.sl.cst_318, trip_k0_t1.sl.v1942, trip_k0_t1.sl.v1455, trip_k0_t1.sl.cst_317, trip_k0_t1.sl.v1940]
  simp only [h27_apply, r1_apply, r2_apply, v1443_apply, rd_w, tx, tw, Nat.zero_add]

theorem code28_apply (r : Fin 32) (l : Fin 128) : trip_k0_t1.sl.v1963 (F := Ideal) i arg1 arg2 k0_h1 X_arg1 X_arg2 k (ix2 r l)
    = kCode (tx arg1 X_arg1 k r) (tw arg2 X_arg2) (3584 + l.val) := by
  unfold kCode
  pointwise [trip_k0_t1.sl.v1963, trip_k0_t1.sl.v1962, trip_k0_t1.sl.v1457, trip_k0_t1.sl.cst_318, trip_k0_t1.sl.v1960, trip_k0_t1.sl.v1455, trip_k0_t1.sl.cst_317, trip_k0_t1.sl.v1958]
  simp only [h28_apply, r1_apply, r2_apply, v1443_apply, rd_w, tx, tw, Nat.zero_add]

theorem code29_apply (r : Fin 32) (l : Fin 128) : trip_k0_t1.sl.v1981 (F := Ideal) i arg1 arg2 k0_h1 X_arg1 X_arg2 k (ix2 r l)
    = kCode (tx arg1 X_arg1 k r) (tw arg2 X_arg2) (3712 + l.val) := by
  unfold kCode
  pointwise [trip_k0_t1.sl.v1981, trip_k0_t1.sl.v1980, trip_k0_t1.sl.v1457, trip_k0_t1.sl.cst_318, trip_k0_t1.sl.v1978, trip_k0_t1.sl.v1455, trip_k0_t1.sl.cst_317, trip_k0_t1.sl.v1976]
  simp only [h29_apply, r1_apply, r2_apply, v1443_apply, rd_w, tx, tw, Nat.zero_add]

theorem code30_apply (r : Fin 32) (l : Fin 128) : trip_k0_t1.sl.v1999 (F := Ideal) i arg1 arg2 k0_h1 X_arg1 X_arg2 k (ix2 r l)
    = kCode (tx arg1 X_arg1 k r) (tw arg2 X_arg2) (3840 + l.val) := by
  unfold kCode
  pointwise [trip_k0_t1.sl.v1999, trip_k0_t1.sl.v1998, trip_k0_t1.sl.v1457, trip_k0_t1.sl.cst_318, trip_k0_t1.sl.v1996, trip_k0_t1.sl.v1455, trip_k0_t1.sl.cst_317, trip_k0_t1.sl.v1994]
  simp only [h30_apply, r1_apply, r2_apply, v1443_apply, rd_w, tx, tw, Nat.zero_add]

theorem code31_apply (r : Fin 32) (l : Fin 128) : trip_k0_t1.sl.v2017 (F := Ideal) i arg1 arg2 k0_h1 X_arg1 X_arg2 k (ix2 r l)
    = kCode (tx arg1 X_arg1 k r) (tw arg2 X_arg2) (3968 + l.val) := by
  unfold kCode
  pointwise [trip_k0_t1.sl.v2017, trip_k0_t1.sl.v2016, trip_k0_t1.sl.v1457, trip_k0_t1.sl.cst_318, trip_k0_t1.sl.v2014, trip_k0_t1.sl.v1455, trip_k0_t1.sl.cst_317, trip_k0_t1.sl.v2012]
  simp only [h31_apply, r1_apply, r2_apply, v1443_apply, rd_w, tx, tw, Nat.zero_add]

theorem code32_apply (r : Fin 32) (l : Fin 128) : trip_k0_t1.sl.v2035 (F := Ideal) i arg1 arg2 k0_h1 X_arg1 X_arg2 k (ix2 r l)
    = kCode (tx arg1 X_arg1 k r) (tw arg2 X_arg2) (4096 + l.val) := by
  unfold kCode
  pointwise [trip_k0_t1.sl.v2035, trip_k0_t1.sl.v2034, trip_k0_t1.sl.v1457, trip_k0_t1.sl.cst_318, trip_k0_t1.sl.v2032, trip_k0_t1.sl.v1455, trip_k0_t1.sl.cst_317, trip_k0_t1.sl.v2030]
  simp only [h32_apply, r1_apply, r2_apply, v1443_apply, rd_w, tx, tw, Nat.zero_add]

theorem code33_apply (r : Fin 32) (l : Fin 128) : trip_k0_t1.sl.v2053 (F := Ideal) i arg1 arg2 k0_h1 X_arg1 X_arg2 k (ix2 r l)
    = kCode (tx arg1 X_arg1 k r) (tw arg2 X_arg2) (4224 + l.val) := by
  unfold kCode
  pointwise [trip_k0_t1.sl.v2053, trip_k0_t1.sl.v2052, trip_k0_t1.sl.v1457, trip_k0_t1.sl.cst_318, trip_k0_t1.sl.v2050, trip_k0_t1.sl.v1455, trip_k0_t1.sl.cst_317, trip_k0_t1.sl.v2048]
  simp only [h33_apply, r1_apply, r2_apply, v1443_apply, rd_w, tx, tw, Nat.zero_add]

theorem code34_apply (r : Fin 32) (l : Fin 128) : trip_k0_t1.sl.v2071 (F := Ideal) i arg1 arg2 k0_h1 X_arg1 X_arg2 k (ix2 r l)
    = kCode (tx arg1 X_arg1 k r) (tw arg2 X_arg2) (4352 + l.val) := by
  unfold kCode
  pointwise [trip_k0_t1.sl.v2071, trip_k0_t1.sl.v2070, trip_k0_t1.sl.v1457, trip_k0_t1.sl.cst_318, trip_k0_t1.sl.v2068, trip_k0_t1.sl.v1455, trip_k0_t1.sl.cst_317, trip_k0_t1.sl.v2066]
  simp only [h34_apply, r1_apply, r2_apply, v1443_apply, rd_w, tx, tw, Nat.zero_add]

theorem code35_apply (r : Fin 32) (l : Fin 128) : trip_k0_t1.sl.v2089 (F := Ideal) i arg1 arg2 k0_h1 X_arg1 X_arg2 k (ix2 r l)
    = kCode (tx arg1 X_arg1 k r) (tw arg2 X_arg2) (4480 + l.val) := by
  unfold kCode
  pointwise [trip_k0_t1.sl.v2089, trip_k0_t1.sl.v2088, trip_k0_t1.sl.v1457, trip_k0_t1.sl.cst_318, trip_k0_t1.sl.v2086, trip_k0_t1.sl.v1455, trip_k0_t1.sl.cst_317, trip_k0_t1.sl.v2084]
  simp only [h35_apply, r1_apply, r2_apply, v1443_apply, rd_w, tx, tw, Nat.zero_add]

theorem code36_apply (r : Fin 32) (l : Fin 128) : trip_k0_t1.sl.v2107 (F := Ideal) i arg1 arg2 k0_h1 X_arg1 X_arg2 k (ix2 r l)
    = kCode (tx arg1 X_arg1 k r) (tw arg2 X_arg2) (4608 + l.val) := by
  unfold kCode
  pointwise [trip_k0_t1.sl.v2107, trip_k0_t1.sl.v2106, trip_k0_t1.sl.v1457, trip_k0_t1.sl.cst_318, trip_k0_t1.sl.v2104, trip_k0_t1.sl.v1455, trip_k0_t1.sl.cst_317, trip_k0_t1.sl.v2102]
  simp only [h36_apply, r1_apply, r2_apply, v1443_apply, rd_w, tx, tw, Nat.zero_add]

theorem code37_apply (r : Fin 32) (l : Fin 128) : trip_k0_t1.sl.v2125 (F := Ideal) i arg1 arg2 k0_h1 X_arg1 X_arg2 k (ix2 r l)
    = kCode (tx arg1 X_arg1 k r) (tw arg2 X_arg2) (4736 + l.val) := by
  unfold kCode
  pointwise [trip_k0_t1.sl.v2125, trip_k0_t1.sl.v2124, trip_k0_t1.sl.v1457, trip_k0_t1.sl.cst_318, trip_k0_t1.sl.v2122, trip_k0_t1.sl.v1455, trip_k0_t1.sl.cst_317, trip_k0_t1.sl.v2120]
  simp only [h37_apply, r1_apply, r2_apply, v1443_apply, rd_w, tx, tw, Nat.zero_add]

theorem code38_apply (r : Fin 32) (l : Fin 128) : trip_k0_t1.sl.v2143 (F := Ideal) i arg1 arg2 k0_h1 X_arg1 X_arg2 k (ix2 r l)
    = kCode (tx arg1 X_arg1 k r) (tw arg2 X_arg2) (4864 + l.val) := by
  unfold kCode
  pointwise [trip_k0_t1.sl.v2143, trip_k0_t1.sl.v2142, trip_k0_t1.sl.v1457, trip_k0_t1.sl.cst_318, trip_k0_t1.sl.v2140, trip_k0_t1.sl.v1455, trip_k0_t1.sl.cst_317, trip_k0_t1.sl.v2138]
  simp only [h38_apply, r1_apply, r2_apply, v1443_apply, rd_w, tx, tw, Nat.zero_add]

theorem code39_apply (r : Fin 32) (l : Fin 128) : trip_k0_t1.sl.v2161 (F := Ideal) i arg1 arg2 k0_h1 X_arg1 X_arg2 k (ix2 r l)
    = kCode (tx arg1 X_arg1 k r) (tw arg2 X_arg2) (4992 + l.val) := by
  unfold kCode
  pointwise [trip_k0_t1.sl.v2161, trip_k0_t1.sl.v2160, trip_k0_t1.sl.v1457, trip_k0_t1.sl.cst_318, trip_k0_t1.sl.v2158, trip_k0_t1.sl.v1455, trip_k0_t1.sl.cst_317, trip_k0_t1.sl.v2156]
  simp only [h39_apply, r1_apply, r2_apply, v1443_apply, rd_w, tx, tw, Nat.zero_add]

theorem code40_apply (r : Fin 32) (l : Fin 128) : trip_k0_t1.sl.v2179 (F := Ideal) i arg1 arg2 k0_h1 X_arg1 X_arg2 k (ix2 r l)
    = kCode (tx arg1 X_arg1 k r) (tw arg2 X_arg2) (5120 + l.val) := by
  unfold kCode
  pointwise [trip_k0_t1.sl.v2179, trip_k0_t1.sl.v2178, trip_k0_t1.sl.v1457, trip_k0_t1.sl.cst_318, trip_k0_t1.sl.v2176, trip_k0_t1.sl.v1455, trip_k0_t1.sl.cst_317, trip_k0_t1.sl.v2174]
  simp only [h40_apply, r1_apply, r2_apply, v1443_apply, rd_w, tx, tw, Nat.zero_add]

theorem code41_apply (r : Fin 32) (l : Fin 128) : trip_k0_t1.sl.v2197 (F := Ideal) i arg1 arg2 k0_h1 X_arg1 X_arg2 k (ix2 r l)
    = kCode (tx arg1 X_arg1 k r) (tw arg2 X_arg2) (5248 + l.val) := by
  unfold kCode
  pointwise [trip_k0_t1.sl.v2197, trip_k0_t1.sl.v2196, trip_k0_t1.sl.v1457, trip_k0_t1.sl.cst_318, trip_k0_t1.sl.v2194, trip_k0_t1.sl.v1455, trip_k0_t1.sl.cst_317, trip_k0_t1.sl.v2192]
  simp only [h41_apply, r1_apply, r2_apply, v1443_apply, rd_w, tx, tw, Nat.zero_add]

theorem code42_apply (r : Fin 32) (l : Fin 128) : trip_k0_t1.sl.v2215 (F := Ideal) i arg1 arg2 k0_h1 X_arg1 X_arg2 k (ix2 r l)
    = kCode (tx arg1 X_arg1 k r) (tw arg2 X_arg2) (5376 + l.val) := by
  unfold kCode
  pointwise [trip_k0_t1.sl.v2215, trip_k0_t1.sl.v2214, trip_k0_t1.sl.v1457, trip_k0_t1.sl.cst_318, trip_k0_t1.sl.v2212, trip_k0_t1.sl.v1455, trip_k0_t1.sl.cst_317, trip_k0_t1.sl.v2210]
  simp only [h42_apply, r1_apply, r2_apply, v1443_apply, rd_w, tx, tw, Nat.zero_add]

theorem code43_apply (r : Fin 32) (l : Fin 128) : trip_k0_t1.sl.v2233 (F := Ideal) i arg1 arg2 k0_h1 X_arg1 X_arg2 k (ix2 r l)
    = kCode (tx arg1 X_arg1 k r) (tw arg2 X_arg2) (5504 + l.val) := by
  unfold kCode
  pointwise [trip_k0_t1.sl.v2233, trip_k0_t1.sl.v2232, trip_k0_t1.sl.v1457, trip_k0_t1.sl.cst_318, trip_k0_t1.sl.v2230, trip_k0_t1.sl.v1455, trip_k0_t1.sl.cst_317, trip_k0_t1.sl.v2228]
  simp only [h43_apply, r1_apply, r2_apply, v1443_apply, rd_w, tx, tw, Nat.zero_add]

theorem code44_apply (r : Fin 32) (l : Fin 128) : trip_k0_t1.sl.v2251 (F := Ideal) i arg1 arg2 k0_h1 X_arg1 X_arg2 k (ix2 r l)
    = kCode (tx arg1 X_arg1 k r) (tw arg2 X_arg2) (5632 + l.val) := by
  unfold kCode
  pointwise [trip_k0_t1.sl.v2251, trip_k0_t1.sl.v2250, trip_k0_t1.sl.v1457, trip_k0_t1.sl.cst_318, trip_k0_t1.sl.v2248, trip_k0_t1.sl.v1455, trip_k0_t1.sl.cst_317, trip_k0_t1.sl.v2246]
  simp only [h44_apply, r1_apply, r2_apply, v1443_apply, rd_w, tx, tw, Nat.zero_add]

theorem code45_apply (r : Fin 32) (l : Fin 128) : trip_k0_t1.sl.v2269 (F := Ideal) i arg1 arg2 k0_h1 X_arg1 X_arg2 k (ix2 r l)
    = kCode (tx arg1 X_arg1 k r) (tw arg2 X_arg2) (5760 + l.val) := by
  unfold kCode
  pointwise [trip_k0_t1.sl.v2269, trip_k0_t1.sl.v2268, trip_k0_t1.sl.v1457, trip_k0_t1.sl.cst_318, trip_k0_t1.sl.v2266, trip_k0_t1.sl.v1455, trip_k0_t1.sl.cst_317, trip_k0_t1.sl.v2264]
  simp only [h45_apply, r1_apply, r2_apply, v1443_apply, rd_w, tx, tw, Nat.zero_add]

theorem code46_apply (r : Fin 32) (l : Fin 128) : trip_k0_t1.sl.v2287 (F := Ideal) i arg1 arg2 k0_h1 X_arg1 X_arg2 k (ix2 r l)
    = kCode (tx arg1 X_arg1 k r) (tw arg2 X_arg2) (5888 + l.val) := by
  unfold kCode
  pointwise [trip_k0_t1.sl.v2287, trip_k0_t1.sl.v2286, trip_k0_t1.sl.v1457, trip_k0_t1.sl.cst_318, trip_k0_t1.sl.v2284, trip_k0_t1.sl.v1455, trip_k0_t1.sl.cst_317, trip_k0_t1.sl.v2282]
  simp only [h46_apply, r1_apply, r2_apply, v1443_apply, rd_w, tx, tw, Nat.zero_add]

theorem code47_apply (r : Fin 32) (l : Fin 128) : trip_k0_t1.sl.v2305 (F := Ideal) i arg1 arg2 k0_h1 X_arg1 X_arg2 k (ix2 r l)
    = kCode (tx arg1 X_arg1 k r) (tw arg2 X_arg2) (6016 + l.val) := by
  unfold kCode
  pointwise [trip_k0_t1.sl.v2305, trip_k0_t1.sl.v2304, trip_k0_t1.sl.v1457, trip_k0_t1.sl.cst_318, trip_k0_t1.sl.v2302, trip_k0_t1.sl.v1455, trip_k0_t1.sl.cst_317, trip_k0_t1.sl.v2300]
  simp only [h47_apply, r1_apply, r2_apply, v1443_apply, rd_w, tx, tw, Nat.zero_add]

/-! ## What a trip stores -/

/-- Every code, of the rows and weights the kernel reads. -/
def codesOf (X : Vec Ideal S256x6144 .bf16) (W : Vec Ideal S1x6144 .f32) : Vec Ideal S256x6144 .fp8e4m3 :=
  fun y => kCode (xr X (y 0).val) (wr W) (y 1).val

/-- Every row's step, in each lane. -/
def stepsOf (X : Vec Ideal S256x6144 .bf16) (W : Vec Ideal S1x6144 .f32) : Vec Ideal S256x128 .f32 :=
  fun y => kPow2 (kE (kT (xr X (y 0).val) (wr W)))

theorem piece_code (off : Fin 2 → ℕ) (n : ℕ) (ho : off = ![32 * k.val, n]) (inb : ∀ q, off q + (![32, 128] : Fin 2 → ℕ) q ≤ S256x6144.size q)
    (p : Vec Ideal S32x128 .fp8e4m3) (hp : ∀ r l, p (ix2 r l) = kCode (tx arg1 X_arg1 k r) (tw arg2 X_arg2) (n + l.val)) (x : S32x128.Idx) :
    p x = codesOf (arg1.view.read (Elt Ideal) X_arg1) (arg2.view.read (Elt Ideal) X_arg2) ((Rect.unit (s := S256x6144) off ![32, 128] inb).emb x) := by
  subst ho
  have e : x = ix2 (x 0) (x 1) := by funext q; match q with | ⟨0, _⟩ => rfl | ⟨1, _⟩ => rfl
  refine (congrArg p e).trans ((hp (x 0) (x 1)).trans ?_)
  have e0 : (((Rect.unit (s := S256x6144) ![32 * k.val, n] ![32, 128] inb).emb x) 0).val = 32 * k.val + (x 0).val := by
    show 32 * k.val + 1 * (x 0).val = _; omega
  have e1 : (((Rect.unit (s := S256x6144) ![32 * k.val, n] ![32, 128] inb).emb x) 1).val = n + (x 1).val := by
    show n + 1 * (x 1).val = _; omega
  unfold codesOf
  rw [e0, e1]

theorem piece_step (off : Fin 2 → ℕ) (ho : off = ![32 * k.val, 0]) (inb : ∀ q, off q + (![32, 128] : Fin 2 → ℕ) q ≤ S256x128.size q)
    (p : Vec Ideal S32x128 .f32) (hp : ∀ r l, p (ix2 r l) = kPow2 (kE (kT (tx arg1 X_arg1 k r) (tw arg2 X_arg2)))) (x : S32x128.Idx) :
    p x = stepsOf (arg1.view.read (Elt Ideal) X_arg1) (arg2.view.read (Elt Ideal) X_arg2) ((Rect.unit (s := S256x128) off ![32, 128] inb).emb x) := by
  subst ho
  have e : x = ix2 (x 0) (x 1) := by funext q; match q with | ⟨0, _⟩ => rfl | ⟨1, _⟩ => rfl
  refine (congrArg p e).trans ((hp (x 0) (x 1)).trans ?_)
  have e0 : (((Rect.unit (s := S256x128) ![32 * k.val, 0] ![32, 128] inb).emb x) 0).val = 32 * k.val + (x 0).val := by
    show 32 * k.val + 1 * (x 0).val = _; omega
  unfold stepsOf
  rw [e0]

end Cert.KernelIdeal.Gen

namespace Cert.KernelIdeal.Gen
open Idealize.ShloMosaic Idealize.ShloMosaic.TcCoe

set_option maxHeartbeats 4000000 in
/-- Every code a trip stores is the code of its row and column. -/
theorem trip_codes (𝒱 : Variants) (c : Dev nD) (bd : Option 𝒱.V) (i : grid0.Coords) (arg1 : Memref sig .tc .vmem S256x6144 .bf16) (harg1 : arg1.IsWhole) (arg2 : Memref sig .tc .vmem S1x6144 .f32) (harg2 : arg2.IsWhole) (arg3 : Memref sig .tc .vmem S1024x6144 .fp8e4m3) (harg3 : arg3.IsWhole) (arg4 : Memref sig .tc .vmem S8x128 .f32) (harg4 : arg4.IsWhole) (arg5 : Memref sig .tc .vmem S8x128 .f32) (harg5 : arg5.IsWhole) (arg6 : Memref sig .tc .vmem S2x128 .i32) (harg6 : arg6.IsWhole) (arg7 : Memref sig .tc .vmem S2x128 .f32) (harg7 : arg7.IsWhole) (arg8 : Memref sig .tc .vmem S256x6144 .fp8e4m3) (harg8 : arg8.IsWhole) (arg9 : Memref sig .tc .vmem S2x128 .f32) (harg9 : arg9.IsWhole) (arg10 : Memref sig .tc .vmem S256x128 .f32) (harg10 : arg10.IsWhole) (arg11 : Memref sig .tc .vmem S2x8x128 .f32) (harg11 : arg11.IsWhole) (arg12 : Memref sig .tc .vmem S2x8x128 .f32) (harg12 : arg12.IsWhole) (k0_h1 : k0_cond1 i = 1#1) (X_arg1 : BufTy.Contents (Elt Ideal) arg1.view.ty) (X_arg2 : BufTy.Contents (Elt Ideal) arg2.view.ty) (k : Fin k0_t1_loop.trips) :
    ∀ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 k).1, ∀ x : p.1.shape.Idx,
      p.2 x = codesOf (arg1.view.read (Elt Ideal) X_arg1) (arg2.view.read (Elt Ideal) X_arg2) (p.1.emb x) := by
  unfold trip_k0_t1
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun p hp => absurd hp List.not_mem_nil⟩
  · exact piece_code arg1 arg2 X_arg1 X_arg2 k _ 6016 (k0_off48_eq k) _ _ (code47_apply i arg1 arg2 k0_h1 X_arg1 X_arg2 k)
  · exact piece_code arg1 arg2 X_arg1 X_arg2 k _ 5888 (k0_off47_eq k) _ _ (code46_apply i arg1 arg2 k0_h1 X_arg1 X_arg2 k)
  · exact piece_code arg1 arg2 X_arg1 X_arg2 k _ 5760 (k0_off46_eq k) _ _ (code45_apply i arg1 arg2 k0_h1 X_arg1 X_arg2 k)
  · exact piece_code arg1 arg2 X_arg1 X_arg2 k _ 5632 (k0_off45_eq k) _ _ (code44_apply i arg1 arg2 k0_h1 X_arg1 X_arg2 k)
  · exact piece_code arg1 arg2 X_arg1 X_arg2 k _ 5504 (k0_off44_eq k) _ _ (code43_apply i arg1 arg2 k0_h1 X_arg1 X_arg2 k)
  · exact piece_code arg1 arg2 X_arg1 X_arg2 k _ 5376 (k0_off43_eq k) _ _ (code42_apply i arg1 arg2 k0_h1 X_arg1 X_arg2 k)
  · exact piece_code arg1 arg2 X_arg1 X_arg2 k _ 5248 (k0_off42_eq k) _ _ (code41_apply i arg1 arg2 k0_h1 X_arg1 X_arg2 k)
  · exact piece_code arg1 arg2 X_arg1 X_arg2 k _ 5120 (k0_off41_eq k) _ _ (code40_apply i arg1 arg2 k0_h1 X_arg1 X_arg2 k)
  · exact piece_code arg1 arg2 X_arg1 X_arg2 k _ 4992 (k0_off40_eq k) _ _ (code39_apply i arg1 arg2 k0_h1 X_arg1 X_arg2 k)
  · exact piece_code arg1 arg2 X_arg1 X_arg2 k _ 4864 (k0_off39_eq k) _ _ (code38_apply i arg1 arg2 k0_h1 X_arg1 X_arg2 k)
  · exact piece_code arg1 arg2 X_arg1 X_arg2 k _ 4736 (k0_off38_eq k) _ _ (code37_apply i arg1 arg2 k0_h1 X_arg1 X_arg2 k)
  · exact piece_code arg1 arg2 X_arg1 X_arg2 k _ 4608 (k0_off37_eq k) _ _ (code36_apply i arg1 arg2 k0_h1 X_arg1 X_arg2 k)
  · exact piece_code arg1 arg2 X_arg1 X_arg2 k _ 4480 (k0_off36_eq k) _ _ (code35_apply i arg1 arg2 k0_h1 X_arg1 X_arg2 k)
  · exact piece_code arg1 arg2 X_arg1 X_arg2 k _ 4352 (k0_off35_eq k) _ _ (code34_apply i arg1 arg2 k0_h1 X_arg1 X_arg2 k)
  · exact piece_code arg1 arg2 X_arg1 X_arg2 k _ 4224 (k0_off34_eq k) _ _ (code33_apply i arg1 arg2 k0_h1 X_arg1 X_arg2 k)
  · exact piece_code arg1 arg2 X_arg1 X_arg2 k _ 4096 (k0_off33_eq k) _ _ (code32_apply i arg1 arg2 k0_h1 X_arg1 X_arg2 k)
  · exact piece_code arg1 arg2 X_arg1 X_arg2 k _ 3968 (k0_off32_eq k) _ _ (code31_apply i arg1 arg2 k0_h1 X_arg1 X_arg2 k)
  · exact piece_code arg1 arg2 X_arg1 X_arg2 k _ 3840 (k0_off31_eq k) _ _ (code30_apply i arg1 arg2 k0_h1 X_arg1 X_arg2 k)
  · exact piece_code arg1 arg2 X_arg1 X_arg2 k _ 3712 (k0_off30_eq k) _ _ (code29_apply i arg1 arg2 k0_h1 X_arg1 X_arg2 k)
  · exact piece_code arg1 arg2 X_arg1 X_arg2 k _ 3584 (k0_off29_eq k) _ _ (code28_apply i arg1 arg2 k0_h1 X_arg1 X_arg2 k)
  · exact piece_code arg1 arg2 X_arg1 X_arg2 k _ 3456 (k0_off28_eq k) _ _ (code27_apply i arg1 arg2 k0_h1 X_arg1 X_arg2 k)
  · exact piece_code arg1 arg2 X_arg1 X_arg2 k _ 3328 (k0_off27_eq k) _ _ (code26_apply i arg1 arg2 k0_h1 X_arg1 X_arg2 k)
  · exact piece_code arg1 arg2 X_arg1 X_arg2 k _ 3200 (k0_off26_eq k) _ _ (code25_apply i arg1 arg2 k0_h1 X_arg1 X_arg2 k)
  · exact piece_code arg1 arg2 X_arg1 X_arg2 k _ 3072 (k0_off25_eq k) _ _ (code24_apply i arg1 arg2 k0_h1 X_arg1 X_arg2 k)
  · exact piece_code arg1 arg2 X_arg1 X_arg2 k _ 2944 (k0_off24_eq k) _ _ (code23_apply i arg1 arg2 k0_h1 X_arg1 X_arg2 k)
  · exact piece_code arg1 arg2 X_arg1 X_arg2 k _ 2816 (k0_off23_eq k) _ _ (code22_apply i arg1 arg2 k0_h1 X_arg1 X_arg2 k)
  · exact piece_code arg1 arg2 X_arg1 X_arg2 k _ 2688 (k0_off22_eq k) _ _ (code21_apply i arg1 arg2 k0_h1 X_arg1 X_arg2 k)
  · exact piece_code arg1 arg2 X_arg1 X_arg2 k _ 2560 (k0_off21_eq k) _ _ (code20_apply i arg1 arg2 k0_h1 X_arg1 X_arg2 k)
  · exact piece_code arg1 arg2 X_arg1 X_arg2 k _ 2432 (k0_off20_eq k) _ _ (code19_apply i arg1 arg2 k0_h1 X_arg1 X_arg2 k)
  · exact piece_code arg1 arg2 X_arg1 X_arg2 k _ 2304 (k0_off19_eq k) _ _ (code18_apply i arg1 arg2 k0_h1 X_arg1 X_arg2 k)
  · exact piece_code arg1 arg2 X_arg1 X_arg2 k _ 2176 (k0_off18_eq k) _ _ (code17_apply i arg1 arg2 k0_h1 X_arg1 X_arg2 k)
  · exact piece_code arg1 arg2 X_arg1 X_arg2 k _ 2048 (k0_off17_eq k) _ _ (code16_apply i arg1 arg2 k0_h1 X_arg1 X_arg2 k)
  · exact piece_code arg1 arg2 X_arg1 X_arg2 k _ 1920 (k0_off16_eq k) _ _ (code15_apply i arg1 arg2 k0_h1 X_arg1 X_arg2 k)
  · exact piece_code arg1 arg2 X_arg1 X_arg2 k _ 1792 (k0_off15_eq k) _ _ (code14_apply i arg1 arg2 k0_h1 X_arg1 X_arg2 k)
  · exact piece_code arg1 arg2 X_arg1 X_arg2 k _ 1664 (k0_off14_eq k) _ _ (code13_apply i arg1 arg2 k0_h1 X_arg1 X_arg2 k)
  · exact piece_code arg1 arg2 X_arg1 X_arg2 k _ 1536 (k0_off13_eq k) _ _ (code12_apply i arg1 arg2 k0_h1 X_arg1 X_arg2 k)
  · exact piece_code arg1 arg2 X_arg1 X_arg2 k _ 1408 (k0_off12_eq k) _ _ (code11_apply i arg1 arg2 k0_h1 X_arg1 X_arg2 k)
  · exact piece_code arg1 arg2 X_arg1 X_arg2 k _ 1280 (k0_off11_eq k) _ _ (code10_apply i arg1 arg2 k0_h1 X_arg1 X_arg2 k)
  · exact piece_code arg1 arg2 X_arg1 X_arg2 k _ 1152 (k0_off10_eq k) _ _ (code9_apply i arg1 arg2 k0_h1 X_arg1 X_arg2 k)
  · exact piece_code arg1 arg2 X_arg1 X_arg2 k _ 1024 (k0_off9_eq k) _ _ (code8_apply i arg1 arg2 k0_h1 X_arg1 X_arg2 k)
  · exact piece_code arg1 arg2 X_arg1 X_arg2 k _ 896 (k0_off8_eq k) _ _ (code7_apply i arg1 arg2 k0_h1 X_arg1 X_arg2 k)
  · exact piece_code arg1 arg2 X_arg1 X_arg2 k _ 768 (k0_off7_eq k) _ _ (code6_apply i arg1 arg2 k0_h1 X_arg1 X_arg2 k)
  · exact piece_code arg1 arg2 X_arg1 X_arg2 k _ 640 (k0_off6_eq k) _ _ (code5_apply i arg1 arg2 k0_h1 X_arg1 X_arg2 k)
  · exact piece_code arg1 arg2 X_arg1 X_arg2 k _ 512 (k0_off5_eq k) _ _ (code4_apply i arg1 arg2 k0_h1 X_arg1 X_arg2 k)
  · exact piece_code arg1 arg2 X_arg1 X_arg2 k _ 384 (k0_off4_eq k) _ _ (code3_apply i arg1 arg2 k0_h1 X_arg1 X_arg2 k)
  · exact piece_code arg1 arg2 X_arg1 X_arg2 k _ 256 (k0_off3_eq k) _ _ (code2_apply i arg1 arg2 k0_h1 X_arg1 X_arg2 k)
  · exact piece_code arg1 arg2 X_arg1 X_arg2 k _ 128 (k0_off2_eq k) _ _ (code1_apply i arg1 arg2 k0_h1 X_arg1 X_arg2 k)
  · exact piece_code arg1 arg2 X_arg1 X_arg2 k _ 0 (k0_off1_eq k) _ _ (code0_apply i arg1 arg2 k0_h1 X_arg1 X_arg2 k)

/-- Every step a trip stores is the step of its row. -/
theorem trip_steps (𝒱 : Variants) (c : Dev nD) (bd : Option 𝒱.V) (i : grid0.Coords) (arg1 : Memref sig .tc .vmem S256x6144 .bf16) (harg1 : arg1.IsWhole) (arg2 : Memref sig .tc .vmem S1x6144 .f32) (harg2 : arg2.IsWhole) (arg3 : Memref sig .tc .vmem S1024x6144 .fp8e4m3) (harg3 : arg3.IsWhole) (arg4 : Memref sig .tc .vmem S8x128 .f32) (harg4 : arg4.IsWhole) (arg5 : Memref sig .tc .vmem S8x128 .f32) (harg5 : arg5.IsWhole) (arg6 : Memref sig .tc .vmem S2x128 .i32) (harg6 : arg6.IsWhole) (arg7 : Memref sig .tc .vmem S2x128 .f32) (harg7 : arg7.IsWhole) (arg8 : Memref sig .tc .vmem S256x6144 .fp8e4m3) (harg8 : arg8.IsWhole) (arg9 : Memref sig .tc .vmem S2x128 .f32) (harg9 : arg9.IsWhole) (arg10 : Memref sig .tc .vmem S256x128 .f32) (harg10 : arg10.IsWhole) (arg11 : Memref sig .tc .vmem S2x8x128 .f32) (harg11 : arg11.IsWhole) (arg12 : Memref sig .tc .vmem S2x8x128 .f32) (harg12 : arg12.IsWhole) (k0_h1 : k0_cond1 i = 1#1) (X_arg1 : BufTy.Contents (Elt Ideal) arg1.view.ty) (X_arg2 : BufTy.Contents (Elt Ideal) arg2.view.ty) (k : Fin k0_t1_loop.trips) :
    ∀ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 k).2.1, ∀ x : p.1.shape.Idx,
      p.2 x = stepsOf (arg1.view.read (Elt Ideal) X_arg1) (arg2.view.read (Elt Ideal) X_arg2) (p.1.emb x) := by
  unfold trip_k0_t1
  simp only [List.forall_mem_cons]
  refine ⟨?_, fun p hp => absurd hp List.not_mem_nil⟩
  exact piece_step arg1 arg2 X_arg1 X_arg2 k _ (k0_off49_eq k) _ _ (pay110_apply i arg1 arg2 k0_h1 X_arg1 X_arg2 k)

end Cert.KernelIdeal.Gen

end
-- ==== Proof.StepIdeal.lean ====
/-
  One grid point's additions to the two accumulators, read at an index: eight blocks of 128 vocabulary rows, each
  row's capped logit, its exponential summed eight sublanes apart, and the logit at the label picked out the same way.
-/
module

public import proofs.«01_k».proof.Proof.TripIdeal

@[expose] public section

set_option maxRecDepth 16384

noncomputable section

namespace Cert.KernelIdeal.Gen

open Idealize.ShloMosaic Idealize.ShloMosaic.TcCoe

/-- A capped logit over thirty, from the product of a vocabulary row with a token's codes. -/
def kZ (a hs ws b : EReal) : EReal :=
  Ideal.tanh (a * (hs * (ws * (Named.named κ "inv_softcap" 0x3D088889#32 : Ideal .f32))) + b * (Named.named κ "inv_softcap" 0x3D088889#32 : Ideal .f32))

/-- The capped logit of the vocabulary row `128 j + r` of the point's block at the token `128 h + l`. -/
def kTile (v3 : Vec Ideal S1024x6144 .fp8e4m3) (v4 : Vec Ideal S256x6144 .fp8e4m3) (v7 v12 : Vec Ideal S8x128 .f32) (vh : Vec Ideal S1x128 .f32)
    (h : Fin 2) (j : Fin 8) (r l : Fin 128) : EReal :=
  kZ (∑ x : Fin 6144, v3 (ix2 ⟨128 * j.val + r.val, by omega⟩ x) * v4 (ix2 ⟨128 * h.val + l.val, by omega⟩ x))
    (vh (ix2 0 l)) (v7 (ix2 j r)) (v12 (ix2 j r))

/-- What one point adds to the running sum at sublane `s`, lane `l`. -/
def kExpSum (T : Fin 8 → Fin 128 → EReal) (s : Fin 8) : EReal :=
  ∑ j : Fin 8, ∑ q : Fin 16, Ideal.exp2 (T j ⟨q.val * 8 + s.val, by omega⟩ * (Named.named κ "softcap_log2e" 0x422D1F97#32 : Ideal .f32))

/-- What one point adds to the running pick at sublane `s`, lane `l`, the label `lab` counted from the point's first row. -/
def kPickSum (T : Fin 8 → Fin 128 → EReal) (lab : BitVec 32) (s : Fin 8) : EReal :=
  ∑ j : Fin 8, ∑ q : Fin 16,
    Scalar.select (IntOp.cmpi .eq (BitVec.ofNat 32 (q.val * 8 + s.val)) (IntOp.subi lab (BitVec.ofNat 32 (128 * j.val))))
      (T j ⟨q.val * 8 + s.val, by omega⟩) 0

variable (i : grid0.Coords) (v3 : Vec Ideal S1024x6144 .fp8e4m3) (v4 : Vec Ideal S256x6144 .fp8e4m3) (v7 v12 : Vec Ideal S8x128 .f32)
  (vh : Vec Ideal S1x128 .f32) (vl : Vec Ideal S1x128 .i32) (vo : Vec Ideal S1x8x128 .f32)

theorem acc_apply (r : Fin 1024) (l : Fin 256) : k0_pay115 v3 v4 (ix2 r l) = ∑ x : Fin 6144, v3 (ix2 r x) * v4 (ix2 l x) := by
  pointwise [k0_pay115]

theorem wt_apply (r : Fin 128) (j : Fin 8) : k0_pay116 v7 (ix2 r j) = v7 (ix2 j r) * (Named.named κ "inv_softcap" 0x3D088889#32 : Ideal .f32) := by
  pointwise [k0_pay116]

theorem bt_apply (r : Fin 128) (j : Fin 8) : k0_pay117 v12 (ix2 r j) = v12 (ix2 j r) * (Named.named κ "inv_softcap" 0x3D088889#32 : Ideal .f32) := by
  pointwise [k0_pay117]

theorem tile0_0 (r l : Fin 128) : k0_pay122 v3 v4 v7 v12 vh (ix2 r l) = kTile v3 v4 v7 v12 vh 0 0 r l := by
  unfold kTile kZ
  pointwise [k0_pay122, k0_pay118]
  simp only [acc_apply, wt_apply, bt_apply]

theorem tile0_1 (r l : Fin 128) : k0_pay124 (k0_pay115 v3 v4) (k0_pay116 v7) (k0_pay117 v12) (k0_pay118 vh) (ix2 r l) = kTile v3 v4 v7 v12 vh 0 1 r l := by
  unfold kTile kZ
  pointwise [k0_pay124, k0_pay118]
  simp only [acc_apply, wt_apply, bt_apply]

theorem tile0_2 (r l : Fin 128) : k0_pay127 (k0_pay115 v3 v4) (k0_pay116 v7) (k0_pay117 v12) (k0_pay118 vh) (ix2 r l) = kTile v3 v4 v7 v12 vh 0 2 r l := by
  unfold kTile kZ
  pointwise [k0_pay127, k0_pay118]
  simp only [acc_apply, wt_apply, bt_apply]

theorem tile0_3 (r l : Fin 128) : k0_pay129 (k0_pay115 v3 v4) (k0_pay116 v7) (k0_pay117 v12) (k0_pay118 vh) (ix2 r l) = kTile v3 v4 v7 v12 vh 0 3 r l := by
  unfold kTile kZ
  pointwise [k0_pay129, k0_pay118]
  simp only [acc_apply, wt_apply, bt_apply]

theorem tile0_4 (r l : Fin 128) : k0_pay132 (k0_pay115 v3 v4) (k0_pay116 v7) (k0_pay117 v12) (k0_pay118 vh) (ix2 r l) = kTile v3 v4 v7 v12 vh 0 4 r l := by
  unfold kTile kZ
  pointwise [k0_pay132, k0_pay118]
  simp only [acc_apply, wt_apply, bt_apply]

theorem tile0_5 (r l : Fin 128) : k0_pay134 (k0_pay115 v3 v4) (k0_pay116 v7) (k0_pay117 v12) (k0_pay118 vh) (ix2 r l) = kTile v3 v4 v7 v12 vh 0 5 r l := by
  unfold kTile kZ
  pointwise [k0_pay134, k0_pay118]
  simp only [acc_apply, wt_apply, bt_apply]

theorem tile0_6 (r l : Fin 128) : k0_pay137 (k0_pay115 v3 v4) (k0_pay116 v7) (k0_pay117 v12) (k0_pay118 vh) (ix2 r l) = kTile v3 v4 v7 v12 vh 0 6 r l := by
  unfold kTile kZ
  pointwise [k0_pay137, k0_pay118]
  simp only [acc_apply, wt_apply, bt_apply]

theorem tile0_7 (r l : Fin 128) : k0_pay139 (k0_pay115 v3 v4) (k0_pay116 v7) (k0_pay117 v12) (k0_pay118 vh) (ix2 r l) = kTile v3 v4 v7 v12 vh 0 7 r l := by
  unfold kTile kZ
  pointwise [k0_pay139, k0_pay118]
  simp only [acc_apply, wt_apply, bt_apply]

theorem tile1_0 (r l : Fin 128) : k0_pay145 (k0_pay115 v3 v4) (k0_pay116 v7) (k0_pay117 v12) vh (ix2 r l) = kTile v3 v4 v7 v12 vh 1 0 r l := by
  unfold kTile kZ
  pointwise [k0_pay145, k0_pay143]
  simp only [acc_apply, wt_apply, bt_apply]

theorem tile1_1 (r l : Fin 128) : k0_pay149 (k0_pay116 v7) (k0_pay117 v12) (k0_pay143 vh) (k0_pay148 (k0_pay115 v3 v4)) (ix2 r l) = kTile v3 v4 v7 v12 vh 1 1 r l := by
  unfold kTile kZ
  pointwise [k0_pay149, k0_pay148, k0_pay143]
  simp only [acc_apply, wt_apply, bt_apply]

theorem tile1_2 (r l : Fin 128) : k0_pay150 (k0_pay115 v3 v4) (k0_pay116 v7) (k0_pay117 v12) (k0_pay143 vh) (ix2 r l) = kTile v3 v4 v7 v12 vh 1 2 r l := by
  unfold kTile kZ
  pointwise [k0_pay150, k0_pay143]
  simp only [acc_apply, wt_apply, bt_apply]

theorem tile1_3 (r l : Fin 128) : k0_pay154 (k0_pay116 v7) (k0_pay117 v12) (k0_pay143 vh) (k0_pay153 (k0_pay115 v3 v4)) (ix2 r l) = kTile v3 v4 v7 v12 vh 1 3 r l := by
  unfold kTile kZ
  pointwise [k0_pay154, k0_pay153, k0_pay143]
  simp only [acc_apply, wt_apply, bt_apply]

theorem tile1_4 (r l : Fin 128) : k0_pay155 (k0_pay115 v3 v4) (k0_pay116 v7) (k0_pay117 v12) (k0_pay143 vh) (ix2 r l) = kTile v3 v4 v7 v12 vh 1 4 r l := by
  unfold kTile kZ
  pointwise [k0_pay155, k0_pay143]
  simp only [acc_apply, wt_apply, bt_apply]

theorem tile1_5 (r l : Fin 128) : k0_pay159 (k0_pay116 v7) (k0_pay117 v12) (k0_pay143 vh) (k0_pay158 (k0_pay115 v3 v4)) (ix2 r l) = kTile v3 v4 v7 v12 vh 1 5 r l := by
  unfold kTile kZ
  pointwise [k0_pay159, k0_pay158, k0_pay143]
  simp only [acc_apply, wt_apply, bt_apply]

theorem tile1_6 (r l : Fin 128) : k0_pay160 (k0_pay115 v3 v4) (k0_pay116 v7) (k0_pay117 v12) (k0_pay143 vh) (ix2 r l) = kTile v3 v4 v7 v12 vh 1 6 r l := by
  unfold kTile kZ
  pointwise [k0_pay160, k0_pay143]
  simp only [acc_apply, wt_apply, bt_apply]

theorem tile1_7 (r l : Fin 128) : k0_pay164 (k0_pay116 v7) (k0_pay117 v12) (k0_pay143 vh) (k0_pay163 (k0_pay115 v3 v4)) (ix2 r l) = kTile v3 v4 v7 v12 vh 1 7 r l := by
  unfold kTile kZ
  pointwise [k0_pay164, k0_pay163, k0_pay143]
  simp only [acc_apply, wt_apply, bt_apply]

/-- The running sum of row 0 of the tokens after the point. -/
theorem sum0_apply (s : Fin 8) (l : Fin 128) : k0_pay141 (k0_pay115 v3 v4) (k0_pay116 v7) (k0_pay117 v12) (k0_pay118 vh) (k0_pay135 (k0_pay115 v3 v4) (k0_pay116 v7) (k0_pay117 v12) (k0_pay118 vh) (k0_pay130 (k0_pay115 v3 v4) (k0_pay116 v7) (k0_pay117 v12) (k0_pay118 vh) (k0_pay125 (k0_pay115 v3 v4) (k0_pay116 v7) (k0_pay117 v12) (k0_pay118 vh) k0_pay120 (k0_pay122 v3 v4 v7 v12 vh) k0_pay123) (k0_pay127 (k0_pay115 v3 v4) (k0_pay116 v7) (k0_pay117 v12) (k0_pay118 vh)) k0_pay128) (k0_pay132 (k0_pay115 v3 v4) (k0_pay116 v7) (k0_pay117 v12) (k0_pay118 vh)) k0_pay133) (k0_pay137 (k0_pay115 v3 v4) (k0_pay116 v7) (k0_pay117 v12) (k0_pay118 vh)) k0_pay138 vo (ix3 0 s l)
    = vo (ix3 0 s l) + kExpSum (fun j r => kTile v3 v4 v7 v12 vh 0 j r l) s := by
  unfold kExpSum
  simp only [Fin.sum_univ_eight]
  pointwise [k0_pay141, k0_pay135, k0_pay130, k0_pay125, k0_pay120, k0_pay123, k0_pay128, k0_pay133, k0_pay138]
  simp only [tile0_0, tile0_1, tile0_2, tile0_3, tile0_4, tile0_5, tile0_6, tile0_7]
  simp [FloatOps.exp2]

/-- The running sum of row 1 of the tokens after the point. -/
theorem sum1_apply (s : Fin 8) (l : Fin 128) : k0_pay165 (k0_pay116 v7) (k0_pay117 v12) (k0_pay143 vh) (k0_pay161 (k0_pay115 v3 v4) (k0_pay116 v7) (k0_pay117 v12) (k0_pay143 vh) (k0_pay156 (k0_pay115 v3 v4) (k0_pay116 v7) (k0_pay117 v12) (k0_pay143 vh) (k0_pay151 (k0_pay115 v3 v4) (k0_pay116 v7) (k0_pay117 v12) (k0_pay143 vh) (k0_pay146 (k0_pay115 v3 v4) (k0_pay116 v7) (k0_pay117 v12) vh) (k0_pay148 (k0_pay115 v3 v4))) (k0_pay153 (k0_pay115 v3 v4))) (k0_pay158 (k0_pay115 v3 v4))) (k0_pay163 (k0_pay115 v3 v4)) vo (ix3 0 s l)
    = vo (ix3 0 s l) + kExpSum (fun j r => kTile v3 v4 v7 v12 vh 1 j r l) s := by
  unfold kExpSum
  simp only [Fin.sum_univ_eight]
  pointwise [k0_pay165, k0_pay161, k0_pay156, k0_pay151, k0_pay146]
  simp only [tile1_0, tile1_1, tile1_2, tile1_3, tile1_4, tile1_5, tile1_6, tile1_7]
  simp [FloatOps.exp2]

/-- The running pick of row 0 of the tokens after the point. -/
theorem pick0_apply (s : Fin 8) (l : Fin 128) : k0_pay142 (k0_pay140 (k0_pay115 v3 v4) (k0_pay116 v7) (k0_pay117 v12) (iota .tc S128x128 32 [0] iota_S128x128_d0_w32) (k0_pay118 vh) (k0_pay119 i vl) (k0_pay136 (k0_pay115 v3 v4) (k0_pay116 v7) (k0_pay117 v12) (iota .tc S128x128 32 [0] iota_S128x128_d0_w32) (k0_pay118 vh) (k0_pay119 i vl) (k0_pay131 (k0_pay115 v3 v4) (k0_pay116 v7) (k0_pay117 v12) (iota .tc S128x128 32 [0] iota_S128x128_d0_w32) (k0_pay118 vh) (k0_pay119 i vl) (k0_pay126 (k0_pay115 v3 v4) (k0_pay116 v7) (k0_pay117 v12) (iota .tc S128x128 32 [0] iota_S128x128_d0_w32) (k0_pay118 vh) (k0_pay119 i vl) k0_pay121 (k0_pay122 v3 v4 v7 v12 vh)) (k0_pay127 (k0_pay115 v3 v4) (k0_pay116 v7) (k0_pay117 v12) (k0_pay118 vh))) (k0_pay132 (k0_pay115 v3 v4) (k0_pay116 v7) (k0_pay117 v12) (k0_pay118 vh))) (k0_pay137 (k0_pay115 v3 v4) (k0_pay116 v7) (k0_pay117 v12) (k0_pay118 vh))) vo (ix3 0 s l)
    = vo (ix3 0 s l) + kPickSum (fun j r => kTile v3 v4 v7 v12 vh 0 j r l) (IntOp.subi (vl (ix2 0 l)) (Scalar.muli (BitVec.ofNat 32 (i 0).val) 1024#32)) s := by
  unfold kPickSum
  simp only [Fin.sum_univ_eight]
  pointwise [k0_pay142, k0_pay140, k0_pay136, k0_pay131, k0_pay126, k0_pay121, k0_pay119]
  simp only [tile0_0, tile0_1, tile0_2, tile0_3, tile0_4, tile0_5, tile0_6, tile0_7]

/-- The running pick of row 1 of the tokens after the point. -/
theorem pick1_apply (s : Fin 8) (l : Fin 128) : k0_pay166 (k0_pay116 v7) (k0_pay117 v12) (iota .tc S128x128 32 [0] iota_S128x128_d0_w32) (k0_pay143 vh) (k0_pay144 (BitVec.ofNat 32 (i 0).val) vl) (k0_pay162 (k0_pay115 v3 v4) (k0_pay116 v7) (k0_pay117 v12) (iota .tc S128x128 32 [0] iota_S128x128_d0_w32) (k0_pay143 vh) (k0_pay144 (BitVec.ofNat 32 (i 0).val) vl) (k0_pay157 (k0_pay115 v3 v4) (k0_pay116 v7) (k0_pay117 v12) (iota .tc S128x128 32 [0] iota_S128x128_d0_w32) (k0_pay143 vh) (k0_pay144 (BitVec.ofNat 32 (i 0).val) vl) (k0_pay152 (k0_pay115 v3 v4) (k0_pay116 v7) (k0_pay117 v12) (iota .tc S128x128 32 [0] iota_S128x128_d0_w32) (k0_pay143 vh) (k0_pay144 (BitVec.ofNat 32 (i 0).val) vl) (k0_pay147 (BitVec.ofNat 32 (i 0).val) (k0_pay115 v3 v4) (k0_pay116 v7) (k0_pay117 v12) (iota .tc S128x128 32 [0] iota_S128x128_d0_w32) vh vl) (k0_pay148 (k0_pay115 v3 v4))) (k0_pay153 (k0_pay115 v3 v4))) (k0_pay158 (k0_pay115 v3 v4))) (k0_pay163 (k0_pay115 v3 v4)) vo (ix3 0 s l)
    = vo (ix3 0 s l) + kPickSum (fun j r => kTile v3 v4 v7 v12 vh 1 j r l) (IntOp.subi (vl (ix2 0 l)) (Scalar.muli (BitVec.ofNat 32 (i 0).val) 1024#32)) s := by
  unfold kPickSum
  simp only [Fin.sum_univ_eight]
  pointwise [k0_pay166, k0_pay162, k0_pay157, k0_pay152, k0_pay147, k0_pay144]
  simp only [tile1_0, tile1_1, tile1_2, tile1_3, tile1_4, tile1_5, tile1_6, tile1_7]

/-- The loss of a row of tokens, from the running sum and the running pick over their eight sublanes. -/
theorem loss0_apply (p q : Vec Ideal S1x8x128 .f32) (l : Fin 128) : k0_pay1 p q (ix2 0 l)
    = Ideal.log (∑ s : Fin 8, p (ix3 0 s l)) - Ideal.ofBits .f32 0x41F00000#32 * (∑ s : Fin 8, q (ix3 0 s l)) - Ideal.ofBits .f32 0x41265AF6#32 := by
  pointwise [k0_pay1]

theorem loss1_apply (p q : Vec Ideal S1x8x128 .f32) (l : Fin 128) : k0_pay2 p q (ix2 0 l)
    = Ideal.log (∑ s : Fin 8, p (ix3 0 s l)) - Ideal.ofBits .f32 0x41F00000#32 * (∑ s : Fin 8, q (ix3 0 s l)) - Ideal.ofBits .f32 0x41265AF6#32 := by
  pointwise [k0_pay2]

/-- The transposed scale tile's first row. -/
theorem hs0_apply (p : Vec Ideal S128x128 .f32) (l : Fin 128) : k0_pay111 p (ix2 0 l) = p (ix2 l 0) := by
  pointwise [k0_pay111]
theorem hs1_apply (p : Vec Ideal S128x128 .f32) (l : Fin 128) : k0_pay112 p (ix2 0 l) = p (ix2 l 0) := by
  pointwise [k0_pay112]
theorem zero0_apply (a : Fin 2) (s : Fin 8) (l : Fin 128) : k0_pay113 (F := Ideal) (ix3 a s l) = 0 := by
  pointwise [k0_pay113]
theorem zero1_apply (a : Fin 2) (s : Fin 8) (l : Fin 128) : k0_pay114 (F := Ideal) (ix3 a s l) = 0 := by
  pointwise [k0_pay114]

end Cert.KernelIdeal.Gen

end
-- ==== Proof.AccIdeal.lean ====
/-
  What the kernel's grid points leave, as functions of the blocks they read: the codes and the steps of the first
  point, the running sum and the running pick of every point, the loss of the last.
-/
module

public import proofs.«01_k».proof.Proof.StepIdeal
public import proofs.«01_k».proof.Proof.FrameIdeal
public import Idealize.ShloMosaic.Lib.VecWindow

@[expose] public section

set_option maxRecDepth 16384

noncomputable section

namespace Cert.KernelIdeal.Gen

open Idealize.ShloMosaic Idealize.ShloMosaic.TcCoe

/-- Row `h` of two rows of 128. -/
def rowOf {e : EltTy} (X : Vec Ideal S2x128 e) (h : Fin 2) : Vec Ideal S1x128 e := fun y => X (ix2 h (y 1))

/-- Plane `h` of two planes of eight by 128. -/
def planeOf (X : Vec Ideal S2x8x128 .f32) (h : Fin 2) : Vec Ideal S1x8x128 .f32 := fun y => X (ix3 h (y 1) (y 2))

theorem rd_row {e : EltTy} (v : View sig .tc .vmem S2x128 e) (X : v.ty.Contents (Elt Ideal)) (off : Fin 2 → ℕ) (h : Fin 2)
    (ho : off = ![h.val, 0]) (inb : ∀ q, off q + S1x128.size q ≤ S2x128.size q) :
    v.readAt (Elt Ideal) (Rect.unit (s := S2x128) off S1x128.size inb).toLoadRect X = rowOf (v.read (Elt Ideal) X) h := by
  subst ho
  funext y
  show v.read (Elt Ideal) X _ = v.read (Elt Ideal) X _
  congr 1
  funext q
  match q with
  | ⟨0, _⟩ =>
    refine Fin.ext ?_
    have : (y 0).val = 0 := by have := (y 0).isLt; simp at this; omega
    show h.val + 1 * (y 0).val = h.val; omega
  | ⟨1, _⟩ => refine Fin.ext ?_; show 0 + 1 * (y 1).val = (y 1).val; omega

theorem rd_plane (v : View sig .tc .vmem S2x8x128 .f32) (X : v.ty.Contents (Elt Ideal)) (off : Fin 3 → ℕ) (h : Fin 2)
    (ho : off = ![h.val, 0, 0]) (inb : ∀ q, off q + S1x8x128.size q ≤ S2x8x128.size q) :
    v.readAt (Elt Ideal) (Rect.unit (s := S2x8x128) off S1x8x128.size inb).toLoadRect X = planeOf (v.read (Elt Ideal) X) h := by
  subst ho
  funext y
  show v.read (Elt Ideal) X _ = v.read (Elt Ideal) X _
  congr 1
  funext q
  match q with
  | ⟨0, _⟩ =>
    refine Fin.ext ?_
    have : (y 0).val = 0 := by have := (y 0).isLt; simp at this; omega
    show h.val + 1 * (y 0).val = h.val; omega
  | ⟨1, _⟩ => refine Fin.ext ?_; show 0 + 1 * (y 1).val = (y 1).val; omega
  | ⟨2, _⟩ => refine Fin.ext ?_; show 0 + 1 * (y 2).val = (y 2).val; omega

/-- The running sum after a point, from the sum before it. -/
def sumStep (v3 : Vec Ideal S1024x6144 .fp8e4m3) (v4 : Vec Ideal S256x6144 .fp8e4m3) (v7 v12 : Vec Ideal S8x128 .f32)
    (hs : Vec Ideal S2x128 .f32) (vo : Vec Ideal S2x8x128 .f32) : Vec Ideal S2x8x128 .f32 := fun y =>
  vo y + kExpSum (fun j r => kTile v3 v4 v7 v12 (rowOf hs (y 0)) (y 0) j r (y 2)) (y 1)

/-- The label of a token counted from the first vocabulary row of grid point `i`. -/
def labOf (i : grid0.Coords) (vl : Vec Ideal S2x128 .i32) (h : Fin 2) (l : Fin 128) : BitVec 32 :=
  IntOp.subi (vl (ix2 h l)) (Scalar.muli (BitVec.ofNat 32 (i 0).val) 1024#32)

/-- The running pick after a point, from the pick before it. -/
def pickStep (i : grid0.Coords) (v3 : Vec Ideal S1024x6144 .fp8e4m3) (v4 : Vec Ideal S256x6144 .fp8e4m3) (v7 v12 : Vec Ideal S8x128 .f32)
    (hs : Vec Ideal S2x128 .f32) (vl : Vec Ideal S2x128 .i32) (vo : Vec Ideal S2x8x128 .f32) : Vec Ideal S2x8x128 .f32 := fun y =>
  vo y + kPickSum (fun j r => kTile v3 v4 v7 v12 (rowOf hs (y 0)) (y 0) j r (y 2)) (labOf i vl (y 0) (y 2)) (y 1)

/-- The losses from the running sum and pick. -/
def lossOf (s p : Vec Ideal S2x8x128 .f32) : Vec Ideal S2x128 .f32 := fun y =>
  Ideal.log (∑ a : Fin 8, s (ix3 (y 0) a (y 1))) - Ideal.ofBits .f32 0x41F00000#32 * (∑ a : Fin 8, p (ix3 (y 0) a (y 1))) - Ideal.ofBits .f32 0x41265AF6#32

theorem loss0_of (p q : Vec Ideal S1x8x128 .f32) (P Q : Vec Ideal S2x8x128 .f32) (hp : p = planeOf P 0) (hq : q = planeOf Q 0) (l : Fin 128) :
    k0_pay1 p q (ix2 0 l) = lossOf P Q (ix2 0 l) := by subst hp hq; exact loss0_apply _ _ l
theorem loss1_of (p q : Vec Ideal S1x8x128 .f32) (P Q : Vec Ideal S2x8x128 .f32) (hp : p = planeOf P 1) (hq : q = planeOf Q 1) (l : Fin 128) :
    k0_pay2 p q (ix2 0 l) = lossOf P Q (ix2 1 l) := by subst hp hq; exact loss1_apply _ _ l

theorem cov_plane0 (v : View sig .tc .vmem S2x8x128 .f32) (L : List (View.Piece (Elt Ideal) S2x8x128 .f32))
    (inb : ∀ q, (![0, 0, 0] : Fin 3 → ℕ) q + (![1, 8, 128] : Fin 3 → ℕ) q ≤ S2x8x128.size q) :
    v.readCov L (Rect.unit (s := S2x8x128) ![0, 0, 0] ![1, 8, 128] inb).toLoadRect = planeOf (View.canon L) 0 := by
  rw [← View.read_writes_junk_eq_canon v L]
  exact rd_plane v _ ![0, 0, 0] 0 rfl inb

theorem cov_plane1 (v : View sig .tc .vmem S2x8x128 .f32) (L : List (View.Piece (Elt Ideal) S2x8x128 .f32))
    (inb : ∀ q, (![1, 0, 0] : Fin 3 → ℕ) q + (![1, 8, 128] : Fin 3 → ℕ) q ≤ S2x8x128.size q) :
    v.readCov L (Rect.unit (s := S2x8x128) ![1, 0, 0] ![1, 8, 128] inb).toLoadRect = planeOf (View.canon L) 1 := by
  rw [← View.read_writes_junk_eq_canon v L]
  exact rd_plane v _ ![1, 0, 0] 1 rfl inb

theorem plane_piece (off : Fin 3 → ℕ) (h : Fin 2) (ho : off = ![h.val, 0, 0]) (inb : ∀ q, off q + S1x8x128.size q ≤ S2x8x128.size q)
    (p : Vec Ideal S1x8x128 .f32) (G : S2x8x128.Idx → EReal) (hp : ∀ s l, p (ix3 0 s l) = G (ix3 h s l)) (x : S1x8x128.Idx) :
    p x = G ((Rect.unit (s := S2x8x128) off S1x8x128.size inb).emb x) := by
  subst ho
  have e0 : (x 0).val = 0 := by have := (x 0).isLt; simp at this; omega
  have e : x = ix3 0 (x 1) (x 2) := by
    funext q
    match q with
    | ⟨0, _⟩ => exact Fin.ext e0
    | ⟨1, _⟩ => rfl
    | ⟨2, _⟩ => rfl
  refine (congrArg p e).trans ((hp (x 1) (x 2)).trans (congrArg G ?_))
  funext q
  match q with
  | ⟨0, _⟩ => refine Fin.ext ?_; show h.val = h.val + 1 * (x 0).val; omega
  | ⟨1, _⟩ => refine Fin.ext ?_; show (x 1).val = 0 + 1 * (x 1).val; omega
  | ⟨2, _⟩ => refine Fin.ext ?_; show (x 2).val = 0 + 1 * (x 2).val; omega

theorem row_piece (off : Fin 2 → ℕ) (h : Fin 2) (ho : off = ![h.val, 0]) (inb : ∀ q, off q + S1x128.size q ≤ S2x128.size q)
    (p : Vec Ideal S1x128 .f32) (G : S2x128.Idx → EReal) (hp : ∀ l, p (ix2 0 l) = G (ix2 h l)) (x : S1x128.Idx) :
    p x = G ((Rect.unit (s := S2x128) off S1x128.size inb).emb x) := by
  subst ho
  have e0 : (x 0).val = 0 := by have := (x 0).isLt; simp at this; omega
  have e : x = ix2 0 (x 1) := by
    funext q
    match q with
    | ⟨0, _⟩ => exact Fin.ext e0
    | ⟨1, _⟩ => rfl
  refine (congrArg p e).trans ((hp (x 1)).trans (congrArg G ?_))
  funext q
  match q with
  | ⟨0, _⟩ => refine Fin.ext ?_; show h.val = h.val + 1 * (x 0).val; omega
  | ⟨1, _⟩ => refine Fin.ext ?_; show (x 1).val = 0 + 1 * (x 1).val; omega

variable (m : (ℓ : Loc nD τ sig) → Buf (Elt Ideal) ℓ)

set_option maxHeartbeats 800000 in
theorem sumB_eq (c : Dev nD) (t : Fin cfg0.N) (h0 : ¬cond0_0 (grid0.coords t)) (h1 : ¬cond0_1 (grid0.coords t)) (xs0 : Vec Ideal S256x6144 .fp8e4m3) (xs1 : Vec Ideal S2x128 .f32)
    (xs3 xs4 : Vec Ideal S2x8x128 .f32) :
    VS0_3.read (Elt Ideal) (VS0_3.writes (Elt Ideal) VS0_3.junk (runB m c t h0 h1 xs0 xs1 xs3 xs4).2.2.2.1)
      = sumStep (iblk m c 2 t) xs0 (iblk m c 3 t) (iblk m c 4 t) xs1 xs3 := by
  funext y
  refine View.read_writes_apply_of_pieces _ _ (sumStep (iblk m c 2 t) xs0 (iblk m c 3 t) (iblk m c 4 t) xs1 xs3) _ ?_ y (coverB_3 m c t h0 h1 xs0 xs1 xs3 xs4 y)
  unfold runB kernelRun0_B
  dsimp only
  simp only [List.forall_mem_cons]
  refine ⟨?_, ?_, fun p hp => absurd hp List.not_mem_nil⟩
  · refine plane_piece _ 1 rfl _ _ _ fun s l => ?_
    refine (sum1_apply _ _ _ _ _ _ s l).trans ?_
    unfold sumStep kernelRun0_B.sl.v446
    rw [View.readAt_full, View.readAt_full, View.readAt_full, View.readAt_full, rd_row _ _ ![1, 0] 1 rfl, rd_plane _ _ ![1, 0, 0] 1 rfl]
    simp only [Memref.IsWhole.read_unread]
    exact (congrArg (· + _) (congrFun (congrArg (planeOf · 1) ((Memref.isWhole_whole _ : scM0_3.IsWhole).read_unread xs3)) (ix3 0 s l))).trans rfl
  · refine plane_piece _ 0 rfl _ _ _ fun s l => ?_
    refine (sum0_apply _ _ _ _ _ _ s l).trans ?_
    unfold sumStep
    rw [View.readAt_full, View.readAt_full, View.readAt_full, View.readAt_full, rd_row _ _ ![0, 0] 0 rfl, rd_plane _ _ ![0, 0, 0] 0 rfl]
    simp only [Memref.IsWhole.read_unread]
    exact (congrArg (· + _) (congrFun (congrArg (planeOf · 0) ((Memref.isWhole_whole _ : scM0_3.IsWhole).read_unread xs3)) (ix3 0 s l))).trans rfl

set_option maxHeartbeats 800000 in
theorem pickB_eq (c : Dev nD) (t : Fin cfg0.N) (h0 : ¬cond0_0 (grid0.coords t)) (h1 : ¬cond0_1 (grid0.coords t)) (xs0 : Vec Ideal S256x6144 .fp8e4m3) (xs1 : Vec Ideal S2x128 .f32)
    (xs3 xs4 : Vec Ideal S2x8x128 .f32) :
    VS0_4.read (Elt Ideal) (VS0_4.writes (Elt Ideal) VS0_4.junk (runB m c t h0 h1 xs0 xs1 xs3 xs4).2.2.2.2.1)
      = pickStep (grid0.coords t) (iblk m c 2 t) xs0 (iblk m c 3 t) (iblk m c 4 t) xs1 (iblk m c 5 t) xs4 := by
  funext y
  refine View.read_writes_apply_of_pieces _ _ (pickStep (grid0.coords t) (iblk m c 2 t) xs0 (iblk m c 3 t) (iblk m c 4 t) xs1 (iblk m c 5 t) xs4) _ ?_ y (coverB_4 m c t h0 h1 xs0 xs1 xs3 xs4 y)
  unfold runB kernelRun0_B
  dsimp only
  simp only [List.forall_mem_cons]
  refine ⟨?_, ?_, fun p hp => absurd hp List.not_mem_nil⟩
  · refine plane_piece _ 1 rfl _ _ _ fun s l => ?_
    refine (pick1_apply (grid0.coords t) _ _ _ _ _ _ _ s l).trans ?_
    unfold pickStep labOf kernelRun0_B.sl.v452
    rw [View.readAt_full, View.readAt_full, View.readAt_full, View.readAt_full, rd_row _ _ ![1, 0] 1 rfl, rd_row _ _ ![1, 0] 1 rfl, rd_plane _ _ ![1, 0, 0] 1 rfl]
    simp only [Memref.IsWhole.read_unread]
    exact (congrArg (· + _) (congrFun (congrArg (planeOf · 1) ((Memref.isWhole_whole _ : scM0_4.IsWhole).read_unread xs4)) (ix3 0 s l))).trans rfl
  · refine plane_piece _ 0 rfl _ _ _ fun s l => ?_
    refine (pick0_apply (grid0.coords t) _ _ _ _ _ _ _ s l).trans ?_
    unfold pickStep labOf
    rw [View.readAt_full, View.readAt_full, View.readAt_full, View.readAt_full, rd_row _ _ ![0, 0] 0 rfl, rd_row _ _ ![0, 0] 0 rfl, rd_plane _ _ ![0, 0, 0] 0 rfl]
    simp only [Memref.IsWhole.read_unread]
    exact (congrArg (· + _) (congrFun (congrArg (planeOf · 0) ((Memref.isWhole_whole _ : scM0_4.IsWhole).read_unread xs4)) (ix3 0 s l))).trans rfl

set_option maxHeartbeats 800000 in
theorem sumC_eq (c : Dev nD) (t : Fin cfg0.N) (h0 : ¬cond0_0 (grid0.coords t)) (h1 : cond0_1 (grid0.coords t)) (xs0 : Vec Ideal S256x6144 .fp8e4m3) (xs1 : Vec Ideal S2x128 .f32)
    (xs3 xs4 : Vec Ideal S2x8x128 .f32) :
    VS0_3.read (Elt Ideal) (VS0_3.writes (Elt Ideal) VS0_3.junk (runC m c t h0 h1 xs0 xs1 xs3 xs4).2.2.2.1)
      = sumStep (iblk m c 2 t) xs0 (iblk m c 3 t) (iblk m c 4 t) xs1 xs3 := by
  funext y
  refine View.read_writes_apply_of_pieces _ _ (sumStep (iblk m c 2 t) xs0 (iblk m c 3 t) (iblk m c 4 t) xs1 xs3) _ ?_ y (coverC_3 m c t h0 h1 xs0 xs1 xs3 xs4 y)
  unfold runC kernelRun0_C
  dsimp only
  unfold kernelRun0_C.sl.HS3_2
  simp only [List.forall_mem_cons]
  refine ⟨?_, ?_, fun p hp => absurd hp List.not_mem_nil⟩
  · refine plane_piece _ 1 rfl _ _ _ fun s l => ?_
    refine (sum1_apply _ _ _ _ _ _ s l).trans ?_
    unfold sumStep kernelRun0_C.sl.v446
    rw [View.readAt_full, View.readAt_full, View.readAt_full, View.readAt_full, rd_row _ _ ![1, 0] 1 rfl, rd_plane _ _ ![1, 0, 0] 1 rfl]
    simp only [Memref.IsWhole.read_unread]
    exact (congrArg (· + _) (congrFun (congrArg (planeOf · 1) ((Memref.isWhole_whole _ : scM0_3.IsWhole).read_unread xs3)) (ix3 0 s l))).trans rfl
  · refine plane_piece _ 0 rfl _ _ _ fun s l => ?_
    refine (sum0_apply _ _ _ _ _ _ s l).trans ?_
    unfold sumStep
    rw [View.readAt_full, View.readAt_full, View.readAt_full, View.readAt_full, rd_row _ _ ![0, 0] 0 rfl, rd_plane _ _ ![0, 0, 0] 0 rfl]
    simp only [Memref.IsWhole.read_unread]
    exact (congrArg (· + _) (congrFun (congrArg (planeOf · 0) ((Memref.isWhole_whole _ : scM0_3.IsWhole).read_unread xs3)) (ix3 0 s l))).trans rfl

set_option maxHeartbeats 800000 in
theorem pickC_eq (c : Dev nD) (t : Fin cfg0.N) (h0 : ¬cond0_0 (grid0.coords t)) (h1 : cond0_1 (grid0.coords t)) (xs0 : Vec Ideal S256x6144 .fp8e4m3) (xs1 : Vec Ideal S2x128 .f32)
    (xs3 xs4 : Vec Ideal S2x8x128 .f32) :
    VS0_4.read (Elt Ideal) (VS0_4.writes (Elt Ideal) VS0_4.junk (runC m c t h0 h1 xs0 xs1 xs3 xs4).2.2.2.2.1)
      = pickStep (grid0.coords t) (iblk m c 2 t) xs0 (iblk m c 3 t) (iblk m c 4 t) xs1 (iblk m c 5 t) xs4 := by
  funext y
  refine View.read_writes_apply_of_pieces _ _ (pickStep (grid0.coords t) (iblk m c 2 t) xs0 (iblk m c 3 t) (iblk m c 4 t) xs1 (iblk m c 5 t) xs4) _ ?_ y (coverC_4 m c t h0 h1 xs0 xs1 xs3 xs4 y)
  unfold runC kernelRun0_C
  dsimp only
  unfold kernelRun0_C.sl.HS4_2
  simp only [List.forall_mem_cons]
  refine ⟨?_, ?_, fun p hp => absurd hp List.not_mem_nil⟩
  · refine plane_piece _ 1 rfl _ _ _ fun s l => ?_
    refine (pick1_apply (grid0.coords t) _ _ _ _ _ _ _ s l).trans ?_
    unfold pickStep labOf kernelRun0_C.sl.v452
    rw [View.readAt_full, View.readAt_full, View.readAt_full, View.readAt_full, rd_row _ _ ![1, 0] 1 rfl, rd_row _ _ ![1, 0] 1 rfl, rd_plane _ _ ![1, 0, 0] 1 rfl]
    simp only [Memref.IsWhole.read_unread]
    exact (congrArg (· + _) (congrFun (congrArg (planeOf · 1) ((Memref.isWhole_whole _ : scM0_4.IsWhole).read_unread xs4)) (ix3 0 s l))).trans rfl
  · refine plane_piece _ 0 rfl _ _ _ fun s l => ?_
    refine (pick0_apply (grid0.coords t) _ _ _ _ _ _ _ s l).trans ?_
    unfold pickStep labOf
    rw [View.readAt_full, View.readAt_full, View.readAt_full, View.readAt_full, rd_row _ _ ![0, 0] 0 rfl, rd_row _ _ ![0, 0] 0 rfl, rd_plane _ _ ![0, 0, 0] 0 rfl]
    simp only [Memref.IsWhole.read_unread]
    exact (congrArg (· + _) (congrFun (congrArg (planeOf · 0) ((Memref.isWhole_whole _ : scM0_4.IsWhole).read_unread xs4)) (ix3 0 s l))).trans rfl

set_option maxHeartbeats 800000 in
theorem lossC_eq (c : Dev nD) (t : Fin cfg0.N) (h0 : ¬cond0_0 (grid0.coords t)) (h1 : cond0_1 (grid0.coords t)) (xs0 : Vec Ideal S256x6144 .fp8e4m3) (xs1 : Vec Ideal S2x128 .f32)
    (xs3 xs4 : Vec Ideal S2x8x128 .f32) :
    VO0_6.read (Elt Ideal) (VO0_6.writes (Elt Ideal) VO0_6.junk (runC m c t h0 h1 xs0 xs1 xs3 xs4).1)
      = lossOf (sumStep (iblk m c 2 t) xs0 (iblk m c 3 t) (iblk m c 4 t) xs1 xs3)
          (pickStep (grid0.coords t) (iblk m c 2 t) xs0 (iblk m c 3 t) (iblk m c 4 t) xs1 (iblk m c 5 t) xs4) := by
  rw [← sumC_eq m c t h0 h1 xs0 xs1 xs3 xs4, ← pickC_eq m c t h0 h1 xs0 xs1 xs3 xs4]
  rw [View.read_writes_junk_eq_canon VS0_3, View.read_writes_junk_eq_canon VS0_4]
  funext y
  refine View.read_writes_apply_of_pieces _ _ (lossOf (View.canon (runC m c t h0 h1 xs0 xs1 xs3 xs4).2.2.2.1) (View.canon (runC m c t h0 h1 xs0 xs1 xs3 xs4).2.2.2.2.1)) _ ?_ y (coverC_6 m c t h0 h1 xs0 xs1 xs3 xs4 y)
  unfold runC kernelRun0_C
  dsimp only
  simp only [List.forall_mem_cons]
  refine ⟨?_, ?_, fun p hp => absurd hp List.not_mem_nil⟩
  · refine row_piece _ 1 rfl _ _ _ fun l => ?_
    exact loss1_of _ _ _ _ (cov_plane1 _ _ _) (cov_plane1 _ _ _) l
  · refine row_piece _ 0 rfl _ _ _ fun l => ?_
    exact loss0_of _ _ _ _ (cov_plane0 _ _ _) (cov_plane0 _ _ _) l

end Cert.KernelIdeal.Gen

end
-- ==== Proof.AccIdealA.lean ====
/-
  The first grid point: the loop over the rows leaves every code and every step, the steps' first lanes are the
  second output, and the point's own vocabulary block is the first addition to the two accumulators.
-/
module

public import proofs.«01_k».proof.Proof.AccIdeal
public import Idealize.ShloMosaic.Lib.Pipeline.ValueKit.Basic

@[expose] public section

set_option maxRecDepth 16384

noncomputable section

namespace Cert.KernelIdeal.Gen

open Idealize.ShloMosaic Idealize.ShloMosaic.TcCoe

/-- Every piece the trips before `n` store holds the codes of its rows. -/
theorem pb_codes (𝒱 : Variants) (c : Dev nD) (bd : Option 𝒱.V) (i : grid0.Coords) (arg1 : Memref sig .tc .vmem S256x6144 .bf16) (harg1 : arg1.IsWhole) (arg2 : Memref sig .tc .vmem S1x6144 .f32) (harg2 : arg2.IsWhole) (arg3 : Memref sig .tc .vmem S1024x6144 .fp8e4m3) (harg3 : arg3.IsWhole) (arg4 : Memref sig .tc .vmem S8x128 .f32) (harg4 : arg4.IsWhole) (arg5 : Memref sig .tc .vmem S8x128 .f32) (harg5 : arg5.IsWhole) (arg6 : Memref sig .tc .vmem S2x128 .i32) (harg6 : arg6.IsWhole) (arg7 : Memref sig .tc .vmem S2x128 .f32) (harg7 : arg7.IsWhole) (arg8 : Memref sig .tc .vmem S256x6144 .fp8e4m3) (harg8 : arg8.IsWhole) (arg9 : Memref sig .tc .vmem S2x128 .f32) (harg9 : arg9.IsWhole) (arg10 : Memref sig .tc .vmem S256x128 .f32) (harg10 : arg10.IsWhole) (arg11 : Memref sig .tc .vmem S2x8x128 .f32) (harg11 : arg11.IsWhole) (arg12 : Memref sig .tc .vmem S2x8x128 .f32) (harg12 : arg12.IsWhole) (k0_h1 : k0_cond1 i = 1#1) (X_arg1 : BufTy.Contents (Elt Ideal) arg1.view.ty) (X_arg2 : BufTy.Contents (Elt Ideal) arg2.view.ty) :
    ∀ n : ℕ, n ≤ k0_t1_loop.trips → ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 n).1, ∀ x : p.1.shape.Idx,
      p.2 x = codesOf (arg1.view.read (Elt Ideal) X_arg1) (arg2.view.read (Elt Ideal) X_arg2) (p.1.emb x)
  | 0, _ => by
    intro p hp
    rw [pb_k0_t1.eq_1] at hp
    exact absurd hp List.not_mem_nil
  | n + 1, hn => by
    intro p hp
    rw [pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 ⟨n, hn⟩] at hp
    rcases List.mem_append.mp hp with hp | hp
    · exact trip_codes 𝒱 c bd i arg1 harg1 arg2 harg2 arg3 harg3 arg4 harg4 arg5 harg5 arg6 harg6 arg7 harg7 arg8 harg8 arg9 harg9 arg10 harg10 arg11 harg11 arg12 harg12 k0_h1 X_arg1 X_arg2 ⟨n, hn⟩ p hp
    · exact pb_codes 𝒱 c bd i arg1 harg1 arg2 harg2 arg3 harg3 arg4 harg4 arg5 harg5 arg6 harg6 arg7 harg7 arg8 harg8 arg9 harg9 arg10 harg10 arg11 harg11 arg12 harg12 k0_h1 X_arg1 X_arg2 n (Nat.le_of_succ_le hn) p hp

/-- Every piece the trips before `n` store holds the steps of its rows. -/
theorem pb_steps (𝒱 : Variants) (c : Dev nD) (bd : Option 𝒱.V) (i : grid0.Coords) (arg1 : Memref sig .tc .vmem S256x6144 .bf16) (harg1 : arg1.IsWhole) (arg2 : Memref sig .tc .vmem S1x6144 .f32) (harg2 : arg2.IsWhole) (arg3 : Memref sig .tc .vmem S1024x6144 .fp8e4m3) (harg3 : arg3.IsWhole) (arg4 : Memref sig .tc .vmem S8x128 .f32) (harg4 : arg4.IsWhole) (arg5 : Memref sig .tc .vmem S8x128 .f32) (harg5 : arg5.IsWhole) (arg6 : Memref sig .tc .vmem S2x128 .i32) (harg6 : arg6.IsWhole) (arg7 : Memref sig .tc .vmem S2x128 .f32) (harg7 : arg7.IsWhole) (arg8 : Memref sig .tc .vmem S256x6144 .fp8e4m3) (harg8 : arg8.IsWhole) (arg9 : Memref sig .tc .vmem S2x128 .f32) (harg9 : arg9.IsWhole) (arg10 : Memref sig .tc .vmem S256x128 .f32) (harg10 : arg10.IsWhole) (arg11 : Memref sig .tc .vmem S2x8x128 .f32) (harg11 : arg11.IsWhole) (arg12 : Memref sig .tc .vmem S2x8x128 .f32) (harg12 : arg12.IsWhole) (k0_h1 : k0_cond1 i = 1#1) (X_arg1 : BufTy.Contents (Elt Ideal) arg1.view.ty) (X_arg2 : BufTy.Contents (Elt Ideal) arg2.view.ty) :
    ∀ n : ℕ, n ≤ k0_t1_loop.trips → ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 n).2, ∀ x : p.1.shape.Idx,
      p.2 x = stepsOf (arg1.view.read (Elt Ideal) X_arg1) (arg2.view.read (Elt Ideal) X_arg2) (p.1.emb x)
  | 0, _ => by
    intro p hp
    rw [pb_k0_t1.eq_1] at hp
    exact absurd hp List.not_mem_nil
  | n + 1, hn => by
    intro p hp
    rw [pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 ⟨n, hn⟩] at hp
    rcases List.mem_append.mp hp with hp | hp
    · exact trip_steps 𝒱 c bd i arg1 harg1 arg2 harg2 arg3 harg3 arg4 harg4 arg5 harg5 arg6 harg6 arg7 harg7 arg8 harg8 arg9 harg9 arg10 harg10 arg11 harg11 arg12 harg12 k0_h1 X_arg1 X_arg2 ⟨n, hn⟩ p hp
    · exact pb_steps 𝒱 c bd i arg1 harg1 arg2 harg2 arg3 harg3 arg4 harg4 arg5 harg5 arg6 harg6 arg7 harg7 arg8 harg8 arg9 harg9 arg10 harg10 arg11 harg11 arg12 harg12 k0_h1 X_arg1 X_arg2 n (Nat.le_of_succ_le hn) p hp

variable (m : (ℓ : Loc nD τ sig) → Buf (Elt Ideal) ℓ)

/-- The codes of the first point are those of the rows and weights it reads. -/
theorem codesAt_eq (c : Dev nD) : codesAt m c = codesOf (iblk m c 0 t00) (iblk m c 1 t00) := by
  funext y
  have h := fun hG => View.read_writes_apply_of_pieces VO0_7 (VO0_7.junk (Val := Elt Ideal)) (codesOf (iblk m c 0 t00) (iblk m c 1 t00)) (runA m c t00 c00 n00).2.1 hG y (coverA_7 m c t00 c00 n00 y)
  refine h ?_
  unfold runA kernelRun0_A
  dsimp only
  intro p hp x
  refine (pb_codes _ _ _ _ _ _ _ _ _ _ _ _ _ _ _ _ _ _ _ _ _ _ _ _ _ _ _ _ _ _ _ _ (le_refl _) p hp x).trans ?_
  rw [Memref.IsWhole.read_unread, Memref.IsWhole.read_unread]

/-- The second output: every token's step. -/
def hsOf (X : Vec Ideal S256x6144 .bf16) (W : Vec Ideal S1x6144 .f32) : Vec Ideal S2x128 .f32 :=
  fun y => stepsOf X W (ix2 ⟨128 * (y 0).val + (y 1).val, by have := (y 0).isLt; have := (y 1).isLt; simp at *; omega⟩ 0)

/-! ## Two writes of planes, read back -/

theorem ext_planes (f g : S2x8x128.Idx → EReal) (h0 : ∀ (s : Fin 8) (l : Fin 128), f (ix3 0 s l) = g (ix3 0 s l))
    (h1 : ∀ (s : Fin 8) (l : Fin 128), f (ix3 1 s l) = g (ix3 1 s l)) : f = g := by
  funext y
  have e : y = ix3 (y 0) (y 1) (y 2) := by funext q; match q with | ⟨0, _⟩ => rfl | ⟨1, _⟩ => rfl | ⟨2, _⟩ => rfl
  rw [e]
  have : ∀ h : Fin 2, f (ix3 h (y 1) (y 2)) = g (ix3 h (y 1) (y 2)) := fun h => match h with
    | 0 => h0 _ _
    | 1 => h1 _ _
  exact this (y 0)

theorem plane_hit0 (inb : ∀ q, (![0, 0, 0] : Fin 3 → ℕ) q + S1x8x128.size q ≤ S2x8x128.size q) (w : Vec Ideal S1x8x128 .f32)
    (L : List (View.Piece (Elt Ideal) S2x8x128 .f32)) (s : Fin 8) (l : Fin 128) :
    View.canon ((⟨Rect.unit (s := S2x8x128) ![0, 0, 0] S1x8x128.size inb, w⟩ : View.Piece (Elt Ideal) S2x8x128 .f32) :: L) (ix3 0 s l) = w (ix3 0 s l) := by
  have e : (Rect.unit (s := S2x8x128) ![0, 0, 0] S1x8x128.size inb).emb (ix3 0 s l) = ix3 0 s l := by
    funext q
    match q with
    | ⟨0, _⟩ => rfl
    | ⟨1, _⟩ => refine Fin.ext ?_; show 0 + 1 * s.val = s.val; omega
    | ⟨2, _⟩ => refine Fin.ext ?_; show 0 + 1 * l.val = l.val; omega
  rw [← e]
  exact View.canon_cons_emb (Rect.unit (s := S2x8x128) ![0, 0, 0] S1x8x128.size inb) w L (ix3 0 s l)

theorem plane_miss0 (inb : ∀ q, (![0, 0, 0] : Fin 3 → ℕ) q + S1x8x128.size q ≤ S2x8x128.size q) (w : Vec Ideal S1x8x128 .f32)
    (L : List (View.Piece (Elt Ideal) S2x8x128 .f32)) (s : Fin 8) (l : Fin 128) :
    View.canon ((⟨Rect.unit (s := S2x8x128) ![0, 0, 0] S1x8x128.size inb, w⟩ : View.Piece (Elt Ideal) S2x8x128 .f32) :: L) (ix3 1 s l)
      = View.canon L (ix3 1 s l) := by
  refine View.canon_cons_of_not_mem _ L (Rect.not_mem_set_of_axis _ _ 0 0 1 rfl rfl rfl ?_)
  right
  show 0 + 1 ≤ 1
  omega

theorem plane_hit1 (inb : ∀ q, (![1, 0, 0] : Fin 3 → ℕ) q + S1x8x128.size q ≤ S2x8x128.size q) (w : Vec Ideal S1x8x128 .f32)
    (L : List (View.Piece (Elt Ideal) S2x8x128 .f32)) (s : Fin 8) (l : Fin 128) :
    View.canon ((⟨Rect.unit (s := S2x8x128) ![1, 0, 0] S1x8x128.size inb, w⟩ : View.Piece (Elt Ideal) S2x8x128 .f32) :: L) (ix3 1 s l) = w (ix3 0 s l) := by
  have e : (Rect.unit (s := S2x8x128) ![1, 0, 0] S1x8x128.size inb).emb (ix3 0 s l) = ix3 1 s l := by
    funext q
    match q with
    | ⟨0, _⟩ => rfl
    | ⟨1, _⟩ => refine Fin.ext ?_; show 0 + 1 * s.val = s.val; omega
    | ⟨2, _⟩ => refine Fin.ext ?_; show 0 + 1 * l.val = l.val; omega
  rw [← e]
  exact View.canon_cons_emb (Rect.unit (s := S2x8x128) ![1, 0, 0] S1x8x128.size inb) w L (ix3 0 s l)

theorem plane_miss1 (inb : ∀ q, (![1, 0, 0] : Fin 3 → ℕ) q + S1x8x128.size q ≤ S2x8x128.size q) (w : Vec Ideal S1x8x128 .f32)
    (L : List (View.Piece (Elt Ideal) S2x8x128 .f32)) (s : Fin 8) (l : Fin 128) :
    View.canon ((⟨Rect.unit (s := S2x8x128) ![1, 0, 0] S1x8x128.size inb, w⟩ : View.Piece (Elt Ideal) S2x8x128 .f32) :: L) (ix3 0 s l)
      = View.canon L (ix3 0 s l) := by
  refine View.canon_cons_of_not_mem _ L (Rect.not_mem_set_of_axis _ _ 0 1 1 rfl rfl rfl ?_)
  left
  show 0 < 1
  omega

theorem plane_above (inb : ∀ q, (![0, 0, 0] : Fin 3 → ℕ) q + S1x8x128.size q ≤ S2x8x128.size q) (w : Vec Ideal S1x8x128 .f32)
    (L : List (View.Piece (Elt Ideal) S2x8x128 .f32)) (hz : ∀ p, View.canon L p = 0) :
    planeOf (View.canon ((⟨Rect.unit (s := S2x8x128) ![0, 0, 0] S1x8x128.size inb, w⟩ : View.Piece (Elt Ideal) S2x8x128 .f32) :: L)) 1
      = planeOf (fun _ => 0) 1 := by
  funext p
  unfold planeOf
  exact (plane_miss0 inb w L (p 1) (p 2)).trans (hz _)

theorem sum0_of (v3 : Vec Ideal S1024x6144 .fp8e4m3) (v4 : Vec Ideal S256x6144 .fp8e4m3) (v7 v12 : Vec Ideal S8x128 .f32)
    (vh : Vec Ideal S1x128 .f32) (vo : Vec Ideal S1x8x128 .f32)
    (A : Vec Ideal S1024x6144 .fp8e4m3) (B : Vec Ideal S256x6144 .fp8e4m3) (C D : Vec Ideal S8x128 .f32) (E : Vec Ideal S2x128 .f32) (O : Vec Ideal S2x8x128 .f32)
    (h3 : v3 = A) (h4 : v4 = B) (h7 : v7 = C) (h12 : v12 = D) (hh : vh = rowOf E 0) (ho : vo = planeOf O 0) (s : Fin 8) (l : Fin 128) :
    k0_pay141 (k0_pay115 v3 v4) (k0_pay116 v7) (k0_pay117 v12) (k0_pay118 vh) (k0_pay135 (k0_pay115 v3 v4) (k0_pay116 v7) (k0_pay117 v12) (k0_pay118 vh) (k0_pay130 (k0_pay115 v3 v4) (k0_pay116 v7) (k0_pay117 v12) (k0_pay118 vh) (k0_pay125 (k0_pay115 v3 v4) (k0_pay116 v7) (k0_pay117 v12) (k0_pay118 vh) k0_pay120 (k0_pay122 v3 v4 v7 v12 vh) k0_pay123) (k0_pay127 (k0_pay115 v3 v4) (k0_pay116 v7) (k0_pay117 v12) (k0_pay118 vh)) k0_pay128) (k0_pay132 (k0_pay115 v3 v4) (k0_pay116 v7) (k0_pay117 v12) (k0_pay118 vh)) k0_pay133) (k0_pay137 (k0_pay115 v3 v4) (k0_pay116 v7) (k0_pay117 v12) (k0_pay118 vh)) k0_pay138 vo (ix3 0 s l) = sumStep A B C D E O (ix3 0 s l) := by
  subst h3 h4 h7 h12 hh ho
  exact (sum0_apply _ _ _ _ _ _ s l).trans rfl

theorem sum1_of (v3 : Vec Ideal S1024x6144 .fp8e4m3) (v4 : Vec Ideal S256x6144 .fp8e4m3) (v7 v12 : Vec Ideal S8x128 .f32)
    (vh : Vec Ideal S1x128 .f32) (vo : Vec Ideal S1x8x128 .f32)
    (A : Vec Ideal S1024x6144 .fp8e4m3) (B : Vec Ideal S256x6144 .fp8e4m3) (C D : Vec Ideal S8x128 .f32) (E : Vec Ideal S2x128 .f32) (O : Vec Ideal S2x8x128 .f32)
    (h3 : v3 = A) (h4 : v4 = B) (h7 : v7 = C) (h12 : v12 = D) (hh : vh = rowOf E 1) (ho : vo = planeOf O 1) (s : Fin 8) (l : Fin 128) :
    k0_pay165 (k0_pay116 v7) (k0_pay117 v12) (k0_pay143 vh) (k0_pay161 (k0_pay115 v3 v4) (k0_pay116 v7) (k0_pay117 v12) (k0_pay143 vh) (k0_pay156 (k0_pay115 v3 v4) (k0_pay116 v7) (k0_pay117 v12) (k0_pay143 vh) (k0_pay151 (k0_pay115 v3 v4) (k0_pay116 v7) (k0_pay117 v12) (k0_pay143 vh) (k0_pay146 (k0_pay115 v3 v4) (k0_pay116 v7) (k0_pay117 v12) vh) (k0_pay148 (k0_pay115 v3 v4))) (k0_pay153 (k0_pay115 v3 v4))) (k0_pay158 (k0_pay115 v3 v4))) (k0_pay163 (k0_pay115 v3 v4)) vo (ix3 0 s l) = sumStep A B C D E O (ix3 1 s l) := by
  subst h3 h4 h7 h12 hh ho
  exact (sum1_apply _ _ _ _ _ _ s l).trans rfl

theorem pick0_of (i : grid0.Coords) (v3 : Vec Ideal S1024x6144 .fp8e4m3) (v4 : Vec Ideal S256x6144 .fp8e4m3) (v7 v12 : Vec Ideal S8x128 .f32)
    (vh : Vec Ideal S1x128 .f32) (vl : Vec Ideal S1x128 .i32) (vo : Vec Ideal S1x8x128 .f32)
    (A : Vec Ideal S1024x6144 .fp8e4m3) (B : Vec Ideal S256x6144 .fp8e4m3) (C D : Vec Ideal S8x128 .f32) (E : Vec Ideal S2x128 .f32) (Lb : Vec Ideal S2x128 .i32) (O : Vec Ideal S2x8x128 .f32)
    (h3 : v3 = A) (h4 : v4 = B) (h7 : v7 = C) (h12 : v12 = D) (hh : vh = rowOf E 0) (hl : vl = rowOf Lb 0) (ho : vo = planeOf O 0) (s : Fin 8) (l : Fin 128) :
    k0_pay142 (k0_pay140 (k0_pay115 v3 v4) (k0_pay116 v7) (k0_pay117 v12) (iota .tc S128x128 32 [0] iota_S128x128_d0_w32) (k0_pay118 vh) (k0_pay119 i vl) (k0_pay136 (k0_pay115 v3 v4) (k0_pay116 v7) (k0_pay117 v12) (iota .tc S128x128 32 [0] iota_S128x128_d0_w32) (k0_pay118 vh) (k0_pay119 i vl) (k0_pay131 (k0_pay115 v3 v4) (k0_pay116 v7) (k0_pay117 v12) (iota .tc S128x128 32 [0] iota_S128x128_d0_w32) (k0_pay118 vh) (k0_pay119 i vl) (k0_pay126 (k0_pay115 v3 v4) (k0_pay116 v7) (k0_pay117 v12) (iota .tc S128x128 32 [0] iota_S128x128_d0_w32) (k0_pay118 vh) (k0_pay119 i vl) k0_pay121 (k0_pay122 v3 v4 v7 v12 vh)) (k0_pay127 (k0_pay115 v3 v4) (k0_pay116 v7) (k0_pay117 v12) (k0_pay118 vh))) (k0_pay132 (k0_pay115 v3 v4) (k0_pay116 v7) (k0_pay117 v12) (k0_pay118 vh))) (k0_pay137 (k0_pay115 v3 v4) (k0_pay116 v7) (k0_pay117 v12) (k0_pay118 vh))) vo (ix3 0 s l) = pickStep i A B C D E Lb O (ix3 0 s l) := by
  subst h3 h4 h7 h12 hh hl ho
  exact (pick0_apply i _ _ _ _ _ _ _ s l).trans rfl

theorem pick1_of (i : grid0.Coords) (v3 : Vec Ideal S1024x6144 .fp8e4m3) (v4 : Vec Ideal S256x6144 .fp8e4m3) (v7 v12 : Vec Ideal S8x128 .f32)
    (vh : Vec Ideal S1x128 .f32) (vl : Vec Ideal S1x128 .i32) (vo : Vec Ideal S1x8x128 .f32)
    (A : Vec Ideal S1024x6144 .fp8e4m3) (B : Vec Ideal S256x6144 .fp8e4m3) (C D : Vec Ideal S8x128 .f32) (E : Vec Ideal S2x128 .f32) (Lb : Vec Ideal S2x128 .i32) (O : Vec Ideal S2x8x128 .f32)
    (h3 : v3 = A) (h4 : v4 = B) (h7 : v7 = C) (h12 : v12 = D) (hh : vh = rowOf E 1) (hl : vl = rowOf Lb 1) (ho : vo = planeOf O 1) (s : Fin 8) (l : Fin 128) :
    k0_pay166 (k0_pay116 v7) (k0_pay117 v12) (iota .tc S128x128 32 [0] iota_S128x128_d0_w32) (k0_pay143 vh) (k0_pay144 (BitVec.ofNat 32 (i 0).val) vl) (k0_pay162 (k0_pay115 v3 v4) (k0_pay116 v7) (k0_pay117 v12) (iota .tc S128x128 32 [0] iota_S128x128_d0_w32) (k0_pay143 vh) (k0_pay144 (BitVec.ofNat 32 (i 0).val) vl) (k0_pay157 (k0_pay115 v3 v4) (k0_pay116 v7) (k0_pay117 v12) (iota .tc S128x128 32 [0] iota_S128x128_d0_w32) (k0_pay143 vh) (k0_pay144 (BitVec.ofNat 32 (i 0).val) vl) (k0_pay152 (k0_pay115 v3 v4) (k0_pay116 v7) (k0_pay117 v12) (iota .tc S128x128 32 [0] iota_S128x128_d0_w32) (k0_pay143 vh) (k0_pay144 (BitVec.ofNat 32 (i 0).val) vl) (k0_pay147 (BitVec.ofNat 32 (i 0).val) (k0_pay115 v3 v4) (k0_pay116 v7) (k0_pay117 v12) (iota .tc S128x128 32 [0] iota_S128x128_d0_w32) vh vl) (k0_pay148 (k0_pay115 v3 v4))) (k0_pay153 (k0_pay115 v3 v4))) (k0_pay158 (k0_pay115 v3 v4))) (k0_pay163 (k0_pay115 v3 v4)) vo (ix3 0 s l) = pickStep i A B C D E Lb O (ix3 1 s l) := by
  subst h3 h4 h7 h12 hh hl ho
  exact (pick1_apply i _ _ _ _ _ _ _ s l).trans rfl

/-! ## The first point -/

/-- The loop's pieces of steps at the first point. -/
abbrev stepsL (c : Dev nD) : List (View.Piece (Elt Ideal) S256x128 .f32) :=
  (pb_k0_t1 (F := Ideal) Variants.none c none (grid0.coords t00) (ms0_0 t00) (hs0_0 t00) (ms0_1 t00) (hs0_1 t00) (ms0_2 t00) (hs0_2 t00) (ms0_3 t00) (hs0_3 t00) (ms0_4 t00) (hs0_4 t00) (ms0_5 t00) (hs0_5 t00) (ms0_6 t00) (hs0_6 t00) (ms0_7 t00) (hs0_7 t00) (ms0_8 t00) (hs0_8 t00) scM0_2 (Memref.isWhole_whole _) scM0_3 (Memref.isWhole_whole _) scM0_4 (Memref.isWhole_whole _) c00
    ((hs0_0 t00).unread (iblk m c 0 t00)) ((hs0_1 t00).unread (iblk m c 1 t00)) k0_t1_loop.trips).2

theorem cover_steps (c : Dev nD) (y : S256x128.Idx) : ∃ pc ∈ stepsL m c, y ∈ pc.1.set :=
  View.cover_of_tiledL (stepsL m c) S32x128.size (by sl_kernel_rfl) y

theorem canon_steps (c : Dev nD) : View.canon (stepsL m c) = stepsOf (iblk m c 0 t00) (iblk m c 1 t00) := by
  rw [← View.read_writes_junk_eq_canon scM0_2.view]
  funext y
  refine View.read_writes_apply_of_pieces _ _ (stepsOf (iblk m c 0 t00) (iblk m c 1 t00)) _ ?_ y (cover_steps m c y)
  intro p hp x
  refine (pb_steps _ _ _ _ _ _ _ _ _ _ _ _ _ _ _ _ _ _ _ _ _ _ _ _ _ _ _ _ _ _ _ _ (le_refl _) p hp x).trans ?_
  rw [Memref.IsWhole.read_unread, Memref.IsWhole.read_unread]

theorem tile_steps (c : Dev nD) (v : View sig .tc .vmem S256x128 .f32) (off : Fin 2 → ℕ) (h : Fin 2) (ho : off = ![128 * h.val, 0])
    (inb : ∀ q, off q + S128x128.size q ≤ S256x128.size q) (l : Fin 128) :
    v.readCov (stepsL m c) (Rect.unit (s := S256x128) off S128x128.size inb).toLoadRect (ix2 l 0)
      = hsOf (iblk m c 0 t00) (iblk m c 1 t00) (ix2 h l) := by
  subst ho
  rw [View.readCov_eq_canon', canon_steps]
  unfold hsOf
  show stepsOf (iblk m c 0 t00) (iblk m c 1 t00) _ = _
  congr 1
  funext q
  match q with
  | ⟨0, _⟩ => refine Fin.ext ?_; show 128 * h.val + 1 * l.val = 128 * h.val + l.val; omega
  | ⟨1, _⟩ => rfl

set_option maxHeartbeats 400000 in
theorem canon_hs (c : Dev nD) : View.canon (runA m c t00 c00 n00).2.2.1 = hsOf (iblk m c 0 t00) (iblk m c 1 t00) := by
  rw [← View.read_writes_junk_eq_canon VO0_8]
  funext y
  refine View.read_writes_apply_of_pieces VO0_8 (VO0_8.junk (Val := Elt Ideal)) (hsOf (iblk m c 0 t00) (iblk m c 1 t00)) _ ?_ y (coverA_8 m c t00 c00 n00 y)
  unfold runA kernelRun0_A
  dsimp only
  unfold kernelRun0_A.sl.HS1_2
  simp only [List.forall_mem_cons]
  refine ⟨?_, ?_, fun p hp => absurd hp List.not_mem_nil⟩
  · refine row_piece _ 1 rfl _ _ _ fun l => ?_
    exact (hs1_apply _ l).trans (tile_steps m c _ ![128, 0] 1 rfl _ l)
  · refine row_piece _ 0 rfl _ _ _ fun l => ?_
    exact (hs0_apply _ l).trans (tile_steps m c _ ![0, 0] 0 rfl _ l)

theorem scaleAt_eq (c : Dev nD) : scaleAt m c = hsOf (iblk m c 0 t00) (iblk m c 1 t00) := by
  unfold scaleAt
  rw [View.read_writes_junk_eq_canon, canon_hs]

theorem canon_codes (c : Dev nD) : View.canon (runA m c t00 c00 n00).2.1 = codesOf (iblk m c 0 t00) (iblk m c 1 t00) := by
  rw [← codesAt_eq]; unfold codesAt; rw [View.read_writes_junk_eq_canon]

theorem cov_row0 {e : EltTy} (v : View sig .tc .vmem S2x128 e) (L : List (View.Piece (Elt Ideal) S2x128 e))
    (inb : ∀ q, (![0, 0] : Fin 2 → ℕ) q + (![1, 128] : Fin 2 → ℕ) q ≤ S2x128.size q) :
    v.readCov L (Rect.unit (s := S2x128) ![0, 0] ![1, 128] inb).toLoadRect = rowOf (View.canon L) 0 := by
  rw [← View.read_writes_junk_eq_canon v L]
  exact rd_row v _ ![0, 0] 0 rfl inb

theorem cov_row1 {e : EltTy} (v : View sig .tc .vmem S2x128 e) (L : List (View.Piece (Elt Ideal) S2x128 e))
    (inb : ∀ q, (![1, 0] : Fin 2 → ℕ) q + (![1, 128] : Fin 2 → ℕ) q ≤ S2x128.size q) :
    v.readCov L (Rect.unit (s := S2x128) ![1, 0] ![1, 128] inb).toLoadRect = rowOf (View.canon L) 1 := by
  rw [← View.read_writes_junk_eq_canon v L]
  exact rd_row v _ ![1, 0] 1 rfl inb

theorem cov_full {s : Shape} {e : EltTy} (v : View sig .tc .vmem s e) (L : List (View.Piece (Elt Ideal) s e)) {off : Fin s.rank → ℕ}
    (inb : ∀ q, off q + s.size q ≤ s.size q) : v.readCov L (Rect.unit off s.size inb).toLoadRect = View.canon L := by
  rw [← View.read_writes_junk_eq_canon v L]
  exact View.readAt_full v _ inb

theorem zeros_sum (p : S2x8x128.Idx) : View.canon (kernelRun0_A.sl.HS3_1 (F := Ideal)) p = 0 := by
  unfold kernelRun0_A.sl.HS3_1
  rw [View.canon_cons_unit_lit _ _ _ (fun a => by match a with | ⟨0, _⟩ => rfl | ⟨1, _⟩ => rfl | ⟨2, _⟩ => rfl)]
  have e : p = ix3 (p 0) (p 1) (p 2) := by funext q; match q with | ⟨0, _⟩ => rfl | ⟨1, _⟩ => rfl | ⟨2, _⟩ => rfl
  exact (congrArg _ e).trans (zero0_apply (p 0) (p 1) (p 2))

set_option maxHeartbeats 800000 in
theorem sumA_eq (c : Dev nD) :
    VS0_3.read (Elt Ideal) (VS0_3.writes (Elt Ideal) VS0_3.junk (runA m c t00 c00 n00).2.2.2.1)
      = sumStep (iblk m c 2 t00) (codesOf (iblk m c 0 t00) (iblk m c 1 t00)) (iblk m c 3 t00) (iblk m c 4 t00) (hsOf (iblk m c 0 t00) (iblk m c 1 t00)) (fun _ => 0) := by
  rw [View.read_writes_junk_eq_canon]
  have hc := canon_codes m c
  have hh := canon_hs m c
  unfold runA kernelRun0_A at hc hh ⊢
  dsimp only at hc hh ⊢
  unfold kernelRun0_A.sl.HS3_2
  refine ext_planes _ _ (fun s l => ?_) fun s l => ?_
  · refine (plane_miss1 _ _ _ s l).trans ?_
    refine (plane_hit0 _ _ _ s l).trans ?_
    refine sum0_of _ _ _ _ _ _ _ _ _ _ _ _ ?_ ?_ ?_ ?_ ?_ ?_ s l
    · exact (View.readAt_full _ _ _).trans (Memref.IsWhole.read_unread _ _)
    · exact (cov_full _ _ _).trans hc
    · exact (View.readAt_full _ _ _).trans (Memref.IsWhole.read_unread _ _)
    · exact (View.readAt_full _ _ _).trans (Memref.IsWhole.read_unread _ _)
    · exact (cov_row0 _ _ _).trans (congrArg (fun X => rowOf X 0) hh)
    · exact (cov_plane0 _ _ _).trans (funext fun p => zeros_sum _)
  · refine (plane_hit1 _ _ _ s l).trans ?_
    refine sum1_of _ _ _ _ _ _ _ _ _ _ _ _ ?_ ?_ ?_ ?_ ?_ ?_ s l
    · exact (View.readAt_full _ _ _).trans (Memref.IsWhole.read_unread _ _)
    · exact (cov_full _ _ _).trans hc
    · exact (View.readAt_full _ _ _).trans (Memref.IsWhole.read_unread _ _)
    · exact (View.readAt_full _ _ _).trans (Memref.IsWhole.read_unread _ _)
    · exact (cov_row1 _ _ _).trans (congrArg (fun X => rowOf X 1) hh)
    · refine (cov_plane1 _ _ _).trans ?_
      unfold kernelRun0_A.sl.HS3_2
      exact plane_above _ _ _ zeros_sum

theorem zeros_pick (p : S2x8x128.Idx) : View.canon (kernelRun0_A.sl.HS4_1 (F := Ideal)) p = 0 := by
  unfold kernelRun0_A.sl.HS4_1
  rw [View.canon_cons_unit_lit _ _ _ (fun a => by match a with | ⟨0, _⟩ => rfl | ⟨1, _⟩ => rfl | ⟨2, _⟩ => rfl)]
  have e : p = ix3 (p 0) (p 1) (p 2) := by funext q; match q with | ⟨0, _⟩ => rfl | ⟨1, _⟩ => rfl | ⟨2, _⟩ => rfl
  exact (congrArg _ e).trans (zero1_apply (p 0) (p 1) (p 2))

set_option maxHeartbeats 800000 in
theorem pickA_eq (c : Dev nD) :
    VS0_4.read (Elt Ideal) (VS0_4.writes (Elt Ideal) VS0_4.junk (runA m c t00 c00 n00).2.2.2.2.1)
      = pickStep (grid0.coords t00) (iblk m c 2 t00) (codesOf (iblk m c 0 t00) (iblk m c 1 t00)) (iblk m c 3 t00) (iblk m c 4 t00) (hsOf (iblk m c 0 t00) (iblk m c 1 t00)) (iblk m c 5 t00) (fun _ => 0) := by
  rw [View.read_writes_junk_eq_canon]
  have hc := canon_codes m c
  have hh := canon_hs m c
  unfold runA kernelRun0_A at hc hh ⊢
  dsimp only at hc hh ⊢
  unfold kernelRun0_A.sl.HS4_2
  refine ext_planes _ _ (fun s l => ?_) fun s l => ?_
  · refine (plane_miss1 _ _ _ s l).trans ?_
    refine (plane_hit0 _ _ _ s l).trans ?_
    refine pick0_of _ _ _ _ _ _ _ _ _ _ _ _ _ _ _ ?_ ?_ ?_ ?_ ?_ ?_ ?_ s l
    · exact (View.readAt_full _ _ _).trans (Memref.IsWhole.read_unread _ _)
    · exact (cov_full _ _ _).trans hc
    · exact (View.readAt_full _ _ _).trans (Memref.IsWhole.read_unread _ _)
    · exact (View.readAt_full _ _ _).trans (Memref.IsWhole.read_unread _ _)
    · exact (cov_row0 _ _ _).trans (congrArg (fun X => rowOf X 0) hh)
    · exact (rd_row _ _ ![0, 0] 0 rfl _).trans (congrArg (fun X => rowOf X 0) (Memref.IsWhole.read_unread _ _))
    · exact (cov_plane0 _ _ _).trans (funext fun p => zeros_pick _)
  · refine (plane_hit1 _ _ _ s l).trans ?_
    refine pick1_of _ _ _ _ _ _ _ _ _ _ _ _ _ _ _ ?_ ?_ ?_ ?_ ?_ ?_ ?_ s l
    · exact (View.readAt_full _ _ _).trans (Memref.IsWhole.read_unread _ _)
    · exact (cov_full _ _ _).trans hc
    · exact (View.readAt_full _ _ _).trans (Memref.IsWhole.read_unread _ _)
    · exact (View.readAt_full _ _ _).trans (Memref.IsWhole.read_unread _ _)
    · exact (cov_row1 _ _ _).trans (congrArg (fun X => rowOf X 1) hh)
    · exact (rd_row _ _ ![1, 0] 1 rfl _).trans (congrArg (fun X => rowOf X 1) (Memref.IsWhole.read_unread _ _))
    · refine (cov_plane1 _ _ _).trans ?_
      unfold kernelRun0_A.sl.HS4_2
      exact plane_above _ _ _ zeros_pick

end Cert.KernelIdeal.Gen

end
-- ==== Proof.FinalIdeal.lean ====
/-
  The kernel's three output arrays after the run, as functions of the arrays its blocks are cut from.
-/
module

public import proofs.«01_k».proof.Proof.AccIdealA
public import Idealize.ShloMosaic.Lib.Pipeline.ValueKit.Geometry

@[expose] public section

set_option maxRecDepth 16384

noncomputable section

namespace Cert.KernelIdeal.Gen

open Idealize.ShloMosaic Idealize.ShloMosaic.TcCoe Idealize.SL.Sem
open Idealize.ShloMosaic.Pipeline (Dat)

variable (m : (ℓ : Loc nD τ sig) → Buf (Elt Ideal) ℓ)

/-! ## The accumulators after each point -/

/-- The codes the products read at every point. -/
abbrev theCodes (c : Dev nD) : Vec Ideal S256x6144 .fp8e4m3 := codesOf (iblk m c 0 t00) (iblk m c 1 t00)
/-- The steps the products are scaled by at every point. -/
abbrev theSteps (c : Dev nD) : Vec Ideal S2x128 .f32 := hsOf (iblk m c 0 t00) (iblk m c 1 t00)

/-- The capped logits of a point's block of 1024 vocabulary rows. -/
def tileAt (c : Dev nD) (t : Fin cfg0.N) (h : Fin 2) (l : Fin 128) (j : Fin 8) (r : Fin 128) : EReal :=
  kTile (iblk m c 2 t) (theCodes m c) (iblk m c 3 t) (iblk m c 4 t) (rowOf (theSteps m c) h) h j r l

/-- The running sum after `n` points. -/
def sumTo (c : Dev nD) (n : ℕ) : Vec Ideal S2x8x128 .f32 := fun y =>
  ∑ t : Fin cfg0.N, if t.val < n then kExpSum (tileAt m c t (y 0) (y 2)) (y 1) else 0

/-- The running pick after `n` points. -/
def pickTo (c : Dev nD) (n : ℕ) : Vec Ideal S2x8x128 .f32 := fun y =>
  ∑ t : Fin cfg0.N, if t.val < n then kPickSum (tileAt m c t (y 0) (y 2)) (labOf (grid0.coords t) (iblk m c 5 t) (y 0) (y 2)) (y 1) else 0

/-- A sum over the points below `n + 1` is the sum over those below `n` and the term of point `n`. -/
theorem sum_lt_succ {N : ℕ} (f : Fin N → EReal) (t : Fin N) :
    (∑ s : Fin N, if s.val < t.val + 1 then f s else 0) = (∑ s : Fin N, if s.val < t.val then f s else 0) + f t := by
  have e : ∀ s : Fin N, (if s.val < t.val + 1 then f s else 0) = (if s.val < t.val then f s else 0) + (if s = t then f s else 0) := by
    intro s
    by_cases h1 : s = t
    · subst h1; simp
    · have : s.val ≠ t.val := fun h => h1 (Fin.ext h)
      by_cases h2 : s.val < t.val
      · rw [if_pos (by omega), if_pos h2, if_neg h1, add_zero]
      · rw [if_neg (by omega), if_neg h2, if_neg h1, add_zero]
  rw [Finset.sum_congr rfl fun s _ => e s, Finset.sum_add_distrib, Finset.sum_ite_eq' Finset.univ t f, if_pos (Finset.mem_univ _)]

theorem sumTo_zero (c : Dev nD) : sumTo m c 0 = fun _ => 0 := by
  funext y; unfold sumTo; exact Finset.sum_eq_zero fun t _ => if_neg (Nat.not_lt_zero _)

theorem pickTo_zero (c : Dev nD) : pickTo m c 0 = fun _ => 0 := by
  funext y; unfold pickTo; exact Finset.sum_eq_zero fun t _ => if_neg (Nat.not_lt_zero _)

theorem sumTo_succ (c : Dev nD) (t : Fin cfg0.N) :
    sumTo m c (t.val + 1) = sumStep (iblk m c 2 t) (theCodes m c) (iblk m c 3 t) (iblk m c 4 t) (theSteps m c) (sumTo m c t.val) := by
  funext y
  exact sum_lt_succ _ t

theorem pickTo_succ (c : Dev nD) (t : Fin cfg0.N) :
    pickTo m c (t.val + 1) = pickStep (grid0.coords t) (iblk m c 2 t) (theCodes m c) (iblk m c 3 t) (iblk m c 4 t) (theSteps m c) (iblk m c 5 t) (pickTo m c t.val) := by
  funext y
  exact sum_lt_succ _ t

theorem accAt_eq (c : Dev nD) : ∀ (n : ℕ) (hn : n < cfg0.N), accAt m c n hn = (sumTo m c (n + 1), pickTo m c (n + 1))
  | 0, hn => by
    rw [show sumTo m c (0 + 1) = _ from sumTo_succ m c t00, show pickTo m c (0 + 1) = _ from pickTo_succ m c t00]
    rw [show sumTo m c t00.val = _ from sumTo_zero m c, show pickTo m c t00.val = _ from pickTo_zero m c]
    unfold accAt
    rw [sumA_eq, pickA_eq]
  | n + 1, hn => by
    have ih := accAt_eq c n (Nat.lt_of_succ_lt hn)
    have h0 : ¬cond0_0 (grid0.coords ⟨n + 1, hn⟩) := by
      rw [hcond0_0]; have := hn; rw [show cfg0.N = 32 from N_0] at this; show ¬(n + 1) % 32 = 0; omega
    have hs := sumTo_succ m c ⟨n + 1, hn⟩
    have hp := pickTo_succ m c ⟨n + 1, hn⟩
    rw [show sumTo m c (n + 1 + 1) = _ from hs, show pickTo m c (n + 1 + 1) = _ from hp]
    by_cases h1 : cond0_1 (grid0.coords ⟨n + 1, hn⟩)
    · rw [show accAt m c (n + 1) hn = _ from accAt_C m c ⟨n + 1, hn⟩ h0 h1, sumC_eq, pickC_eq, codesAt_eq, scaleAt_eq]
      rw [show prevAt m c ⟨n + 1, hn⟩ = _ from ih]
    · rw [show accAt m c (n + 1) hn = _ from accAt_B m c ⟨n + 1, hn⟩ h0 h1, sumB_eq, pickB_eq, codesAt_eq, scaleAt_eq]
      rw [show prevAt m c ⟨n + 1, hn⟩ = _ from ih]

theorem lossAt_eq (c : Dev nD) (t : Fin cfg0.N) (ht : t.val = 31) : lossAt m c t = lossOf (sumTo m c 32) (pickTo m c 32) := by
  have h0 : ¬cond0_0 (grid0.coords t) := by rw [hcond0_0]; omega
  have h1 : cond0_1 (grid0.coords t) := by rw [hcond0_1]; omega
  rw [lossAt_C m c t h0 h1, lossC_eq, codesAt_eq, scaleAt_eq]
  have ih := accAt_eq m c (t.val - 1) (Nat.lt_of_le_of_lt (Nat.sub_le _ _) t.isLt)
  rw [show prevAt m c t = _ from ih]
  have e : t.val - 1 + 1 = t.val := by omega
  rw [e, show (32 : ℕ) = t.val + 1 from by omega, sumTo_succ, pickTo_succ]

/-! ## The arrays -/

theorem blk_emb6 (t : Fin cfg0.N) (y : S2x128.Idx) : (win0_6.blk t).view.emb y = y := by
  funext a
  refine Fin.ext ?_
  match a with
  | ⟨0, _⟩ => show 0 + 1 * (y 0).val = (y 0).val; omega
  | ⟨1, _⟩ => show 0 + 1 * (y 1).val = (y 1).val; omega

theorem blk_emb7 (t : Fin cfg0.N) (y : S256x6144.Idx) : (win0_7.blk t).view.emb y = y := by
  funext a
  refine Fin.ext ?_
  match a with
  | ⟨0, _⟩ => show 0 + 1 * (y 0).val = (y 0).val; omega
  | ⟨1, _⟩ => show 0 + 1 * (y 1).val = (y 1).val; omega

theorem blk_emb8 (t : Fin cfg0.N) (y : S2x128.Idx) : (win0_8.blk t).view.emb y = y := by
  funext a
  refine Fin.ext ?_
  match a with
  | ⟨0, _⟩ => show 0 + 1 * (y 0).val = (y 0).val; omega
  | ⟨1, _⟩ => show 0 + 1 * (y 1).val = (y 1).val; omega

theorem arr6 (c : Dev nD) : (dats m 0 c).arrAt 6 cfg0.N = lossOf (sumTo m c 32) (pickTo m c 32) := by
  refine (dats m 0 c).arrAt_eq_of_covers 6 _ (by decide +kernel) fun t hf y => ?_
  have ht : t.val = 31 := by
    have h1 := (flush0_6 t).mp hf; have h2 : t.val < 32 := lt_of_lt_of_eq t.isLt N_0; omega
  blk_simp
  rw [after0_6, blk_emb6, lossAt_eq m c t ht]

theorem arr7 (c : Dev nD) : (dats m 0 c).arrAt 7 cfg0.N = theCodes m c := by
  refine (dats m 0 c).arrAt_eq_of_covers 7 _ (by decide +kernel) fun t hf y => ?_
  blk_simp
  rw [after0_7, blk_emb7, codesAt_eq]

theorem arr8 (c : Dev nD) : (dats m 0 c).arrAt 8 cfg0.N = theSteps m c := by
  refine (dats m 0 c).arrAt_eq_of_covers 8 _ (by decide +kernel) fun t hf y => ?_
  blk_simp
  rw [after0_8, blk_emb8, scaleAt_eq]

end Cert.KernelIdeal.Gen

end
-- ==== Proof.KerBlocks.lean ====
/-
  The kernel's input blocks at a grid point as places of its arguments, and its run with the results read.
-/
module

public import proofs.«01_k».proof.Proof.FinalIdeal
public import Idealize.ShloMosaic.Lib.StableHlo.RunRead

@[expose] public section

set_option maxRecDepth 16384

noncomputable section

namespace Cert.KernelIdeal.Gen

open Idealize.ShloMosaic Idealize.ShloMosaic.TcCoe Idealize.SL.Sem
open Idealize.ShloMosaic.Pipeline (Dat)

variable (m : (ℓ : Loc nD τ sig) → Buf (Elt Ideal) ℓ)

theorem V_v0 (c : Dev nD) : V m c main_v0 = shapeCast S256x6144 (m ((c : Thread nD τ).loc main_arg0) : Vec Ideal S2x128x6144 .bf16) shapeCasts_S2x128x6144_S256x6144 := by
  show StableHlo.after hostOps0 (fun b => m (c, b)) (Proc.devRef .tc main_v0) = _
  after_reads_simp; rfl
theorem V_v1 (c : Dev nD) : V m c main_v1 = shapeCast S1x6144 (m ((c : Thread nD τ).loc main_arg1) : Vec Ideal S6144 .f32) shapeCasts_S6144_S1x6144 := by
  show StableHlo.after hostOps0 (fun b => m (c, b)) (Proc.devRef .tc main_v1) = _
  after_reads_simp; rfl
theorem V_v2 (c : Dev nD) : V m c main_v2 = shapeCast S256x128 (m ((c : Thread nD τ).loc main_arg3) : Vec Ideal S32768x1 .f32) shapeCasts_S32768x1_S256x128 := by
  show StableHlo.after hostOps0 (fun b => m (c, b)) (Proc.devRef .tc main_v2) = _
  after_reads_simp; rfl
theorem V_v3 (c : Dev nD) : V m c main_v3 = shapeCast S256x128 (m ((c : Thread nD τ).loc main_arg4) : Vec Ideal S32768 .f32) shapeCasts_S32768_S256x128 := by
  show StableHlo.after hostOps0 (fun b => m (c, b)) (Proc.devRef .tc main_v3) = _
  after_reads_simp; rfl

/-! ## Reshapes at an index -/

theorem cast0_apply (X : Vec Ideal S2x128x6144 .bf16) (h : Fin 2) (l : Fin 128) (k : Fin 6144) :
    shapeCast S256x6144 X shapeCasts_S2x128x6144_S256x6144 (ix2 ⟨128 * h.val + l.val, by omega⟩ k) = X (ix3 h l k) := by
  pointwise []
theorem cast1_apply (X : Vec Ideal S6144 .f32) (k : Fin 6144) :
    shapeCast S1x6144 X shapeCasts_S6144_S1x6144 (ix2 0 k) = X (ix1 k) := by
  pointwise []
theorem cast2_apply (X : Vec Ideal S32768x1 .f32) (p : Fin 256) (r : Fin 128) :
    shapeCast S256x128 X shapeCasts_S32768x1_S256x128 (ix2 p r) = X (ix2 ⟨128 * p.val + r.val, by omega⟩ 0) := by
  pointwise []
  simp only [Nat.mul_comm]
theorem cast3_apply (X : Vec Ideal S32768 .f32) (p : Fin 256) (r : Fin 128) :
    shapeCast S256x128 X shapeCasts_S32768_S256x128 (ix2 p r) = X (ix1 ⟨128 * p.val + r.val, by omega⟩) := by
  pointwise []
  simp only [Nat.mul_comm]

/-! ## Blocks at an index -/

theorem emb0 (t : Fin cfg0.N) (y : S256x6144.Idx) : (win0_0.blk t).view.emb y = y := by
  funext a
  refine Fin.ext ?_
  match a with
  | ⟨0, _⟩ => show 0 + 1 * (y 0).val = (y 0).val; omega
  | ⟨1, _⟩ => show 0 + 1 * (y 1).val = (y 1).val; omega
theorem emb1 (t : Fin cfg0.N) (y : S1x6144.Idx) : (win0_1.blk t).view.emb y = y := by
  funext a
  refine Fin.ext ?_
  match a with
  | ⟨0, _⟩ => show 0 + 1 * (y 0).val = (y 0).val; omega
  | ⟨1, _⟩ => show 0 + 1 * (y 1).val = (y 1).val; omega
theorem emb5 (t : Fin cfg0.N) (y : S2x128.Idx) : (win0_5.blk t).view.emb y = y := by
  funext a
  refine Fin.ext ?_
  match a with
  | ⟨0, _⟩ => show 0 + 1 * (y 0).val = (y 0).val; omega
  | ⟨1, _⟩ => show 0 + 1 * (y 1).val = (y 1).val; omega
theorem coord_val (t : Fin cfg0.N) : (grid0.coords t 0).val = t.val := by
  revert t; decide
theorem index2_0 (t : Fin cfg0.N) : win0_2.index t 0 = t.val := by revert t; decide
theorem index2_1 (t : Fin cfg0.N) : win0_2.index t 1 = 0 := rfl
theorem index3_0 (t : Fin cfg0.N) : win0_3.index t 0 = t.val := by revert t; decide
theorem index3_1 (t : Fin cfg0.N) : win0_3.index t 1 = 0 := rfl
theorem index4_0 (t : Fin cfg0.N) : win0_4.index t 0 = t.val := by revert t; decide
theorem index4_1 (t : Fin cfg0.N) : win0_4.index t 1 = 0 := rfl

theorem emb2 (t : Fin cfg0.N) (r : Fin 1024) (k : Fin 6144) (hv : 1024 * t.val + r.val < 32768) :
    (win0_2.blk t).view.emb (ix2 r k : S1024x6144.Idx) = (ix2 ⟨1024 * t.val + r.val, hv⟩ k : S32768x6144.Idx) := by
  funext a
  refine Fin.ext ?_
  match a with
  | ⟨0, _⟩ =>
    refine (Pipeline.Window.rect_emb_val win0_2 t (ix2 r k) 0 rfl).trans ?_
    rw [index2_0]
    show t.val * 1024 + r.val = 1024 * t.val + r.val
    omega
  | ⟨1, _⟩ => exact Pipeline.Window.rect_emb_val_of_index_zero win0_2 t 1 (index2_1 t) (ix2 r k)
theorem emb3 (t : Fin cfg0.N) (j : Fin 8) (r : Fin 128) (hv : 8 * t.val + j.val < 256) :
    (win0_3.blk t).view.emb (ix2 j r : S8x128.Idx) = (ix2 ⟨8 * t.val + j.val, hv⟩ r : S256x128.Idx) := by
  funext a
  refine Fin.ext ?_
  match a with
  | ⟨0, _⟩ =>
    refine (Pipeline.Window.rect_emb_val win0_3 t (ix2 j r) 0 rfl).trans ?_
    rw [index3_0]
    show t.val * 8 + j.val = 8 * t.val + j.val
    omega
  | ⟨1, _⟩ => exact Pipeline.Window.rect_emb_val_of_index_zero win0_3 t 1 (index3_1 t) (ix2 j r)
theorem emb4 (t : Fin cfg0.N) (j : Fin 8) (r : Fin 128) (hv : 8 * t.val + j.val < 256) :
    (win0_4.blk t).view.emb (ix2 j r : S8x128.Idx) = (ix2 ⟨8 * t.val + j.val, hv⟩ r : S256x128.Idx) := by
  funext a
  refine Fin.ext ?_
  match a with
  | ⟨0, _⟩ =>
    refine (Pipeline.Window.rect_emb_val win0_4 t (ix2 j r) 0 rfl).trans ?_
    rw [index4_0]
    show t.val * 8 + j.val = 8 * t.val + j.val
    omega
  | ⟨1, _⟩ => exact Pipeline.Window.rect_emb_val_of_index_zero win0_4 t 1 (index4_1 t) (ix2 j r)

theorem iblk0_apply (c : Dev nD) (t : Fin cfg0.N) (h : Fin 2) (l : Fin 128) (k : Fin 6144) :
    (iblk m c 0 t : Vec Ideal S256x6144 .bf16) (ix2 ⟨128 * h.val + l.val, by omega⟩ k)
      = (m ((c : Thread nD τ).loc main_arg0) : Vec Ideal S2x128x6144 .bf16) (ix3 h l k) := by
  refine Eq.trans ?_ (cast0_apply _ h l k)
  rw [← V_v0 m c]
  exact congrArg (V m c main_v0) (emb0 t _)
theorem iblk1_apply (c : Dev nD) (t : Fin cfg0.N) (k : Fin 6144) :
    (iblk m c 1 t : Vec Ideal S1x6144 .f32) (ix2 0 k) = (m ((c : Thread nD τ).loc main_arg1) : Vec Ideal S6144 .f32) (ix1 k) := by
  refine Eq.trans ?_ (cast1_apply _ k)
  rw [← V_v1 m c]
  exact congrArg (V m c main_v1) (emb1 t _)
theorem iblk2_apply (c : Dev nD) (t : Fin cfg0.N) (r : Fin 1024) (k : Fin 6144) (hv : 1024 * t.val + r.val < 32768) :
    (iblk m c 2 t : Vec Ideal S1024x6144 .fp8e4m3) (ix2 r k)
      = (m ((c : Thread nD τ).loc main_arg2) : Vec Ideal S32768x6144 .fp8e4m3) (ix2 ⟨1024 * t.val + r.val, hv⟩ k) := by
  rw [← V_main_arg2 m c]
  exact congrArg (V m c main_arg2) (emb2 t r k hv)
theorem iblk3_apply (c : Dev nD) (t : Fin cfg0.N) (j : Fin 8) (r : Fin 128) (hv : 8 * t.val + j.val < 256) :
    (iblk m c 3 t : Vec Ideal S8x128 .f32) (ix2 j r)
      = (m ((c : Thread nD τ).loc main_arg3) : Vec Ideal S32768x1 .f32) (ix2 ⟨128 * (8 * t.val + j.val) + r.val, by omega⟩ 0) := by
  refine Eq.trans ?_ (cast2_apply _ ⟨8 * t.val + j.val, hv⟩ r)
  rw [← V_v2 m c]
  exact congrArg (V m c main_v2) (emb3 t j r hv)
theorem iblk4_apply (c : Dev nD) (t : Fin cfg0.N) (j : Fin 8) (r : Fin 128) (hv : 8 * t.val + j.val < 256) :
    (iblk m c 4 t : Vec Ideal S8x128 .f32) (ix2 j r)
      = (m ((c : Thread nD τ).loc main_arg4) : Vec Ideal S32768 .f32) (ix1 ⟨128 * (8 * t.val + j.val) + r.val, by omega⟩) := by
  refine Eq.trans ?_ (cast3_apply _ ⟨8 * t.val + j.val, hv⟩ r)
  rw [← V_v3 m c]
  exact congrArg (V m c main_v3) (emb4 t j r hv)
theorem iblk5_apply (c : Dev nD) (t : Fin cfg0.N) (y : S2x128.Idx) :
    (iblk m c 5 t : IVec S2x128 32) y = (m ((c : Thread nD τ).loc main_arg5) : IVec S2x128 32) y := by
  rw [← V_main_arg5 m c]
  exact congrArg (V m c main_arg5) (emb5 t y)

variable (ρ : Dev nD → PrngReg)

/-- The kernel's run, its results read and the arguments unchanged. -/
theorem run_values : θ_run defs (onTc (τ := τ) (main (F := Ideal))) ⟨m, fun _ => 0, ρ⟩ (fun r => ∀ c : Dev nD,
      r.2.mem ((c.tc : Thread nD τ).loc main_v4_0) = lossOf (sumTo m c 32) (pickTo m c 32)
      ∧ r.2.mem ((c.tc : Thread nD τ).loc main_v4_1) = theCodes m c
      ∧ r.2.mem ((c.tc : Thread nD τ).loc main_v4_2) = theSteps m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).1 6).trans (arr6 m c), ((h c).1 7).trans (arr7 m c), ((h c).1 8).trans (arr8 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c)))⟩) (run_main m ρ)

end Cert.KernelIdeal.Gen

end
-- ==== Proof.RefHost.lean ====
/-
  The reference's host operations read as functions of arrays: the normalised rows, the step of the quantiser
  before its exponent, the exponent, the powers of two, and, after the region, the logits, the loss and the
  two results that are not written by the region.
-/
module

public import proofs.«01_k».proof.Proof.Gen.ReferenceIdeal.Frame
public import Idealize.ShloMosaic.Lib.StableHlo.RunRead

@[expose] public section

set_option maxRecDepth 4000

noncomputable section

open Idealize.ShloMosaic Idealize.ShloMosaic.TcCoe Idealize.SL.Sem

namespace Cert.ReferenceIdeal.Gen

open Cert.ReferenceIdeal

variable {F : FTy → Type} [FloatOps F]

/-- The normalised rows `x · rsqrt(mean x² + ε) · norm_w`. -/
def hostH (x : FVec F S2x128x6144 .bf16) (nw : FVec F S6144 .f32) : FVec F S2x128x6144 .f32 :=
  mulf (mulf (extf .f32 x bitsLt_bf16_f32)
    (broadcastInDim S2x128x6144 ![0, 1, 2] bcast_S2x128x1_S2x128x6144_0_1_2
      (Host.rsqrt (addf (Host.divf
        (broadcastInDim S2x128x1 ![0, 1] bcast_S2x128_S2x128x1_0_1
          (Host.reduceAdd (mulf (extf .f32 x bitsLt_bf16_f32) (extf .f32 x bitsLt_bf16_f32))
            (constant S_ .f32 0x00000000#32) reducesTo_S2x128x6144_S2x128_d2 h_S_))
        (broadcastInDim S2x128x1 ![] bcast_S_S2x128x1 (constant S_ .f32 0x45C00000#32)))
        (broadcastInDim S2x128x1 ![] bcast_S_S2x128x1 (constant S_ .f32 0x358637BD#32))))))
    (broadcastInDim S2x128x6144 ![0, 1, 2] bcast_S1x1x6144_S2x128x6144_0_1_2
      (broadcastInDim S1x1x6144 ![2] bcast_S6144_S1x1x6144_2 nw))

/-- A row's greatest magnitude times 1/448. -/
def hostT (h : FVec F S2x128x6144 .f32) : FVec F S2x128x1 .f32 :=
  mulf (broadcastInDim S2x128x1 ![0, 1] bcast_S2x128_S2x128x1_0_1
      (Host.reduce FloatOps.maximumf (Host.absf h) (constant S_ .f32 0xFF800000#32) reducesTo_S2x128x6144_S2x128_d2 h_S_))
    (broadcastInDim S2x128x1 ![] bcast_S_S2x128x1 (constant S_ .f32 0x3B124925#32))

/-- Numbers below the smallest normal one count as zero. -/
def hostFlush (t : FVec F S2x128x1 .f32) : FVec F S2x128x1 .f32 :=
  select (cmpf .olt t (broadcastInDim S2x128x1 ![] bcast_S_S2x128x1 (constant S_ .f32 0x00800000#32)))
    (broadcastInDim S2x128x1 ![] bcast_S_S2x128x1 (constant S_ .f32 0x00000000#32)) t

/-- The exponent of the step: zero at zero, else one more than the floor of the logarithm to base two. -/
def hostE (t : FVec F S2x128x1 .f32) : FVec F S2x128x1 .f32 :=
  select (cmpf .oeq t (broadcastInDim S2x128x1 ![] bcast_S_S2x128x1 (constant S_ .f32 0x00000000#32)))
    (broadcastInDim S2x128x1 ![] bcast_S_S2x128x1 (constant S_ .f32 0x00000000#32))
    (addf (Host.floor (Host.divf (Host.log t)
        (Host.log (broadcastInDim S2x128x1 ![] bcast_S_S2x128x1 (constant S_ .f32 0x40000000#32)))))
      (broadcastInDim S2x128x1 ![] bcast_S_S2x128x1 (constant S_ .f32 0x3F800000#32)))

/-- The step of every row, two to the exponent. -/
def hostScale (e : FVec F S2x128x1 .f32) : FVec F S256x1 .f32 :=
  shapeCast S256x1 (Host.powf (broadcastInDim S2x128x1 ![] bcast_S_S2x128x1 (constant S_ .f32 0x40000000#32)) e)
    shapeCasts_S2x128x1_S256x1

/-- The same with the exponent negated. -/
def hostInv (e : FVec F S2x128x1 .f32) : FVec F S256x1 .f32 :=
  shapeCast S256x1 (Host.powf (broadcastInDim S2x128x1 ![] bcast_S_S2x128x1 (constant S_ .f32 0x40000000#32)) (Host.negf e))
    shapeCasts_S2x128x1_S256x1

/-! ## The operations before the region, list by list -/

theorem ops0_v13 (X : Valuation τ sig (Elt F)) :
    StableHlo.after hostOps0 X (Proc.devRef .tc main_v13)
      = hostH (X (Proc.devRef .tc main_arg0)) (X (Proc.devRef .tc main_arg1)) := by
  after_reads_simp; rfl

theorem ops0_v18 (X : Valuation τ sig (Elt F)) :
    StableHlo.after hostOps0 X (Proc.devRef .tc main_v18)
      = hostT (hostH (X (Proc.devRef .tc main_arg0)) (X (Proc.devRef .tc main_arg1))) := by
  after_reads_simp; rfl

theorem ops0_v20 (X : Valuation τ sig (Elt F)) :
    StableHlo.after hostOps0 X (Proc.devRef .tc main_v20)
      = cmpf .olt (hostT (hostH (X (Proc.devRef .tc main_arg0)) (X (Proc.devRef .tc main_arg1))))
          (broadcastInDim S2x128x1 ![] bcast_S_S2x128x1 (constant S_ .f32 0x00800000#32)) := by
  after_reads_simp; rfl

theorem ops0_cst5 (X : Valuation τ sig (Elt F)) :
    StableHlo.after hostOps0 X (Proc.devRef .tc main_cst_5) = (constant S_ .f32 0x00000000#32) := by
  after_reads_simp

theorem ops01_v21 (X : Valuation τ sig (Elt F)) :
    StableHlo.after hostOps0_1 X (Proc.devRef .tc main_v21)
      = select (X (Proc.devRef .tc main_v20)) (broadcastInDim S2x128x1 ![] bcast_S_S2x128x1 (X (Proc.devRef .tc main_cst_5)))
          (X (Proc.devRef .tc main_v18)) := by
  after_reads_simp; rfl

theorem ops02_v23 (X : Valuation τ sig (Elt F)) :
    StableHlo.after hostOps0_2 X (Proc.devRef .tc main_v23)
      = cmpf .oeq (X (Proc.devRef .tc main_v21)) (broadcastInDim S2x128x1 ![] bcast_S_S2x128x1 (constant S_ .f32 0x00000000#32)) := by
  after_reads_simp

theorem ops02_cst9 (X : Valuation τ sig (Elt F)) :
    StableHlo.after hostOps0_2 X (Proc.devRef .tc main_cst_9) = (constant S_ .f32 0x00000000#32) := by
  after_reads_simp

theorem ops02_v30 (X : Valuation τ sig (Elt F)) :
    StableHlo.after hostOps0_2 X (Proc.devRef .tc main_v30)
      = addf (Host.floor (Host.divf (Host.log (X (Proc.devRef .tc main_v21)))
        (Host.log (broadcastInDim S2x128x1 ![] bcast_S_S2x128x1 (constant S_ .f32 0x40000000#32)))))
      (broadcastInDim S2x128x1 ![] bcast_S_S2x128x1 (constant S_ .f32 0x3F800000#32)) := by
  after_reads_simp

theorem ops03_v31 (X : Valuation τ sig (Elt F)) :
    StableHlo.after hostOps0_3 X (Proc.devRef .tc main_v31)
      = select (X (Proc.devRef .tc main_v23)) (broadcastInDim S2x128x1 ![] bcast_S_S2x128x1 (X (Proc.devRef .tc main_cst_9)))
          (X (Proc.devRef .tc main_v30)) := by
  after_reads_simp; rfl

theorem ops04_v34 (X : Valuation τ sig (Elt F)) :
    StableHlo.after hostOps0_4 X (Proc.devRef .tc main_v34) = hostScale (X (Proc.devRef .tc main_v31)) := by
  after_reads_simp; rfl

theorem ops04_v38 (X : Valuation τ sig (Elt F)) :
    StableHlo.after hostOps0_4 X (Proc.devRef .tc main_v38) = hostInv (X (Proc.devRef .tc main_v31)) := by
  after_reads_simp; rfl

theorem ops04_v39 (X : Valuation τ sig (Elt F)) :
    StableHlo.after hostOps0_4 X (Proc.devRef .tc main_v39)
      = shapeCast S256x6144 (X (Proc.devRef .tc main_v13)) shapeCasts_S2x128x6144_S256x6144 := by
  after_reads_simp; rfl

/-! The buffers a later list leaves alone. -/

theorem ops01_v13 (X : Valuation τ sig (Elt F)) :
    StableHlo.after hostOps0_1 X (Proc.devRef .tc main_v13) = X (Proc.devRef .tc main_v13) := by after_reads_simp
theorem ops02_v13 (X : Valuation τ sig (Elt F)) :
    StableHlo.after hostOps0_2 X (Proc.devRef .tc main_v13) = X (Proc.devRef .tc main_v13) := by after_reads_simp
theorem ops03_v13 (X : Valuation τ sig (Elt F)) :
    StableHlo.after hostOps0_3 X (Proc.devRef .tc main_v13) = X (Proc.devRef .tc main_v13) := by after_reads_simp

/-! ## What the region reads -/

variable (m : (ℓ : Loc nD τ sig) → Buf (Elt F) ℓ)

/-- The normalised rows of the arguments. -/
def refH (c : Dev nD) : FVec F S2x128x6144 .f32 :=
  hostH (m ((c : Thread nD τ).loc main_arg0)) (m ((c : Thread nD τ).loc main_arg1))

/-- The exponents of the arguments' rows. -/
def refE (c : Dev nD) : FVec F S2x128x1 .f32 := hostE (hostFlush (hostT (refH m c)))

theorem V0_split (c : Dev nD) (b) : V0 m c b = StableHlo.after hostOps0_4 (StableHlo.after hostOps0_3
    (StableHlo.after hostOps0_2 (StableHlo.after hostOps0_1 (StableHlo.after hostOps0 (fun b => m (c, b)))))) b := by
  unfold V0
  simp only [List.flatten_cons, List.flatten_nil, List.append_nil, StableHlo.after_append]

theorem V_v39 (c : Dev nD) : V m c main_v39 = shapeCast S256x6144 (refH m c) shapeCasts_S2x128x6144_S256x6144 := by
  show V0 m c (Proc.devRef .tc main_v39) = _
  rw [V0_split, ops04_v39, ops03_v13, ops02_v13, ops01_v13, ops0_v13]; rfl

theorem V_v31 (c : Dev nD) : StableHlo.after hostOps0_3
    (StableHlo.after hostOps0_2 (StableHlo.after hostOps0_1 (StableHlo.after hostOps0 (fun b => m (c, b))))) (Proc.devRef .tc main_v31)
      = refE m c := by
  rw [ops03_v31, ops02_v23, ops02_cst9, ops02_v30, ops01_v21, ops0_v20, ops0_cst5, ops0_v18]; rfl

theorem V_v38 (c : Dev nD) : V m c main_v38 = hostInv (refE m c) := by
  show V0 m c (Proc.devRef .tc main_v38) = _
  rw [V0_split, ops04_v38, V_v31]

theorem V_v34 (c : Dev nD) : V m c main_v34 = hostScale (refE m c) := by
  show V0 m c (Proc.devRef .tc main_v34) = _
  rw [V0_split, ops04_v34, V_v31]

end Cert.ReferenceIdeal.Gen

end
-- ==== Proof.RefTail.lean ====
/-
  The reference's host operations after its region read as functions of arrays: the capped logits, the logarithm
  of the sum of their exponentials, the label's logit, the loss.
-/
module

public import proofs.«01_k».proof.Proof.RefHost

@[expose] public section

set_option maxRecDepth 4000

noncomputable section

open Idealize.ShloMosaic Idealize.ShloMosaic.TcCoe Idealize.SL.Sem

namespace Cert.ReferenceIdeal.Gen

open Cert.ReferenceIdeal

variable {F : FTy → Type} [FloatOps F]

/-- The capped logits `30 · tanh((acc · (scale · w_scale) + b) / 30)`. -/
def hostLogit (acc : FVec F S256x32768 .f32) (scale : FVec F S256x1 .f32) (ws : FVec F S32768x1 .f32) (b : FVec F S32768 .f32) :
    FVec F S256x32768 .f32 :=
  mulf (broadcastInDim S256x32768 ![] bcast_S_S256x32768 (constant S_ .f32 0x41F00000#32))
    (Host.tanh (Host.divf
      (addf (mulf acc (mulf (broadcastInDim S256x32768 ![0, 1] bcast_S256x1_S256x32768_0_1 scale)
          (broadcastInDim S256x32768 ![0, 1] bcast_S1x32768_S256x32768_0_1
            (broadcastInDim S1x32768 ![1] bcast_S32768_S1x32768_1 (shapeCast S32768 ws shapeCasts_S32768x1_S32768)))))
        (broadcastInDim S256x32768 ![0, 1] bcast_S1x32768_S256x32768_0_1
          (broadcastInDim S1x32768 ![1] bcast_S32768_S1x32768_1 b)))
      (broadcastInDim S256x32768 ![] bcast_S_S256x32768 (constant S_ .f32 0x41F00000#32))))

/-- Each row's greatest logit, as a column. -/
def hostMax (l : FVec F S256x32768 .f32) : FVec F S256x1 .f32 :=
  broadcastInDim S256x1 ![0] bcast_S256_S256x1_0
    (Host.reduce FloatOps.maximumf l (constant S_ .f32 0xFF800000#32) reducesTo_S256x32768_S256_d1 h_S_)

/-- The logarithm of each row's sum of exponentials, its greatest logit taken out first. -/
def hostLse (l : FVec F S256x32768 .f32) : FVec F S256 .f32 :=
  addf (shapeCast S256 (hostMax l) shapeCasts_S256x1_S256)
    (Host.log (Host.reduceAdd (Host.exp (subf l (broadcastInDim S256x32768 ![0, 1] bcast_S256x1_S256x32768_0_1 (hostMax l))))
      (constant S_ .f32 0x00000000#32) reducesTo_S256x32768_S256_d1 h_S_))

/-- The labels as a column. -/
def hostLab (lab : IVec S2x128 32) : IVec S256x1 32 :=
  broadcastInDim S256x1 ![0] bcast_S256_S256x1_0 (shapeCast S256 lab shapeCasts_S2x128_S256)

/-- The labels, a negative one counted from the end. -/
def hostWrap (lab : IVec S256x1 32) : IVec S256x1x1 32 :=
  shapeCast S256x1x1
    (select (cmpi .slt lab (broadcastInDim S256x1 ![] bcast_S_S256x1 (constantI S_ 32 0#32)))
      (addi lab (broadcastInDim S256x1 ![] bcast_S_S256x1 (constantI S_ 32 32768#32))) lab)
    shapeCasts_S256x1_S256x1x1

/-- Whether each label is in range. -/
def hostInRange (i : IVec S256x1x1 32) : IVec S256x1 1 :=
  Host.reduce IntOp.andi
    (andi (cmpi .sge i (broadcastInDim S256x1x1 ![] bcast_S_S256x1x1 (constantI S_ 32 0#32)))
      (cmpi .sle i (broadcastInDim S256x1x1 ![0, 1, 2] bcast_S1x1x1_S256x1x1_0_1_2
        (broadcastInDim S1x1x1 ![2] bcast_S1_S1x1x1_2 (constantI S1 32 32767#32)))))
    (constantI S_ 1 1#1) reducesTo_S256x1x1_S256x1_d2 h_S_

/-- Each row's logit at its label. -/
def hostPick (l : FVec F S256x32768 .f32) (lab : IVec S256x1 32) : FVec F S256x1 .f32 :=
  select (hostInRange (hostWrap lab))
    (Host.gather gather_S256x32768_S256x1x1_S256x1_n_1_0_0_1_2_11 l (hostWrap lab))
    (broadcastInDim S256x1 ![] bcast_S_S256x1 (constant S_ .f32 0x7FC00000#32))

/-- The loss of every row. -/
def hostLoss (lse : FVec F S256 .f32) (pick : FVec F S256x1 .f32) : FVec F S2x128 .f32 :=
  shapeCast S2x128 (subf (subf lse (shapeCast S256 pick shapeCasts_S256x1_S256))
    (broadcastInDim S256 ![] bcast_S_S256 (constant S_ .f32 0x41265AF6#32))) shapeCasts_S256_S2x128

theorem ops1_v55 (X : Valuation τ sig (Elt F)) :
    StableHlo.after hostOps1 X (Proc.devRef .tc main_v55)
      = hostLogit (X (Proc.devRef .tc main_v40_1)) (X (Proc.devRef .tc main_v34)) (X (Proc.devRef .tc main_arg3))
          (X (Proc.devRef .tc main_arg4)) := by
  after_reads_simp; rfl

theorem ops1_v64 (X : Valuation τ sig (Elt F)) :
    StableHlo.after hostOps1 X (Proc.devRef .tc main_v64)
      = hostLse (hostLogit (X (Proc.devRef .tc main_v40_1)) (X (Proc.devRef .tc main_v34)) (X (Proc.devRef .tc main_arg3))
          (X (Proc.devRef .tc main_arg4))) := by
  after_reads_simp; rfl

theorem ops1_v65 (X : Valuation τ sig (Elt F)) :
    StableHlo.after hostOps1 X (Proc.devRef .tc main_v65) = hostLab (X (Proc.devRef .tc main_arg5)) := by
  after_reads_simp; rfl

theorem ops1_v34 (X : Valuation τ sig (Elt F)) :
    StableHlo.after hostOps1 X (Proc.devRef .tc main_v34) = X (Proc.devRef .tc main_v34) := by after_reads_simp

theorem ops11_v66 (X : Valuation τ sig (Elt F)) :
    StableHlo.after hostOps1_1 X (Proc.devRef .tc main_v66)
      = hostPick (X (Proc.devRef .tc main_v55)) (X (Proc.devRef .tc main_v65)) := by
  after_reads_simp; rfl

theorem ops11_v64 (X : Valuation τ sig (Elt F)) :
    StableHlo.after hostOps1_1 X (Proc.devRef .tc main_v64) = X (Proc.devRef .tc main_v64) := by after_reads_simp
theorem ops11_v34 (X : Valuation τ sig (Elt F)) :
    StableHlo.after hostOps1_1 X (Proc.devRef .tc main_v34) = X (Proc.devRef .tc main_v34) := by after_reads_simp

theorem ops12_v71 (X : Valuation τ sig (Elt F)) :
    StableHlo.after hostOps1_2 X (Proc.devRef .tc main_v71)
      = hostLoss (X (Proc.devRef .tc main_v64)) (X (Proc.devRef .tc main_v66)) := by
  after_reads_simp; rfl

theorem ops12_v72 (X : Valuation τ sig (Elt F)) :
    StableHlo.after hostOps1_2 X (Proc.devRef .tc main_v72)
      = shapeCast S2x128 (X (Proc.devRef .tc main_v34)) shapeCasts_S256x1_S2x128 := by
  after_reads_simp; rfl

end Cert.ReferenceIdeal.Gen

end
-- ==== Proof.RefValue.lean ====
/-
  The reference's host arrays read at an index.
-/
module

public import proofs.«01_k».proof.Proof.RefTail
public import proofs.«01_k».proof.Proof.RefHost
public import Idealize.ShloMosaic.Lib.Pointwise

@[expose] public section

set_option maxRecDepth 16384

noncomputable section

namespace Cert.ReferenceIdeal.Gen

open Idealize.ShloMosaic Idealize.ShloMosaic.TcCoe

theorem hostH_apply (x : FVec Ideal S2x128x6144 .bf16) (nw : FVec Ideal S6144 .f32) (h : Fin 2) (l : Fin 128) (k : Fin 6144) :
    hostH x nw (ix3 h l k) = x (ix3 h l k) *
        Ideal.rsqrt (Ideal.div (∑ q : Fin 6144, x (ix3 h l q) * x (ix3 h l q)) (Ideal.ofBits .f32 0x45C00000#32)
          + Ideal.ofBits .f32 0x358637BD#32) * nw (ix1 k) := by
  pointwise [hostH]

theorem max_apply (g : FVec Ideal S2x128x6144 .f32) (h : Fin 2) (l : Fin 128) :
    Host.reduce FloatOps.maximumf g (constant S_ .f32 0xFF800000#32) reducesTo_S2x128x6144_S2x128_d2 h_S_ (ix2 h l)
      = Finset.fold max (Ideal.ofBits .f32 0xFF800000#32) (fun q : Fin 6144 => g (ix3 h l q)) Finset.univ := by
  pointwise []

theorem step_apply (A : FVec Ideal S2x128 .f32) (h : Fin 2) (l : Fin 128) :
    mulf (broadcastInDim S2x128x1 ![0, 1] bcast_S2x128_S2x128x1_0_1 A)
      (broadcastInDim S2x128x1 ![] bcast_S_S2x128x1 (constant (F := Ideal) S_ .f32 0x3B124925#32)) (ix3 h l 0)
      = A (ix2 h l) * Ideal.ofBits .f32 0x3B124925#32 := by
  pointwise []

theorem hostT_apply (g : FVec Ideal S2x128x6144 .f32) (h : Fin 2) (l : Fin 128) :
    hostT g (ix3 h l 0)
      = Finset.fold max (Ideal.ofBits .f32 0xFF800000#32) (fun q : Fin 6144 => Host.absf g (ix3 h l q)) Finset.univ * Ideal.ofBits .f32 0x3B124925#32 := by
  unfold hostT
  rw [step_apply, max_apply]

theorem hostFlush_apply (t : FVec Ideal S2x128x1 .f32) (h : Fin 2) (l : Fin 128) :
    hostFlush t (ix3 h l 0) = if t (ix3 h l 0) < Ideal.ofBits .f32 0x00800000#32 then 0 else t (ix3 h l 0) := by
  pointwise [hostFlush]

theorem hostE_apply (t : FVec Ideal S2x128x1 .f32) (h : Fin 2) (l : Fin 128) :
    hostE t (ix3 h l 0) = if t (ix3 h l 0) = 0 then 0
      else Ideal.liftRound Int.floor (Ideal.div (Ideal.log (t (ix3 h l 0))) (Ideal.log (Ideal.ofBits .f32 0x40000000#32))) + 1 := by
  pointwise [hostE]

theorem hostScale_apply (e : FVec Ideal S2x128x1 .f32) (h : Fin 2) (l : Fin 128) :
    hostScale e (ix2 ⟨128 * h.val + l.val, by omega⟩ 0) = Ideal.pow (Ideal.ofBits .f32 0x40000000#32) (e (ix3 h l 0)) := by
  pointwise [hostScale]

theorem hostInv_apply (e : FVec Ideal S2x128x1 .f32) (h : Fin 2) (l : Fin 128) :
    hostInv e (ix2 ⟨128 * h.val + l.val, by omega⟩ 0) = Ideal.pow (Ideal.ofBits .f32 0x40000000#32) (-e (ix3 h l 0)) := by
  pointwise [hostInv]

theorem hostLogit_apply (acc : FVec Ideal S256x32768 .f32) (scale : FVec Ideal S256x1 .f32) (ws : FVec Ideal S32768x1 .f32) (b : FVec Ideal S32768 .f32)
    (a : Fin 256) (v : Fin 32768) :
    hostLogit acc scale ws b (ix2 a v) = Ideal.ofBits .f32 0x41F00000#32 *
      Ideal.tanh (Ideal.div (acc (ix2 a v) * (scale (ix2 a 0) * ws (ix2 v 0)) + b (ix1 v)) (Ideal.ofBits .f32 0x41F00000#32)) := by
  pointwise [hostLogit]

theorem hostMax_apply (l : FVec Ideal S256x32768 .f32) (a : Fin 256) :
    hostMax l (ix2 a 0) = Finset.fold max (Ideal.ofBits .f32 0xFF800000#32) (fun x : Fin 32768 => l (ix2 a x)) Finset.univ := by
  pointwise [hostMax]

theorem sum_apply (g : FVec Ideal S256x32768 .f32) (a : Fin 256) :
    Host.reduceAdd g (constant S_ .f32 0x00000000#32) reducesTo_S256x32768_S256_d1 h_S_ (ix1 a) = ∑ v : Fin 32768, g (ix2 a v) := by
  pointwise []

theorem exp_apply (l : FVec Ideal S256x32768 .f32) (M : FVec Ideal S256x1 .f32) (a : Fin 256) (v : Fin 32768) :
    Host.exp (subf l (broadcastInDim S256x32768 ![0, 1] bcast_S256x1_S256x32768_0_1 M)) (ix2 a v) = Ideal.exp (l (ix2 a v) - M (ix2 a 0)) := by
  pointwise []

theorem lse_apply (M : FVec Ideal S256x1 .f32) (s : FVec Ideal S256 .f32) (a : Fin 256) :
    addf (shapeCast S256 M shapeCasts_S256x1_S256) (Host.log s) (ix1 a) = M (ix2 a 0) + Ideal.log (s (ix1 a)) := by
  pointwise []

theorem hostLse_apply (l : FVec Ideal S256x32768 .f32) (a : Fin 256) :
    hostLse l (ix1 a) = hostMax l (ix2 a 0) + Ideal.log (∑ v : Fin 32768, Ideal.exp (l (ix2 a v) - hostMax l (ix2 a 0))) := by
  refine (lse_apply (hostMax l) _ a).trans ?_
  refine congrArg (fun z => hostMax l (ix2 a 0) + Ideal.log z) ((sum_apply _ a).trans ?_)
  exact Finset.sum_congr rfl fun v _ => exp_apply l _ a v

theorem hostLab_apply (lab : IVec S2x128 32) (h : Fin 2) (l : Fin 128) : hostLab lab (ix2 ⟨128 * h.val + l.val, by omega⟩ 0) = lab (ix2 h l) := by
  pointwise [hostLab]

theorem hostWrap_apply (lab : IVec S256x1 32) (a : Fin 256) : hostWrap lab (ix3 a 0 0)
    = Scalar.select (IntOp.cmpi .slt (lab (ix2 a 0)) 0#32) (IntOp.addi (lab (ix2 a 0)) 32768#32) (lab (ix2 a 0)) := by
  pointwise [hostWrap]

theorem hostInRange_apply (i : IVec S256x1x1 32) (a : Fin 256) : hostInRange i (ix2 a 0)
    = Finset.fold IntOp.andi (1#1) (fun x : Fin 1 => IntOp.andi (IntOp.cmpi .sge (i (ix3 a 0 x)) 0#32) (IntOp.cmpi .sle (i (ix3 a 0 x)) 32767#32)) Finset.univ := by
  pointwise [hostInRange]

theorem hostPick_apply (l : FVec Ideal S256x32768 .f32) (lab : IVec S256x1 32) (a : Fin 256) : hostPick l lab (ix2 a 0)
    = Scalar.select (hostInRange (hostWrap lab) (ix2 a 0))
        (Host.gather gather_S256x32768_S256x1x1_S256x1_n_1_0_0_1_2_11 l (hostWrap lab) (ix2 a 0))
        (Ideal.ofBits .f32 0x7FC00000#32) := by
  pointwise [hostPick]

theorem hostLoss_apply (s : FVec Ideal S256 .f32) (p : FVec Ideal S256x1 .f32) (h : Fin 2) (n : Fin 128) :
    hostLoss s p (ix2 h n) = s (ix1 ⟨128 * h.val + n.val, by omega⟩) - p (ix2 ⟨128 * h.val + n.val, by omega⟩ 0) - Ideal.ofBits .f32 0x41265AF6#32 := by
  pointwise [hostLoss]
  simp only [Nat.mul_comm]

end Cert.ReferenceIdeal.Gen

end
-- ==== Proof.RefArr.lean ====
/-
  The reference's region: the arrays it leaves, and the gather of the label's logit.
-/
module

public import proofs.«01_k».proof.Proof.RefValue
public import Idealize.ShloMosaic.Lib.Pipeline.ValueKit.Geometry
public import Idealize.ShloMosaic.Lib.ValueIdx

@[expose] public section

set_option maxRecDepth 16384
set_option maxHeartbeats 60000

noncomputable section

namespace Cert.ReferenceIdeal.Gen

open Idealize.ShloMosaic Idealize.ShloMosaic.TcCoe Idealize.SL.Sem
open Idealize.ShloMosaic.Pipeline (Dat)

theorem pay1_apply (x0 : Vec Ideal S256x6144 .f32) (x1 : Vec Ideal S256x1 .f32) (a : Fin 256) (k : Fin 6144) :
    k0_pay1 x0 x1 (ix2 a k) = min (Ideal.ofBits .f32 0x43E00000#32) (max (Ideal.ofBits .f32 0xC3E00000#32) (x0 (ix2 a k) * x1 (ix2 a 0))) := by
  pointwise [k0_pay1]

theorem pay2_apply (x0 : Vec Ideal S256x6144 .f32) (x1 : Vec Ideal S256x1 .f32) (x2 : Vec Ideal S32768x6144 .fp8e4m3) (a : Fin 256) (v : Fin 32768) :
    k0_pay2 x0 x1 x2 (ix2 a v) = ∑ k : Fin 6144, k0_pay1 x0 x1 (ix2 a k) * x2 (ix2 v k) := by
  pointwise [k0_pay2, k0_pay1]

theorem hz : (![0, 0] : Fin 2 → Nat) = fun _ => 0 := funext fun a => by fin_cases a <;> rfl

theorem blk_emb0 (t : Fin cfg0.N) (y : S256x6144.Idx) : (win0_0.blk t).view.emb y = y := by
  funext a
  refine Fin.ext ?_
  refine Pipeline.Window.rect_emb_val_of_index_zero win0_0 t a ?_ y
  match a with
  | ⟨0, _⟩ => rfl
  | ⟨1, _⟩ => rfl

theorem blk_emb1 (t : Fin cfg0.N) (y : S256x1.Idx) : (win0_1.blk t).view.emb y = y := by
  funext a
  refine Fin.ext ?_
  refine Pipeline.Window.rect_emb_val_of_index_zero win0_1 t a ?_ y
  match a with
  | ⟨0, _⟩ => rfl
  | ⟨1, _⟩ => rfl

theorem blk_emb2 (t : Fin cfg0.N) (y : S32768x6144.Idx) : (win0_2.blk t).view.emb y = y := by
  funext a
  refine Fin.ext ?_
  refine Pipeline.Window.rect_emb_val_of_index_zero win0_2 t a ?_ y
  match a with
  | ⟨0, _⟩ => rfl
  | ⟨1, _⟩ => rfl

theorem blk_emb3 (t : Fin cfg0.N) (y : S256x6144.Idx) : (win0_3.blk t).view.emb y = y := by
  funext a
  refine Fin.ext ?_
  refine Pipeline.Window.rect_emb_val_of_index_zero win0_3 t a ?_ y
  match a with
  | ⟨0, _⟩ => rfl
  | ⟨1, _⟩ => rfl

theorem blk_emb4 (t : Fin cfg0.N) (y : S256x32768.Idx) : (win0_4.blk t).view.emb y = y := by
  funext a
  refine Fin.ext ?_
  refine Pipeline.Window.rect_emb_val_of_index_zero win0_4 t a ?_ y
  match a with
  | ⟨0, _⟩ => rfl
  | ⟨1, _⟩ => rfl

theorem out3_eq (x0 : Vec Ideal S256x6144 .f32) (x1 : Vec Ideal S256x1 .f32) (x2 : Vec Ideal S32768x6144 .fp8e4m3) :
    out0_3 x0 x1 x2 = k0_pay1 x0 x1 := by
  unfold out0_3
  rw [View.canon_unit_zero hz, View.ld_unit_zero hz, View.ld_unit_zero hz]

theorem out4_eq (x0 : Vec Ideal S256x6144 .f32) (x1 : Vec Ideal S256x1 .f32) (x2 : Vec Ideal S32768x6144 .fp8e4m3) :
    out0_4 x0 x1 x2 = k0_pay2 x0 x1 x2 := by
  unfold out0_4
  rw [View.canon_unit_zero hz, View.ld_unit_zero hz, View.ld_unit_zero hz, View.ld_unit_zero hz]

theorem rd0 (t : Fin cfg0.N) (X : S256x6144.Idx → EReal) : (win0_0.blk t).view.read (Elt Ideal) X = X :=
  funext fun y => congrArg X (blk_emb0 t y)
theorem rd1 (t : Fin cfg0.N) (X : S256x1.Idx → EReal) : (win0_1.blk t).view.read (Elt Ideal) X = X :=
  funext fun y => congrArg X (blk_emb1 t y)
theorem rd2 (t : Fin cfg0.N) (X : S32768x6144.Idx → EReal) : (win0_2.blk t).view.read (Elt Ideal) X = X :=
  funext fun y => congrArg X (blk_emb2 t y)

variable (m : (ℓ : Loc nD τ sig) → Buf (Elt Ideal) ℓ)

/-- The normalised rows as the region reads them. -/
def inH (c : Dev nD) : Vec Ideal S256x6144 .f32 := shapeCast S256x6144 (refH m c) shapeCasts_S2x128x6144_S256x6144
/-- The inverse steps as the region reads them. -/
def inInv (c : Dev nD) : Vec Ideal S256x1 .f32 := hostInv (refE m c)
/-- The weights. -/
def inW (c : Dev nD) : Vec Ideal S32768x6144 .fp8e4m3 := m ((c : Thread nD τ).loc main_arg2)

theorem blk0 (c : Dev nD) (t : Fin cfg0.N) : iblk m c 0 t = inH m c := by
  unfold iblk
  rw [show V m c (Pipeline.arrRef spec0 0) = inH m c from V_v39 m c]
  exact rd0 t _

theorem blk1 (c : Dev nD) (t : Fin cfg0.N) : iblk m c 1 t = inInv m c := by
  unfold iblk
  rw [show V m c (Pipeline.arrRef spec0 1) = inInv m c from V_v38 m c]
  exact rd1 t _

theorem blk2 (c : Dev nD) (t : Fin cfg0.N) : iblk m c 2 t = inW m c := by
  unfold iblk
  rw [show V m c (Pipeline.arrRef spec0 2) = inW m c from V_main_arg2 m c]
  exact rd2 t _

/-- The codes. -/
def outCodes (c : Dev nD) : Vec Ideal S256x6144 .fp8e4m3 := k0_pay1 (inH m c) (inInv m c)
/-- The products. -/
def outAcc (c : Dev nD) : Vec Ideal S256x32768 .f32 := k0_pay2 (inH m c) (inInv m c) (inW m c)

theorem after3_eq (c : Dev nD) (t : Fin cfg0.N) : (dats m 0 c).after 3 t = outCodes m c := by
  rw [after0_3, out3_eq, blk0, blk1]; rfl

theorem after4_eq (c : Dev nD) (t : Fin cfg0.N) : (dats m 0 c).after 4 t = outAcc m c := by
  rw [after0_4, out4_eq, blk0, blk1, blk2]; rfl

theorem arr3 (c : Dev nD) : (dats m 0 c).arrAt 3 cfg0.N = outCodes m c := by
  refine (dats m 0 c).arrAt_eq_of_covers 3 _ (by decide +kernel) fun t hf y => ?_
  blk_simp
  rw [after3_eq]
  exact (congrArg (outCodes m c) (blk_emb3 t y)).symm

theorem arr4 (c : Dev nD) : (dats m 0 c).arrAt 4 cfg0.N = outAcc m c := by
  refine (dats m 0 c).arrAt_eq_of_covers 4 _ (by decide +kernel) fun t hf y => ?_
  blk_simp
  rw [after4_eq]
  exact (congrArg (outAcc m c) (blk_emb4 t y)).symm

end Cert.ReferenceIdeal.Gen

end
-- ==== Proof.RefFinal.lean ====
/-
  What the reference's run leaves: the loss, the codes and the steps as functions of the arguments, and the
  arguments unchanged.
-/
module

public import proofs.«01_k».proof.Proof.RefArr
public import proofs.«01_k».proof.Proof.RefTail

@[expose] public section

set_option maxRecDepth 16384

noncomputable section

namespace Cert.ReferenceIdeal.Gen

open Idealize.ShloMosaic Idealize.ShloMosaic.TcCoe Idealize.SL.Sem
open Idealize.ShloMosaic.Pipeline (Dat)

/-- The loss as the operations after the region compute it from the buffers they start with. -/
theorem tail71 (X : Valuation τ sig (Elt Ideal)) (L : FVec Ideal S256x32768 .f32)
    (hL : L = hostLogit (X (Proc.devRef .tc main_v40_1)) (X (Proc.devRef .tc main_v34)) (X (Proc.devRef .tc main_arg3)) (X (Proc.devRef .tc main_arg4))) :
    StableHlo.after ([hostOps1, hostOps1_1, hostOps1_2] : List (List (HloOp τ sig (Elt Ideal)))).flatten X (Proc.devRef .tc main_v71)
      = hostLoss (F := Ideal) (hostLse L) (hostPick L (hostLab (X (Proc.devRef .tc main_arg5)))) := by
  simp only [List.flatten_cons, List.flatten_nil, List.append_nil, StableHlo.after_append]
  rw [ops12_v71, ops11_v64, ops11_v66, ops1_v64, ops1_v55, ops1_v65, ← hL]

/-- The steps as the operations after the region leave them. -/
theorem tail72 (X : Valuation τ sig (Elt Ideal)) :
    StableHlo.after ([hostOps1, hostOps1_1, hostOps1_2] : List (List (HloOp τ sig (Elt Ideal)))).flatten X (Proc.devRef .tc main_v72)
      = shapeCast S2x128 (X (Proc.devRef .tc main_v34)) shapeCasts_S256x1_S2x128 := by
  simp only [List.flatten_cons, List.flatten_nil, List.append_nil, StableHlo.after_append]
  rw [ops12_v72, ops11_v34, ops1_v34]

theorem arrs_inj : Function.Injective (Pipeline.arrRef spec0) := by decide

variable (m : (ℓ : Loc nD τ sig) → Buf (Elt Ideal) ℓ)

/-- The buffers as the region leaves them. -/
def tailV (c : Dev nD) : Valuation τ sig (Elt Ideal) :=
  Pipeline.withArrays (cfgs 0).spec c (V0 m c) fun w => (dats m 0 c).arrAt w (cfgs 0).N

theorem tailV_v40_1 (c : Dev nD) : tailV m c (Proc.devRef .tc main_v40_1) = outAcc m c :=
  (Pipeline.withArrays_arr (cfgs 0).spec arrs_inj c (V0 m c) _ 4).trans (arr4 m c)

theorem tailV_v34 (c : Dev nD) : tailV m c (Proc.devRef .tc main_v34) = hostScale (refE m c) :=
  (Pipeline.withArrays_of_ne (cfgs 0).spec c (V0 m c) _ main_v34 (by exact (by decide : ∀ w, Pipeline.arrRef spec0 w ≠ main_v34))).trans (V_v34 m c)

theorem tailV_arg3 (c : Dev nD) : tailV m c (Proc.devRef .tc main_arg3) = m ((c : Thread nD τ).loc main_arg3) :=
  (Pipeline.withArrays_of_ne (cfgs 0).spec c (V0 m c) _ main_arg3 (by exact (by decide : ∀ w, Pipeline.arrRef spec0 w ≠ main_arg3))).trans (V_main_arg3 m c)

theorem tailV_arg4 (c : Dev nD) : tailV m c (Proc.devRef .tc main_arg4) = m ((c : Thread nD τ).loc main_arg4) :=
  (Pipeline.withArrays_of_ne (cfgs 0).spec c (V0 m c) _ main_arg4 (by exact (by decide : ∀ w, Pipeline.arrRef spec0 w ≠ main_arg4))).trans (V_main_arg4 m c)

theorem tailV_arg5 (c : Dev nD) : tailV m c (Proc.devRef .tc main_arg5) = m ((c : Thread nD τ).loc main_arg5) :=
  (Pipeline.withArrays_of_ne (cfgs 0).spec c (V0 m c) _ main_arg5 (by exact (by decide : ∀ w, Pipeline.arrRef spec0 w ≠ main_arg5))).trans (V_main_arg5 m c)

/-- The capped logits of the arguments. -/
def outLogit (c : Dev nD) : FVec Ideal S256x32768 .f32 :=
  hostLogit (outAcc m c) (hostScale (refE m c)) (m ((c : Thread nD τ).loc main_arg3)) (m ((c : Thread nD τ).loc main_arg4))

/-- The loss of the arguments. -/
def outLoss (c : Dev nD) : FVec Ideal S2x128 .f32 :=
  hostLoss (hostLse (outLogit m c)) (hostPick (outLogit m c) (hostLab (m ((c : Thread nD τ).loc main_arg5))))

/-- The steps of the arguments. -/
def outScale (c : Dev nD) : FVec Ideal S2x128 .f32 := shapeCast S2x128 (hostScale (refE m c)) shapeCasts_S256x1_S2x128

theorem res71 (c : Dev nD) :
    Pipeline.afterTail₀ cfgs (dats m) 0 (V0 m) [hostOps1, hostOps1_1, hostOps1_2] c main_v71 = outLoss m c := by
  refine (tail71 (tailV m c) (outLogit m c) ?_).trans ?_
  · rw [tailV_v40_1, tailV_v34, tailV_arg3, tailV_arg4]; rfl
  · rw [tailV_arg5]; rfl

theorem res72 (c : Dev nD) :
    Pipeline.afterTail₀ cfgs (dats m) 0 (V0 m) [hostOps1, hostOps1_1, hostOps1_2] c main_v72 = outScale m c := by
  refine (tail72 (tailV m c)).trans ?_
  rw [tailV_v34]
  rfl

variable (ρ : Dev nD → PrngReg)

/-- The reference's run, its results read as functions of the arguments and the arguments unchanged. -/
theorem run_values : θ_run defs (onTc (τ := τ) (main (F := Ideal))) ⟨m, fun _ => 0, ρ⟩ (fun r => ∀ c : Dev nD,
      r.2.mem ((c.tc : Thread nD τ).loc main_v71) = outLoss m c
      ∧ r.2.mem ((c.tc : Thread nD τ).loc main_v40_0) = outCodes m c
      ∧ r.2.mem ((c.tc : Thread nD τ).loc main_v72) = outScale m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_v71 (Pipeline.mem_restRefs_of main_v71 (by decide) (by decide))).trans (res71 m c),
      ((h c).1 3).trans (arr3 m c),
      ((h c).2 main_v72 (Pipeline.mem_restRefs_of main_v72 (by decide) (by decide))).trans (res72 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩) (run_main m ρ)

end Cert.ReferenceIdeal.Gen

end
-- ==== Proof.MathSum.lean ====
/-
  Sums and maxima in another order: lanes and blocks against one row, blocks of the vocabulary against the whole of it.
-/
module

public import proofs.«01_k».proof.Proof.TripIdeal

@[expose] public section

set_option maxRecDepth 16384

noncomputable section

namespace Cert.KernelIdeal.Gen

open Idealize.ShloMosaic Idealize.ShloMosaic.TcCoe

/-- Blocks of `n` each, one after the other, are one range. -/
theorem sum_blocks (f : ℕ → EReal) (n : ℕ) : ∀ m : ℕ,
    (∑ c ∈ Finset.range m, ∑ i : Fin n, f (n * c + i.val)) = ∑ k ∈ Finset.range (n * m), f k
  | 0 => by simp
  | m + 1 => by
    rw [Finset.sum_range_succ, sum_blocks f n m, Nat.mul_succ, Finset.sum_range_add]
    congr 1
    exact (Finset.sum_range fun i => f (n * m + i)).symm

/-- The lanes' sums of 48 blocks are the row's sum. -/
theorem sum_lanes (f : ℕ → EReal) :
    (∑ l : Fin 128, ∑ c ∈ Finset.range 48, f (128 * c + l.val)) = ∑ q : Fin 6144, f q.val := by
  rw [Finset.sum_comm, sum_blocks f 128 48]
  exact Finset.sum_range f

/-- The vocabulary by sublane, point, block of 128 and group of eight. -/
theorem sum_vocab (f : ℕ → EReal) :
    (∑ a : Fin 8, ∑ t : Fin 32, ∑ j : Fin 8, ∑ q : Fin 16, f (1024 * t.val + 128 * j.val + (q.val * 8 + a.val)))
      = ∑ v : Fin 32768, f v.val := by
  have e1 : ∀ t : Fin 32, ∀ j : Fin 8,
      (∑ q : Fin 16, ∑ a : Fin 8, f (1024 * t.val + 128 * j.val + (q.val * 8 + a.val)))
        = ∑ r : Fin 128, f (1024 * t.val + 128 * j.val + r.val) := by
    intro t j
    have h := sum_blocks (fun n => f (1024 * t.val + 128 * j.val + n)) 8 16
    rw [Finset.sum_range, Finset.sum_range] at h
    refine Eq.trans (Finset.sum_congr rfl fun q _ => Finset.sum_congr rfl fun a _ => ?_) h
    rw [Nat.mul_comm 8]
  have e2 : ∀ t : Fin 32, (∑ j : Fin 8, ∑ r : Fin 128, f (1024 * t.val + 128 * j.val + r.val))
      = ∑ p : Fin 1024, f (1024 * t.val + p.val) := by
    intro t
    have h := sum_blocks (fun n => f (1024 * t.val + n)) 128 8
    rw [Finset.sum_range, Finset.sum_range] at h
    refine Eq.trans (Finset.sum_congr rfl fun j _ => Finset.sum_congr rfl fun r _ => ?_) h
    rw [Nat.add_assoc]
  have e3 : (∑ t : Fin 32, ∑ p : Fin 1024, f (1024 * t.val + p.val)) = ∑ v : Fin 32768, f v.val := by
    have h := sum_blocks f 1024 32
    rw [Finset.sum_range, Finset.sum_range] at h
    exact h
  rw [← e3, Finset.sum_comm]
  refine Finset.sum_congr rfl fun t _ => ?_
  rw [← e2 t, Finset.sum_comm]
  refine Finset.sum_congr rfl fun j _ => ?_
  rw [← e1 t j, Finset.sum_comm]

theorem runMax_le (g : ℕ → EReal) (c : EReal) : ∀ n : ℕ, runMax g n ≤ c ↔ 0 ≤ c ∧ ∀ i < n, g i ≤ c
  | 0 => by simp [runMax]
  | n + 1 => by
    rw [runMax, max_le_iff, runMax_le g c n]
    constructor
    · rintro ⟨⟨h0, h1⟩, h2⟩
      refine ⟨h0, fun i hi => ?_⟩
      rcases Nat.lt_succ_iff_lt_or_eq.mp hi with h | h
      · exact h1 i h
      · rw [h]; exact h2
    · rintro ⟨h0, h1⟩
      exact ⟨⟨h0, fun i hi => h1 i (Nat.lt_succ_of_lt hi)⟩, h1 n (Nat.lt_succ_self n)⟩

/-- The lanes' running maxima over 48 blocks are the row's maximum, of numbers that are not negative. -/
theorem fold_runMax (g : ℕ → EReal) (b : EReal) (hg : ∀ n, 0 ≤ g n) :
    Finset.fold max b (fun l : Fin 128 => runMax (fun c => g (128 * c + l.val)) 48) Finset.univ
      = Finset.fold max b (fun q : Fin 6144 => g q.val) Finset.univ := by
  refine eq_of_forall_ge_iff fun c => ?_
  rw [Finset.fold_max_le, Finset.fold_max_le]
  refine and_congr_right fun _ => ?_
  constructor
  · intro h q _
    have h2 := ((runMax_le _ c 48).mp (h ⟨q.val % 128, Nat.mod_lt _ (by norm_num)⟩ (Finset.mem_univ _))).2 (q.val / 128) (by have := q.isLt; omega)
    have e : 128 * (q.val / 128) + q.val % 128 = q.val := Nat.div_add_mod _ _
    simpa only [e] using h2
  · intro h l _
    refine (runMax_le _ c 48).mpr ⟨(hg 0).trans (h ⟨0, by norm_num⟩ (Finset.mem_univ _)), fun i hi => ?_⟩
    exact h ⟨128 * i + l.val, by have := l.isLt; omega⟩ (Finset.mem_univ _)

end Cert.KernelIdeal.Gen

end
-- ==== Proof.MathExp.lean ====
/-
  The exponent field found by halving is the floor of the logarithm to base two, and the words of the two powers are the powers.
-/
module

public import proofs.«01_k».proof.Proof.TripIdeal

@[expose] public section

set_option maxRecDepth 16384

noncomputable section

namespace Cert.KernelIdeal.Gen

open Idealize.ShloMosaic Idealize.ShloMosaic.TcCoe

/-- The word with exponent field `n`, read as a number. -/
def bexp (n : ℕ) : EReal := Ideal.ofBits .f32 (IntOp.shli .vector (BitVec.ofNat 32 n) 23#32)

theorem bexp_sign : ∀ n : Fin 256, (IntOp.shli .vector (BitVec.ofNat 32 n.val) 23#32).extractLsb' 31 1 = 0#1 := by decide +kernel
theorem bexp_exp : ∀ n : Fin 256, ((IntOp.shli .vector (BitVec.ofNat 32 n.val) 23#32).extractLsb' 23 8).toNat = n.val := by decide +kernel
theorem bexp_frac : ∀ n : Fin 256, ((IntOp.shli .vector (BitVec.ofNat 32 n.val) 23#32).extractLsb' 0 23).toNat = 0 := by decide +kernel

/-- A word with a clear sign and fraction and exponent field `n` is `2 ^ (n - 127)`. -/
theorem ieee_of (b : BitVec 32) (n : ℕ) (h1 : b.extractLsb' 31 1 = 0#1) (h2 : (b.extractLsb' 23 8).toNat = n)
    (h3 : (b.extractLsb' 0 23).toNat = 0) (hn1 : 1 ≤ n) (hn : n ≤ 254) :
    Ideal.ofBits .f32 b = (((2 : ℝ) ^ ((n : ℤ) - 127) : ℝ) : EReal) := by
  show Ideal.ieee 8 23 b = _
  unfold Ideal.ieee
  simp only [Nat.reduceAdd, h1, h2, h3]
  rw [if_neg (by norm_num; omega), if_neg (by omega)]
  refine congrArg _ ?_
  have e : ((n : ℤ) - (2 ^ (8 - 1) - 1) - (23 : ℕ)) = ((n : ℤ) - 127) + (-23) := by norm_num; ring
  rw [e, zpow_add₀ (by norm_num)]
  norm_num
  ring

theorem bexp_eq (n : ℕ) (hn1 : 1 ≤ n) (hn : n ≤ 254) : bexp n = (((2 : ℝ) ^ ((n : ℤ) - 127) : ℝ) : EReal) :=
  ieee_of _ n (bexp_sign ⟨n, by omega⟩) (bexp_exp ⟨n, by omega⟩) (bexp_frac ⟨n, by omega⟩) hn1 hn

theorem bexp_zero : bexp 0 = 0 := by
  show Ideal.ofBits .f32 0x00000000#32 = 0
  exact Ideal.ofBits_zero_f32

theorem bexp_255 : bexp 255 = ⊤ := by
  show Ideal.ieee 8 23 (IntOp.shli .vector (BitVec.ofNat 32 255) 23#32) = ⊤
  unfold Ideal.ieee
  have h1 := bexp_sign ⟨255, by norm_num⟩
  have h2 := bexp_exp ⟨255, by norm_num⟩
  have h3 := bexp_frac ⟨255, by norm_num⟩
  simp only [Nat.reduceAdd] at h1 h2 h3 ⊢
  simp only [h1, h2, h3]
  norm_num

theorem bexp_le (a b : ℕ) (ha : 1 ≤ a) (hab : a ≤ b) (hb : b ≤ 255) : bexp a ≤ bexp b := by
  by_cases h : b = 255
  · rw [h, bexp_255]; exact le_top
  · rw [bexp_eq a ha (by omega), bexp_eq b (by omega) (by omega)]
    refine EReal.coe_le_coe_iff.mpr (zpow_le_zpow_right₀ (by norm_num) (by omega))

/-- One step of the search. -/
theorem kStep_spec (t : EReal) (i n : ℕ) (hB : bexp n ≤ t) (hU : t < bexp (n + 2 * i) ∨ 256 ≤ n + 2 * i) :
    ∃ n', kStep t (BitVec.ofNat 32 i) (BitVec.ofNat 32 n) = BitVec.ofNat 32 n' ∧ bexp n' ≤ t
      ∧ (t < bexp (n' + i) ∨ 256 ≤ n' + i) ∧ n' ≤ n + i := by
  have e : IntOp.addi (BitVec.ofNat 32 n) (BitVec.ofNat 32 i) = BitVec.ofNat 32 (n + i) := (BitVec.ofNat_add n i).symm
  unfold kStep
  rw [e]
  by_cases h : Ideal.ofBits .f32 (IntOp.shli .vector (BitVec.ofNat 32 (n + i)) 23#32) ≤ t
  · rw [if_pos h]
    refine ⟨n + i, rfl, h, ?_, le_refl _⟩
    rw [show n + i + i = n + 2 * i from by ring]; exact hU
  · rw [if_neg h]
    exact ⟨n, rfl, hB, Or.inl (not_le.mp h), Nat.le_add_right _ _⟩

/-- The search finds the binade of a number below `2 ^ 126`. -/
theorem kBiased_spec (t : EReal) (h0 : 0 ≤ t) (ht : t < bexp 253) :
    ∃ n : ℕ, n ≤ 252 ∧ kBiased t = BitVec.ofNat 32 n ∧ bexp n ≤ t ∧ t < bexp (n + 1) := by
  obtain ⟨n1, e1, b1, u1, l1⟩ := kStep_spec t 128 0 (by rw [bexp_zero]; exact h0) (Or.inr (by norm_num))
  obtain ⟨n2, e2, b2, u2, l2⟩ := kStep_spec t 64 n1 b1 u1
  obtain ⟨n3, e3, b3, u3, l3⟩ := kStep_spec t 32 n2 b2 u2
  obtain ⟨n4, e4, b4, u4, l4⟩ := kStep_spec t 16 n3 b3 u3
  obtain ⟨n5, e5, b5, u5, l5⟩ := kStep_spec t 8 n4 b4 u4
  obtain ⟨n6, e6, b6, u6, l6⟩ := kStep_spec t 4 n5 b5 u5
  obtain ⟨n7, e7, b7, u7, l7⟩ := kStep_spec t 2 n6 b6 u6
  obtain ⟨n8, e8, b8, u8, l8⟩ := kStep_spec t 1 n7 b7 u7
  have hn : n8 ≤ 252 := by
    by_contra h
    exact absurd (lt_of_le_of_lt ((bexp_le 253 n8 (by norm_num) (by omega) (by omega)).trans b8) ht) (lt_irrefl _)
  refine ⟨n8, hn, ?_, b8, u8.resolve_right (by omega)⟩
  unfold kBiased
  rw [show (0#32 : BitVec 32) = BitVec.ofNat 32 0 from rfl, e1, e2, e3, e4, e5, e6, e7, e8]

/-- The exponent as the reference takes it. -/
def refExp (t : EReal) : EReal :=
  if (if t < Ideal.ofBits .f32 0x00800000#32 then 0 else t) = 0 then 0
  else Ideal.liftRound Int.floor (Ideal.div (Ideal.log (if t < Ideal.ofBits .f32 0x00800000#32 then 0 else t)) (Ideal.log (Ideal.ofBits .f32 0x40000000#32))) + 1

theorem ofBits_two : Ideal.ofBits .f32 0x40000000#32 = ((2 : ℝ) : EReal) := by
  simp [Ideal.ofBits, Ideal.ieee, -EReal.coe_mul]; norm_num

theorem kE_zero : Scalar.select (IntOp.cmpi .eq (BitVec.ofNat 32 0) 0#32) 0#32 (IntOp.subi (BitVec.ofNat 32 0) 126#32) = 0#32 := by decide
theorem kE_pos : ∀ n : Fin 253, n.val ≠ 0 →
    IntOp.addi (Scalar.select (IntOp.cmpi .eq (BitVec.ofNat 32 n.val) 0#32) 0#32 (IntOp.subi (BitVec.ofNat 32 n.val) 126#32)) 127#32 = BitVec.ofNat 32 (n.val + 1) := by
  decide +kernel
theorem kE_neg : ∀ n : Fin 253, n.val ≠ 0 →
    IntOp.addi (IntOp.subi 0#32 (Scalar.select (IntOp.cmpi .eq (BitVec.ofNat 32 n.val) 0#32) 0#32 (IntOp.subi (BitVec.ofNat 32 n.val) 126#32))) 127#32
      = BitVec.ofNat 32 (253 - n.val) := by
  decide +kernel

/-- A positive real's floor of the logarithm to base two. -/
theorem floor_log (r : ℝ) (z : ℤ) (h1 : (2 : ℝ) ^ z ≤ r) (h2 : r < (2 : ℝ) ^ (z + 1)) : ⌊Real.log r * (1 / Real.log 2)⌋ = z := by
  have hl : 0 < Real.log 2 := Real.log_pos (by norm_num)
  have hp : (0 : ℝ) < (2 : ℝ) ^ z := zpow_pos (by norm_num) z
  have hr : 0 < r := lt_of_lt_of_le hp h1
  rw [mul_one_div, Int.floor_eq_iff]
  constructor
  · rw [le_div_iff₀ hl, ← Real.log_zpow]
    exact Real.log_le_log hp h1
  · rw [div_lt_iff₀ hl]
    have := Real.log_lt_log hr h2
    rw [Real.log_zpow] at this
    push_cast at this
    exact this

theorem refExp_zero (t : EReal) (h : t < bexp 1) : refExp t = 0 := by
  have e : (Ideal.ofBits .f32 0x00800000#32 : EReal) = bexp 1 := rfl
  unfold refExp
  rw [e, if_pos h, if_pos rfl]

theorem refExp_pos (t : EReal) (n : ℕ) (hn1 : 1 ≤ n) (hn : n ≤ 252) (h1 : bexp n ≤ t) (h2 : t < bexp (n + 1)) :
    refExp t = ((((n : ℤ) - 126 : ℤ) : ℝ) : EReal) := by
  have e : (Ideal.ofBits .f32 0x00800000#32 : EReal) = bexp 1 := rfl
  have hge : ¬t < bexp 1 := not_lt.mpr ((bexp_le 1 n (le_refl _) hn1 (by omega)).trans h1)
  rw [bexp_eq n hn1 (by omega)] at h1
  rw [bexp_eq (n + 1) (by omega) (by omega)] at h2
  unfold refExp
  rw [e, if_neg hge]
  induction t with
  | bot => exact absurd h1 (not_le.mpr (EReal.bot_lt_coe _))
  | top => exact absurd h2 (not_lt.mpr le_top)
  | coe r =>
    have h1' := EReal.coe_le_coe_iff.mp h1
    have h2' := EReal.coe_lt_coe_iff.mp h2
    have hp : 0 < r := lt_of_lt_of_le (zpow_pos (by norm_num) _) h1'
    have hl : Real.log 2 ≠ 0 := (Real.log_pos (by norm_num)).ne'
    rw [if_neg (by exact_mod_cast hp.ne'), ofBits_two, Ideal.log_coe, if_neg (not_le.mpr hp), Ideal.log_coe, if_neg (by norm_num),
      Ideal.div_coe hl, ← EReal.coe_mul, Ideal.liftRound_coe,
      floor_log r ((n : ℤ) - 127) h1' (by rw [show (n : ℤ) - 127 + 1 = ((n + 1 : ℕ) : ℤ) - 127 from by push_cast; ring]; exact h2')]
    rw [show (1 : EReal) = ((1 : ℝ) : EReal) from rfl, ← EReal.coe_add]
    refine congrArg _ ?_
    push_cast; ring

theorem pow_two_int (z : ℤ) : Ideal.pow (Ideal.ofBits .f32 0x40000000#32) (((z : ℤ) : ℝ) : EReal) = (((2 : ℝ) ^ z : ℝ) : EReal) := by
  rw [ofBits_two, Ideal.pow_coe_coe]
  exact congrArg _ (Real.rpow_intCast 2 z)

/-- Both powers of a step are the reference's. -/
theorem kPow2_eq (t : EReal) (h0 : 0 ≤ t) (ht : t < bexp 253) :
    kPow2 (kE t) = Ideal.pow (Ideal.ofBits .f32 0x40000000#32) (refExp t)
      ∧ kPow2 (IntOp.subi 0#32 (kE t)) = Ideal.pow (Ideal.ofBits .f32 0x40000000#32) (-refExp t) := by
  obtain ⟨n, hn, e, h1, h2⟩ := kBiased_spec t h0 ht
  unfold kE kPow2
  rw [e]
  by_cases hz : n = 0
  · subst hz
    rw [refExp_zero t h2, kE_zero, neg_zero]
    have e1 : Ideal.pow (Ideal.ofBits .f32 0x40000000#32) 0 = ((1 : ℝ) : EReal) := by
      have := pow_two_int 0
      simpa using this
    have e2 : Ideal.ofBits .f32 (IntOp.shli .vector (IntOp.addi 0#32 127#32) 23#32) = ((1 : ℝ) : EReal) := by
      have := bexp_eq 127 (by norm_num) (by norm_num)
      rw [show (((127 : ℕ) : ℤ) - 127) = 0 from by norm_num, zpow_zero] at this
      exact this
    rw [e1]
    exact ⟨e2, e2⟩
  · rw [refExp_pos t n (by omega) hn h1 h2]
    refine ⟨?_, ?_⟩
    · have hk := kE_pos ⟨n, by omega⟩ hz
      rw [hk, pow_two_int]
      have := bexp_eq (n + 1) (by omega) (by omega)
      rw [show (((n + 1 : ℕ) : ℤ) - 127) = (n : ℤ) - 126 from by push_cast; ring] at this
      exact this
    · have hk := kE_neg ⟨n, by omega⟩ hz
      rw [hk, ← EReal.coe_neg, ← Int.cast_neg, pow_two_int]
      have := bexp_eq (253 - n) (by omega) (by omega)
      rw [show (((253 - n : ℕ) : ℤ) - 127) = -((n : ℤ) - 126) from by omega] at this
      exact this

end Cert.KernelIdeal.Gen

end
-- ==== Proof.MathRow.lean ====
/-
  One row: its factor is the reference's, its entries are bounded when the weights are, and the step before its
  exponent is the reference's and below `2 ^ 126`.
-/
module

public import proofs.«01_k».proof.Proof.MathSum
public import proofs.«01_k».proof.Proof.MathExp

@[expose] public section

set_option maxRecDepth 16384

noncomputable section

namespace Cert.KernelIdeal.Gen

open Idealize.ShloMosaic Idealize.ShloMosaic.TcCoe

theorem ofBits_d : Ideal.ofBits .f32 0x45C00000#32 = ((6144 : ℝ) : EReal) := by
  simp [Ideal.ofBits, Ideal.ieee, -EReal.coe_mul]; norm_num

theorem ofBits_448 : Ideal.ofBits .f32 0x3B124925#32 = ((9586981 / 2 ^ 32 : ℝ) : EReal) := by
  simp [Ideal.ofBits, Ideal.ieee, -EReal.coe_mul]; norm_num

theorem ofBits_eps : ∃ e : ℝ, 0 < e ∧ Ideal.ofBits .f32 0x358637BD#32 = ((e : ℝ) : EReal) := by
  refine ⟨8796093 / 2 ^ 43, by norm_num, ?_⟩
  simp [Ideal.ofBits, Ideal.ieee, -EReal.coe_mul]; norm_num

theorem ofBits_fmax : Ideal.ofBits .f32 0x7F7FFFFF#32 = ((16777215 * 2 ^ 104 : ℝ) : EReal) := by
  simp [Ideal.ofBits, Ideal.ieee, -EReal.coe_mul]

theorem row_minf : Ideal.ofBits .f32 0xFF800000#32 = ⊥ := by
  simp [Ideal.ofBits, Ideal.ieee]

theorem named_inv_d : (Named.named κ "inv_d" 0x392AAAAB#32 : Ideal .f32) = ((1 / 6144 : ℝ) : EReal) :=
  IdealRules.named_const.ideal_named_scalar _ _ _ _ rfl

/-- A magnitude is not negative. -/
theorem abs_nonneg' (x : EReal) : 0 ≤ max x (-x) := by
  rcases le_total 0 x with h | h
  · exact h.trans (le_max_left _ _)
  · exact (EReal.neg_nonneg.mpr h).trans (le_max_right _ _)

/-- A square is not negative. -/
theorem sq_nonneg' (x : EReal) : 0 ≤ x * x := by
  induction x with
  | bot => simp
  | top => simp
  | coe r => rw [← EReal.coe_mul]; exact_mod_cast mul_self_nonneg r

/-- The row's factor as the reference computes it. -/
theorem kRs_eq (x : ℕ → EReal) : kRs x
    = Ideal.rsqrt (Ideal.div (∑ q : Fin 6144, x q.val * x q.val) (Ideal.ofBits .f32 0x45C00000#32) + Ideal.ofBits .f32 0x358637BD#32) := by
  unfold kRs
  rw [sum_lanes (fun n => x n * x n), named_inv_d, ofBits_d, Ideal.div_coe (by norm_num)]

/-- The row's step before its exponent as the reference computes it. -/
theorem kT_eq (x w : ℕ → EReal) : kT x w
    = Finset.fold max (Ideal.ofBits .f32 0xFF800000#32) (fun q : Fin 6144 => max (kH x w q.val) (-kH x w q.val)) Finset.univ
      * Ideal.ofBits .f32 0x3B124925#32 := by
  unfold kT
  refine congrArg (· * Ideal.ofBits .f32 0x3B124925#32) ?_
  exact fold_runMax (fun n => max (kH x w n) (-kH x w n)) _ fun n => abs_nonneg' _

/-- Normalised entries are bounded by 79 times the weights' bound. -/
theorem kH_bound (x w : ℕ → EReal) (B : ℝ) (hw : ∀ n, max (w n) (-w n) ≤ (B : EReal)) (n : ℕ) (hn : n < 6144) :
    max (kH x w n) (-kH x w n) ≤ ((79 * B : ℝ) : EReal) := by
  have hB : 0 ≤ B := by exact_mod_cast (abs_nonneg' (w 0)).trans (hw 0)
  obtain ⟨e, he, ee⟩ := ofBits_eps
  unfold kH
  rw [kRs_eq, ofBits_d, Ideal.div_coe (by norm_num), ee]
  by_cases hr : ∀ q : Fin 6144, ∃ r : ℝ, x q.val = (r : EReal)
  · choose y hy using hr
    have hS : (∑ q : Fin 6144, x q.val * x q.val) = ((∑ q : Fin 6144, y q * y q : ℝ) : EReal) := by
      classical
      have : ∀ s : Finset (Fin 6144), (∑ q ∈ s, x q.val * x q.val) = ((∑ q ∈ s, y q * y q : ℝ) : EReal) := by
        intro s
        induction s using Finset.induction_on with
        | empty => simp
        | insert a s ha ih => rw [Finset.sum_insert ha, Finset.sum_insert ha, EReal.coe_add, ih, hy a, EReal.coe_mul]
      exact this Finset.univ
    have hle : y ⟨n, hn⟩ * y ⟨n, hn⟩ ≤ ∑ q : Fin 6144, y q * y q :=
      Finset.single_le_sum (f := fun q => y q * y q) (fun q _ => mul_self_nonneg _) (Finset.mem_univ _)
    rw [hS]
    generalize hSS : (∑ q : Fin 6144, y q * y q : ℝ) = S at hle
    have hS0 : 0 ≤ S := (mul_self_nonneg _).trans hle
    have hq : 0 < S * (1 / 6144) + e := by positivity
    rw [← EReal.coe_mul, ← EReal.coe_add, Ideal.rsqrt_coe, if_neg (not_lt.mpr hq.le), if_neg hq.ne', hy ⟨n, hn⟩]
    have hwn := hw n
    generalize w n = wn at hwn
    induction wn with
    | bot => rw [EReal.neg_bot] at hwn; exact absurd ((le_max_right _ _).trans hwn) (not_le.mpr (EReal.coe_lt_top _))
    | top => exact absurd ((le_max_left _ _).trans hwn) (not_le.mpr (EReal.coe_lt_top _))
    | coe v =>
      have hv : |v| ≤ B := by
        refine abs_le'.mpr ⟨?_, ?_⟩
        · exact_mod_cast (le_max_left _ _).trans hwn
        · have := (le_max_right _ _).trans hwn
          rw [← EReal.coe_neg] at this
          exact_mod_cast this
      have h79 : |y ⟨n, hn⟩| * (Real.sqrt (S * (1 / 6144) + e))⁻¹ ≤ 79 := by
        rw [← div_eq_mul_inv, div_le_iff₀ (Real.sqrt_pos.mpr hq)]
        refine abs_le_of_sq_le_sq ?_ (by positivity)
        rw [mul_pow, Real.sq_sqrt hq.le]
        nlinarith
      rw [← EReal.coe_mul, ← EReal.coe_mul, ← EReal.coe_neg]
      have habs : |y ⟨n, hn⟩ * (Real.sqrt (S * (1 / 6144) + e))⁻¹ * v| ≤ 79 * B := by
        rw [abs_mul, abs_mul, abs_of_pos (inv_pos.mpr (Real.sqrt_pos.mpr hq))]
        exact mul_le_mul h79 hv (abs_nonneg _) (by norm_num)
      refine max_le ?_ ?_
      · exact_mod_cast (abs_le'.mp habs).1
      · exact_mod_cast (abs_le'.mp habs).2
  · rw [not_forall] at hr
    obtain ⟨q, hq⟩ := hr
    have hqq : x q.val * x q.val = ⊤ := by
      generalize x q.val = z at hq
      induction z with
      | bot => simp
      | top => simp
      | coe r => exact absurd ⟨r, rfl⟩ hq
    have hS : (∑ q : Fin 6144, x q.val * x q.val) = ⊤ := by
      refine top_le_iff.mp ?_
      rw [← hqq]
      exact Finset.single_le_sum (f := fun q : Fin 6144 => x q.val * x q.val) (fun q _ => sq_nonneg' _) (Finset.mem_univ q)
    rw [hS, EReal.top_mul_coe_of_pos (by norm_num), EReal.top_add_coe]
    have : Ideal.rsqrt ⊤ = 0 := rfl
    rw [this, mul_zero, zero_mul, neg_zero, max_self]
    exact_mod_cast (by positivity : (0 : ℝ) ≤ 79 * B)

/-- The step before its exponent is not negative and below `2 ^ 126`. -/
theorem kT_range (x w : ℕ → EReal) (hw : ∀ n, max (w n) (-w n) ≤ Ideal.ofBits .f32 0x7F7FFFFF#32) :
    0 ≤ kT x w ∧ kT x w < bexp 253 := by
  rw [kT_eq, ofBits_448, row_minf]
  rw [ofBits_fmax] at hw
  have h0 : 0 ≤ Finset.fold max (⊥ : EReal) (fun q : Fin 6144 => max (kH x w q.val) (-kH x w q.val)) Finset.univ :=
    (Finset.le_fold_max _).mpr (Or.inr ⟨⟨0, by norm_num⟩, Finset.mem_univ _, abs_nonneg' _⟩)
  have h1 : Finset.fold max (⊥ : EReal) (fun q : Fin 6144 => max (kH x w q.val) (-kH x w q.val)) Finset.univ
      ≤ ((79 * (16777215 * 2 ^ 104) : ℝ) : EReal) :=
    (Finset.fold_max_le _).mpr ⟨bot_le, fun q _ => kH_bound x w _ hw q.val q.isLt⟩
  generalize Finset.fold max (⊥ : EReal) (fun q : Fin 6144 => max (kH x w q.val) (-kH x w q.val)) Finset.univ = z at h0 h1
  induction z with
  | bot => exact absurd h0 (not_le.mpr EReal.bot_lt_zero)
  | top => exact absurd h1 (not_le.mpr (EReal.coe_lt_top _))
  | coe r =>
    have h0' : 0 ≤ r := by exact_mod_cast h0
    have h1' : r ≤ 79 * (16777215 * 2 ^ 104) := EReal.coe_le_coe_iff.mp h1
    rw [bexp_eq 253 (by norm_num) (by norm_num), ← EReal.coe_mul]
    constructor
    · exact_mod_cast (by positivity : (0 : ℝ) ≤ r * (9586981 / 2 ^ 32))
    · refine EReal.coe_lt_coe_iff.mpr ?_
      have e : ((2 : ℝ) ^ (((253 : ℕ) : ℤ) - 127)) = 2 ^ 126 := by norm_num
      rw [e]
      calc r * (9586981 / 2 ^ 32) ≤ (79 * (16777215 * 2 ^ 104)) * (9586981 / 2 ^ 32) :=
            mul_le_mul_of_nonneg_right h1' (by norm_num)
        _ < 2 ^ 126 := by norm_num

end Cert.KernelIdeal.Gen

end
-- ==== Proof.EqualRow.lean ====
/-
  Row by row the kernel's codes and steps are the reference's.
-/
module

public import proofs.«01_k».proof.Proof.KerBlocks
public import proofs.«01_k».proof.Proof.RefFinal
public import proofs.«01_k».proof.Proof.RefValue
public import proofs.«01_k».proof.Proof.MathRow

@[expose] public section

set_option maxRecDepth 16384

noncomputable section

namespace Cert.Equal

open Idealize.ShloMosaic Idealize.ShloMosaic.TcCoe Idealize.SL.Sem

/-- The row of the token `l` of the half `h`. -/
abbrev tok (h : Fin 2) (l : Fin 128) : Fin 256 := ⟨128 * h.val + l.val, by omega⟩

/-! ## One row -/

variable (x : FVec Ideal Cert.ReferenceIdeal.S2x128x6144 .bf16) (nw : FVec Ideal Cert.ReferenceIdeal.S6144 .f32)
  (X : Vec Ideal Cert.KernelIdeal.S256x6144 .bf16) (W : Vec Ideal Cert.KernelIdeal.S1x6144 .f32)
  (hX : ∀ (h : Fin 2) (l : Fin 128) (k : Fin 6144), X (ix2 (tok h l) k) = x (ix3 h l k))
  (hW : ∀ k : Fin 6144, W (ix2 0 k) = nw (ix1 k))

include hX in
theorem xr_eq (h : Fin 2) (l : Fin 128) (k : Fin 6144) : Cert.KernelIdeal.Gen.xr X (128 * h.val + l.val) k.val = x (ix3 h l k) := by
  unfold Cert.KernelIdeal.Gen.xr
  rw [dif_pos ⟨by omega, k.isLt⟩]
  exact hX h l k

include hW in
theorem wr_eq (k : Fin 6144) : Cert.KernelIdeal.Gen.wr W k.val = nw (ix1 k) := by
  unfold Cert.KernelIdeal.Gen.wr
  rw [dif_pos k.isLt]
  exact hW k

include hW in
theorem wr_bound (hb : ∀ k : Fin 6144, max (nw (ix1 k)) (-nw (ix1 k)) ≤ Ideal.ofBits .f32 0x7F7FFFFF#32) (n : ℕ) :
    max (Cert.KernelIdeal.Gen.wr W n) (-Cert.KernelIdeal.Gen.wr W n) ≤ Ideal.ofBits .f32 0x7F7FFFFF#32 := by
  by_cases hn : n < 6144
  · have := hb ⟨n, hn⟩
    rw [← wr_eq nw W hW ⟨n, hn⟩] at this
    exact this
  · unfold Cert.KernelIdeal.Gen.wr
    rw [dif_neg hn, neg_zero, max_self]
    exact (Cert.KernelIdeal.Gen.abs_nonneg' _).trans (hb ⟨0, by norm_num⟩)

include hX hW in
theorem row_h (h : Fin 2) (l : Fin 128) (k : Fin 6144) :
    Cert.KernelIdeal.Gen.kH (Cert.KernelIdeal.Gen.xr X (128 * h.val + l.val)) (Cert.KernelIdeal.Gen.wr W) k.val
      = Cert.ReferenceIdeal.Gen.hostH x nw (ix3 h l k) := by
  rw [Cert.ReferenceIdeal.Gen.hostH_apply]
  unfold Cert.KernelIdeal.Gen.kH
  rw [Cert.KernelIdeal.Gen.kRs_eq, xr_eq x X hX, wr_eq nw W hW]
  refine congrArg (fun s => x (ix3 h l k) * Ideal.rsqrt (Ideal.div s (Ideal.ofBits .f32 0x45C00000#32) + Ideal.ofBits .f32 0x358637BD#32) * nw (ix1 k)) ?_
  exact Finset.sum_congr rfl fun q _ => by rw [xr_eq x X hX]

include hX hW in
theorem row_t (h : Fin 2) (l : Fin 128) :
    Cert.KernelIdeal.Gen.kT (Cert.KernelIdeal.Gen.xr X (128 * h.val + l.val)) (Cert.KernelIdeal.Gen.wr W)
      = Cert.ReferenceIdeal.Gen.hostT (Cert.ReferenceIdeal.Gen.hostH x nw) (ix3 h l 0) := by
  rw [Cert.ReferenceIdeal.Gen.hostT_apply, Cert.KernelIdeal.Gen.kT_eq]
  refine congrArg (fun f => Finset.fold max (Ideal.ofBits .f32 0xFF800000#32) f Finset.univ * Ideal.ofBits .f32 0x3B124925#32) (funext fun q => ?_)
  rw [row_h x nw X W hX hW]
  rfl

theorem row_e (t : FVec Ideal Cert.ReferenceIdeal.S2x128x1 .f32) (h : Fin 2) (l : Fin 128) :
    Cert.ReferenceIdeal.Gen.hostE (Cert.ReferenceIdeal.Gen.hostFlush t) (ix3 h l 0) = Cert.KernelIdeal.Gen.refExp (t (ix3 h l 0)) := by
  rw [Cert.ReferenceIdeal.Gen.hostE_apply, Cert.ReferenceIdeal.Gen.hostFlush_apply]
  rfl

/-- The reference's exponents. -/
abbrev expOf : FVec Ideal Cert.ReferenceIdeal.S2x128x1 .f32 :=
  Cert.ReferenceIdeal.Gen.hostE (Cert.ReferenceIdeal.Gen.hostFlush (Cert.ReferenceIdeal.Gen.hostT (Cert.ReferenceIdeal.Gen.hostH x nw)))

include hX hW in
theorem row_pow (hb : ∀ k : Fin 6144, max (nw (ix1 k)) (-nw (ix1 k)) ≤ Ideal.ofBits .f32 0x7F7FFFFF#32) (h : Fin 2) (l : Fin 128) :
    Cert.KernelIdeal.Gen.kPow2 (Cert.KernelIdeal.Gen.kE (Cert.KernelIdeal.Gen.kT (Cert.KernelIdeal.Gen.xr X (128 * h.val + l.val)) (Cert.KernelIdeal.Gen.wr W)))
        = Cert.ReferenceIdeal.Gen.hostScale (expOf x nw) (ix2 (tok h l) 0)
      ∧ Cert.KernelIdeal.Gen.kPow2 (IntOp.subi 0#32 (Cert.KernelIdeal.Gen.kE (Cert.KernelIdeal.Gen.kT (Cert.KernelIdeal.Gen.xr X (128 * h.val + l.val)) (Cert.KernelIdeal.Gen.wr W))))
        = Cert.ReferenceIdeal.Gen.hostInv (expOf x nw) (ix2 (tok h l) 0) := by
  obtain ⟨h0, h1⟩ := Cert.KernelIdeal.Gen.kT_range (Cert.KernelIdeal.Gen.xr X (128 * h.val + l.val)) (Cert.KernelIdeal.Gen.wr W) (wr_bound nw W hW hb)
  obtain ⟨e1, e2⟩ := Cert.KernelIdeal.Gen.kPow2_eq _ h0 h1
  rw [Cert.ReferenceIdeal.Gen.hostScale_apply, Cert.ReferenceIdeal.Gen.hostInv_apply]
  unfold expOf
  rw [row_e, ← row_t x nw X W hX hW]
  exact ⟨e1, e2⟩

theorem castH_apply (H : FVec Ideal Cert.ReferenceIdeal.S2x128x6144 .f32) (hh) (h : Fin 2) (l : Fin 128) (k : Fin 6144) :
    shapeCast Cert.ReferenceIdeal.S256x6144 H hh (ix2 (tok h l) k) = H (ix3 h l k) := by
  pointwise []
  have e1 : (⟨(128 * h.val + l.val) / 128, by omega⟩ : Fin 2) = h := Fin.ext (by show (128 * h.val + l.val) / 128 = h.val; omega)
  have e2 : (⟨(128 * h.val + l.val) % 128, by omega⟩ : Fin 128) = l := Fin.ext (by show (128 * h.val + l.val) % 128 = l.val; omega)
  rw [e1, e2]

theorem castS_apply (S : FVec Ideal Cert.ReferenceIdeal.S256x1 .f32) (hh) (h : Fin 2) (l : Fin 128) :
    shapeCast Cert.ReferenceIdeal.S2x128 S hh (ix2 h l) = S (ix2 (tok h l) 0) := by
  pointwise []
  exact congrArg (fun q : Fin 256 => S (ix2 q 0)) (Fin.ext (by show h.val * 128 + l.val = 128 * h.val + l.val; omega))

include hX hW in
theorem row_code (hb : ∀ k : Fin 6144, max (nw (ix1 k)) (-nw (ix1 k)) ≤ Ideal.ofBits .f32 0x7F7FFFFF#32) (hh) (h : Fin 2) (l : Fin 128) (k : Fin 6144) :
    Cert.KernelIdeal.Gen.kCode (Cert.KernelIdeal.Gen.xr X (128 * h.val + l.val)) (Cert.KernelIdeal.Gen.wr W) k.val
      = Cert.ReferenceIdeal.Gen.k0_pay1 (shapeCast Cert.ReferenceIdeal.S256x6144 (Cert.ReferenceIdeal.Gen.hostH x nw) hh)
          (Cert.ReferenceIdeal.Gen.hostInv (expOf x nw)) (ix2 (tok h l) k) := by
  rw [Cert.ReferenceIdeal.Gen.pay1_apply, castH_apply]
  unfold Cert.KernelIdeal.Gen.kCode
  rw [row_h x nw X W hX hW, (row_pow x nw X W hX hW hb h l).2]

end Cert.Equal

end
-- ==== Proof.MathLoss.lean ====
/-
  The capped logits are real, and the logarithm of their sum of exponentials does not depend on taking out the greatest.
-/
module

public import proofs.«01_k».proof.Proof.StepIdeal

@[expose] public section

set_option maxRecDepth 16384

noncomputable section

namespace Cert.KernelIdeal.Gen

open Idealize.ShloMosaic Idealize.ShloMosaic.TcCoe

theorem ofBits_thirty : Ideal.ofBits .f32 0x41F00000#32 = ((30 : ℝ) : EReal) := by
  simp [Ideal.ofBits, Ideal.ieee, -EReal.coe_mul]; norm_num

theorem ofBits_minf : Ideal.ofBits .f32 0xFF800000#32 = ⊥ := by
  simp [Ideal.ofBits, Ideal.ieee]

theorem named_inv_softcap : (Named.named κ "inv_softcap" 0x3D088889#32 : Ideal .f32) = ((1 / 30 : ℝ) : EReal) :=
  IdealRules.named_const.ideal_named_scalar _ _ _ _ rfl

theorem named_softcap_log2e : (Named.named κ "softcap_log2e" 0x422D1F97#32 : Ideal .f32) = ((30 * (Real.log 2)⁻¹ : ℝ) : EReal) :=
  IdealRules.named_const.ideal_named_scalar _ _ _ _ rfl

/-- The logit divided by 30, the division taken into the factors. -/
theorem logit_arg (acc hs ws b : EReal) :
    acc * (hs * (ws * ((1 / 30 : ℝ) : EReal))) + b * ((1 / 30 : ℝ) : EReal)
      = Ideal.div (acc * (hs * ws) + b) (Ideal.ofBits .f32 0x41F00000#32) := by
  rw [ofBits_thirty, Ideal.div_coe (by norm_num), ← mul_assoc hs, ← mul_assoc acc, mul_comm (acc * (hs * ws) + b),
    EReal.left_distrib_of_nonneg_of_ne_top (by exact_mod_cast (by norm_num : (0 : ℝ) ≤ 1 / 30)) (EReal.coe_ne_top _),
    mul_comm (acc * (hs * ws)), mul_comm b]

/-- A hyperbolic tangent is real. -/
theorem tanh_real (x : EReal) : ∃ r : ℝ, Ideal.tanh x = (r : EReal) := by
  induction x with
  | bot => exact ⟨-1, by show (-1 : EReal) = _; simp⟩
  | top => exact ⟨1, rfl⟩
  | coe r => exact ⟨Real.tanh r, rfl⟩

/-- The exponential of thirty times a number, as a power of two. -/
theorem exp2_eq (r : ℝ) : Ideal.exp2 ((r : EReal) * ((30 * (Real.log 2)⁻¹ : ℝ) : EReal)) = ((Real.exp (30 * r) : ℝ) : EReal) := by
  rw [← EReal.coe_mul, Ideal.exp2_coe]
  refine congrArg _ ?_
  show (2 : ℝ) ^ (r * (30 * (Real.log 2)⁻¹)) = _
  rw [Real.rpow_def_of_pos (by norm_num)]
  refine congrArg _ ?_
  have hl : Real.log 2 ≠ 0 := (Real.log_pos (by norm_num)).ne'
  field_simp

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of finitely many reals is real. -/
theorem fold_max_real {n : ℕ} (hn : 0 < n) (L : Fin n → ℝ) :
    ∃ M : ℝ, Finset.fold max (⊥ : EReal) (fun v => (L v : EReal)) Finset.univ = (M : EReal) := by
  have h1 : Finset.fold max (⊥ : EReal) (fun v => (L v : EReal)) Finset.univ < ⊤ :=
    (Finset.fold_max_lt _).mpr ⟨bot_lt_top, fun v _ => EReal.coe_lt_top _⟩
  have h2 : (L ⟨0, hn⟩ : EReal) ≤ Finset.fold max (⊥ : EReal) (fun v => (L v : EReal)) Finset.univ :=
    (Finset.le_fold_max _).mpr (Or.inr ⟨⟨0, hn⟩, Finset.mem_univ _, le_refl _⟩)
  generalize Finset.fold max (⊥ : EReal) (fun v => (L v : EReal)) Finset.univ = z at h1 h2
  induction z with
  | bot => exact absurd h2 (not_le.mpr (EReal.bot_lt_coe _))
  | top => exact absurd h1 (lt_irrefl _)
  | coe r => exact ⟨r, rfl⟩

/-- Taking the greatest out of a logarithm of a sum of exponentials changes nothing. -/
theorem lse_eq {n : ℕ} (hn : 0 < n) (L : Fin n → ℝ) (M : ℝ) :
    (M : EReal) + Ideal.log (∑ v : Fin n, Ideal.exp ((L v : EReal) - (M : EReal))) = Ideal.log (∑ v : Fin n, ((Real.exp (L v) : ℝ) : EReal)) := by
  haveI : Nonempty (Fin n) := ⟨⟨0, hn⟩⟩
  have e1 : (∑ v : Fin n, Ideal.exp ((L v : EReal) - (M : EReal))) = ((∑ v : Fin n, Real.exp (L v - M) : ℝ) : EReal) := by
    rw [coe_sum]
    refine Finset.sum_congr rfl fun v _ => ?_
    rw [← EReal.coe_sub, Ideal.exp_coe]
  have p1 : 0 < ∑ v : Fin n, Real.exp (L v) := Finset.sum_pos (fun v _ => Real.exp_pos _) Finset.univ_nonempty
  have p2 : (∑ v : Fin n, Real.exp (L v - M)) = (∑ v : Fin n, Real.exp (L v)) * Real.exp (-M) := by
    rw [Finset.sum_mul]
    refine Finset.sum_congr rfl fun v _ => ?_
    rw [← Real.exp_add, sub_eq_add_neg]
  rw [e1, ← coe_sum, p2, Ideal.log_coe, Ideal.log_coe, if_neg (not_le.mpr p1), if_neg (not_le.mpr (mul_pos p1 (Real.exp_pos _))),
    Real.log_mul p1.ne' (Real.exp_pos _).ne', Real.log_exp, ← EReal.coe_add]
  refine congrArg _ ?_
  ring

/-- The label, less the point's and the block's offset, is the row's number exactly at the label. -/
theorem pick_iff (v0 t j p : ℕ) (hv : v0 < 32768) (ht : t < 32) (hj : j < 8) (hp : p < 128) :
    IntOp.cmpi .eq (BitVec.ofNat 32 p) (IntOp.subi (IntOp.subi (BitVec.ofNat 32 v0) (Scalar.muli (BitVec.ofNat 32 t) 1024#32)) (BitVec.ofNat 32 (128 * j)))
      = BitVec.ofBool (decide (1024 * t + 128 * j + p = v0)) := by
  have e : (BitVec.ofNat 32 p = BitVec.ofNat 32 v0 - BitVec.ofNat 32 t * 1024#32 - BitVec.ofNat 32 (128 * j)) ↔ 1024 * t + 128 * j + p = v0 := by
    rw [BitVec.eq_sub_iff_add_eq, BitVec.eq_sub_iff_add_eq]
    rw [show (1024#32 : BitVec 32) = BitVec.ofNat 32 1024 from rfl, ← BitVec.ofNat_mul, ← BitVec.ofNat_add, ← BitVec.ofNat_add]
    constructor
    · intro h
      have := congrArg BitVec.toNat h
      rw [BitVec.toNat_ofNat, BitVec.toNat_ofNat, Nat.mod_eq_of_lt (by omega), Nat.mod_eq_of_lt (by omega)] at this
      omega
    · intro h
      exact congrArg (BitVec.ofNat 32) (by omega)
  show BitVec.ofBool (decide (BitVec.ofNat 32 p = BitVec.ofNat 32 v0 - BitVec.ofNat 32 t * 1024#32 - BitVec.ofNat 32 (128 * j))) = _
  rw [decide_eq_decide.mpr e]

end Cert.KernelIdeal.Gen

end
-- ==== Proof.RefGather.lean ====
/-
  The reference's pick of a row's logit at its label: a gather along the rows, read at an index.
-/
module

public import proofs.«01_k».proof.Proof.RefValue
public import Idealize.ShloMosaic.Lib.ValueIdx

@[expose] public section

set_option maxRecDepth 16384

noncomputable section

namespace Cert.ReferenceIdeal.Gen

open Idealize.ShloMosaic Idealize.ShloMosaic.TcCoe

theorem gather_apply (l : FVec Ideal S256x32768 .f32) (i : IVec S256x1x1 32) (a : Fin 256) :
    Host.gather gather_S256x32768_S256x1x1_S256x1_n_1_0_0_1_2_11 l i (ix2 a 0)
      = l (ix2 a ⟨min (i (ix3 a 0 0)).toInt.toNat 32767, by omega⟩) := by
  unfold Host.gather
  refine congrArg l ?_
  funext b
  refine Fin.ext ?_
  show (gather_S256x32768_S256x1x1_S256x1_n_1_0_0_1_2_11).start (ix2 a 0) i b
    + (gather_S256x32768_S256x1x1_S256x1_n_1_0_0_1_2_11).batchCoord (ix2 a 0) b
    + (gather_S256x32768_S256x1x1_S256x1_n_1_0_0_1_2_11).offCoord (ix2 a 0) b = _
  have h01 : b = 0 ∨ b = 1 := by
    match b with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (gather_S256x32768_S256x1x1_S256x1_n_1_0_0_1_2_11).operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S256x32768_S256x1x1_S256x1_n_1_0_0_1_2_11).startIndexMap from List.mem_singleton.mpr rfl)]
    have hsi : (gather_S256x32768_S256x1x1_S256x1_n_1_0_0_1_2_11).siIdx (ix2 a 0) ⟨List.idxOf (1 : Fin 2) (gather_S256x32768_S256x1x1_S256x1_n_1_0_0_1_2_11).startIndexMap,
        List.idxOf_lt_length_iff.2 (List.mem_singleton.mpr rfl)⟩ = ix3 a 0 0 := by
      funext b; refine Fin.ext ?_
      match b with
      | ⟨0, _⟩ => rfl
      | ⟨1, _⟩ => rfl
      | ⟨2, _⟩ => rfl
    rw [hsi]
    rfl

/-- The picked logit of a label in range: the logit at the label. -/
theorem hostPick_of (l : FVec Ideal S256x32768 .f32) (lab : IVec S256x1 32) (a : Fin 256) (v : Fin 32768)
    (hv : lab (ix2 a 0) = BitVec.ofNat 32 v.val) : hostPick l lab (ix2 a 0) = l (ix2 a v) := by
  have hv' := v.isLt
  have ht : (BitVec.ofNat 32 v.val).toInt = v.val := by
    have e : (BitVec.ofNat 32 v.val).toNat = v.val := by rw [BitVec.toNat_ofNat]; omega
    rw [BitVec.toInt_eq_toNat_of_lt (by rw [e]; omega), e]
  have hw : hostWrap lab (ix3 a 0 0) = BitVec.ofNat 32 v.val := by
    rw [hostWrap_apply, hv]
    have : IntOp.cmpi .slt (BitVec.ofNat 32 v.val) 0#32 = 0#1 := by
      show BitVec.ofBool _ = _
      have : (BitVec.ofNat 32 v.val).slt 0#32 = false := by
        rw [BitVec.slt_eq_decide, ht]; simp
      first | rw [this]; rfl | simp [this]
    rw [this]; rfl
  have hr : hostInRange (hostWrap lab) (ix2 a 0) = 1#1 := by
    rw [hostInRange_apply]
    have h1 : IntOp.cmpi .sge (BitVec.ofNat 32 v.val) 0#32 = 1#1 := by
      show BitVec.ofBool _ = _
      have : (0#32).sle (BitVec.ofNat 32 v.val) = true := by
        rw [BitVec.sle_eq_decide, ht]; simp
      first | rw [this]; rfl | simp [this]
    have h2 : IntOp.cmpi .sle (BitVec.ofNat 32 v.val) 32767#32 = 1#1 := by
      show BitVec.ofBool _ = _
      have : (BitVec.ofNat 32 v.val).sle 32767#32 = true := by
        rw [BitVec.sle_eq_decide, ht]; simp; omega
      first | rw [this]; rfl | simp [this]
    have hx : ∀ x : Fin 1, hostWrap lab (ix3 a 0 x) = BitVec.ofNat 32 v.val := fun x => by
      obtain rfl : x = 0 := Subsingleton.elim _ _
      exact hw
    simp only [hx, h1, h2]
    decide
  rw [hostPick_apply, hr, gather_apply]
  show l _ = _
  refine congrArg (fun q => l (ix2 a q)) (Fin.ext ?_)
  show min (hostWrap lab (ix3 a 0 0)).toInt.toNat 32767 = v.val
  rw [hw, ht]
  omega

end Cert.ReferenceIdeal.Gen

end
-- ==== Proof.EqualAll.lean ====
/-
  From equal arguments in range, the kernel's three results are the reference's.
-/
module

public import proofs.«01_k».proof.Proof.EqualRow
public import proofs.«01_k».proof.Proof.MathLoss
public import proofs.«01_k».proof.Proof.RefGather

@[expose] public section

set_option maxRecDepth 16384

noncomputable section

namespace Cert.Equal

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories hold the same arguments on device `c`. -/
structure Same (c : Dev Cert.KernelIdeal.nD) : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

/-- The reference's arguments, by name. -/
abbrev argX (c : Dev Cert.ReferenceIdeal.nD) : FVec Ideal Cert.ReferenceIdeal.S2x128x6144 .bf16 :=
  m' ((c.tc : Thread Cert.ReferenceIdeal.nD Cert.ReferenceIdeal.τ).loc Cert.ReferenceIdeal.main_arg0)
abbrev argNw (c : Dev Cert.ReferenceIdeal.nD) : FVec Ideal Cert.ReferenceIdeal.S6144 .f32 :=
  m' ((c.tc : Thread Cert.ReferenceIdeal.nD Cert.ReferenceIdeal.τ).loc Cert.ReferenceIdeal.main_arg1)
abbrev argWs (c : Dev Cert.ReferenceIdeal.nD) : FVec Ideal Cert.ReferenceIdeal.S32768x1 .f32 :=
  m' ((c.tc : Thread Cert.ReferenceIdeal.nD Cert.ReferenceIdeal.τ).loc Cert.ReferenceIdeal.main_arg3)
abbrev argB (c : Dev Cert.ReferenceIdeal.nD) : FVec Ideal Cert.ReferenceIdeal.S32768 .f32 :=
  m' ((c.tc : Thread Cert.ReferenceIdeal.nD Cert.ReferenceIdeal.τ).loc Cert.ReferenceIdeal.main_arg4)
abbrev argLab (c : Dev Cert.ReferenceIdeal.nD) : IVec Cert.ReferenceIdeal.S2x128 32 :=
  m' ((c.tc : Thread Cert.ReferenceIdeal.nD Cert.ReferenceIdeal.τ).loc Cert.ReferenceIdeal.main_arg5)

/-- The arguments are in range on device `c`. -/
structure InRange (c : Dev Cert.ReferenceIdeal.nD) : Prop where
  nw : ∀ k : Fin 6144, max (argNw m' c (ix1 k)) (-argNw m' c (ix1 k)) ≤ Ideal.ofBits .f32 0x7F7FFFFF#32
  lab : ∀ (h : Fin 2) (l : Fin 128), ∃ v : Fin 32768, argLab m' c (ix2 h l) = BitVec.ofNat 32 v.val

variable (c : Dev Cert.KernelIdeal.nD) (hs : Same m m' c) (hr : InRange m' c)

include hs in
theorem blockX (t : Fin Cert.KernelIdeal.cfg0.N) (h : Fin 2) (l : Fin 128) (k : Fin 6144) :
    (Cert.KernelIdeal.Gen.iblk m c 0 t : Vec Ideal Cert.KernelIdeal.S256x6144 .bf16) (ix2 (tok h l) k) = argX m' c (ix3 h l k) := by
  rw [Cert.KernelIdeal.Gen.iblk0_apply]
  exact congrFun hs.a0.symm _

include hs in
theorem blockW (t : Fin Cert.KernelIdeal.cfg0.N) (k : Fin 6144) :
    (Cert.KernelIdeal.Gen.iblk m c 1 t : Vec Ideal Cert.KernelIdeal.S1x6144 .f32) (ix2 0 k) = argNw m' c (ix1 k) := by
  rw [Cert.KernelIdeal.Gen.iblk1_apply]
  exact congrFun hs.a1.symm _

include hs hr in
/-- The steps agree. -/
theorem step_at (h : Fin 2) (l : Fin 128) : Cert.KernelIdeal.Gen.theSteps m c (ix2 h l)
    = Cert.ReferenceIdeal.Gen.hostScale (Cert.ReferenceIdeal.Gen.refE m' c) (ix2 (tok h l) 0) :=
  (row_pow (argX m' c) (argNw m' c) _ _ (blockX m m' c hs Cert.KernelIdeal.Gen.t00) (blockW m m' c hs Cert.KernelIdeal.Gen.t00) hr.nw h l).1

include hs hr in
/-- The codes agree. -/
theorem code_at (h : Fin 2) (l : Fin 128) (k : Fin 6144) : Cert.KernelIdeal.Gen.theCodes m c (ix2 (tok h l) k)
    = Cert.ReferenceIdeal.Gen.outCodes m' c (ix2 (tok h l) k) :=
  row_code (argX m' c) (argNw m' c) _ _ (blockX m m' c hs Cert.KernelIdeal.Gen.t00) (blockW m m' c hs Cert.KernelIdeal.Gen.t00) hr.nw _ h l k

/-- A row of 256 as a half and a lane. -/
theorem row_split (a : Fin 256) : ∃ (h : Fin 2) (l : Fin 128), a = (tok h l) :=
  ⟨⟨a.val / 128, by omega⟩, ⟨a.val % 128, by omega⟩, Fin.ext (Nat.div_add_mod _ _).symm⟩

include hs hr in
theorem codes_eq : (Cert.KernelIdeal.Gen.theCodes m c : Vec Ideal Cert.KernelIdeal.S256x6144 .fp8e4m3) = Cert.ReferenceIdeal.Gen.outCodes m' c := by
  funext y
  rw [eq_ix2 y]
  obtain ⟨h, l, e⟩ := row_split (y 0)
  have := code_at m m' c hs hr h l (y 1)
  rw [← e] at this
  exact this

include hs hr in
theorem steps_eq : (Cert.KernelIdeal.Gen.theSteps m c : Vec Ideal Cert.KernelIdeal.S2x128 .f32) = Cert.ReferenceIdeal.Gen.outScale m' c := by
  funext y
  rw [eq_ix2 y]
  refine (step_at m m' c hs hr (y 0) (y 1)).trans ?_
  exact (castS_apply _ _ (y 0) (y 1)).symm

/-! ## The logits -/

/-- The capped logit of a row and a vocabulary entry, divided by 30. -/
def zOf (c : Dev Cert.ReferenceIdeal.nD) (a : Fin 256) (v : Fin 32768) : EReal :=
  Ideal.tanh (Ideal.div (Cert.ReferenceIdeal.Gen.outAcc m' c (ix2 a v)
      * (Cert.ReferenceIdeal.Gen.hostScale (Cert.ReferenceIdeal.Gen.refE m' c) (ix2 a 0) * argWs m' c (ix2 v 0)) + argB m' c (ix1 v))
    (Ideal.ofBits .f32 0x41F00000#32))

theorem logit_at (a : Fin 256) (v : Fin 32768) :
    Cert.ReferenceIdeal.Gen.outLogit m' c (ix2 a v) = Ideal.ofBits .f32 0x41F00000#32 * zOf m' c a v :=
  Cert.ReferenceIdeal.Gen.hostLogit_apply _ _ _ _ a v

theorem acc_at (a : Fin 256) (v : Fin 32768) : Cert.ReferenceIdeal.Gen.outAcc m' c (ix2 a v)
    = ∑ k : Fin 6144, Cert.ReferenceIdeal.Gen.outCodes m' c (ix2 a k) * Cert.ReferenceIdeal.Gen.inW m' c (ix2 v k) :=
  Cert.ReferenceIdeal.Gen.pay2_apply _ _ _ a v

theorem tile_lt (t : Fin Cert.KernelIdeal.cfg0.N) : t.val < 32 := lt_of_lt_of_eq t.isLt Cert.KernelIdeal.Gen.N_0

/-- A capped logit computed from equal entries is that one. -/
theorem tile_of (A : Vec Ideal Cert.KernelIdeal.S1024x6144 .fp8e4m3) (B : Vec Ideal Cert.KernelIdeal.S256x6144 .fp8e4m3)
    (v7 v12 : Vec Ideal Cert.KernelIdeal.S8x128 .f32) (vh : Vec Ideal Cert.KernelIdeal.S1x128 .f32)
    (h : Fin 2) (j : Fin 8) (r l : Fin 128) (v : Fin 32768)
    (hA : ∀ k, A (ix2 ⟨128 * j.val + r.val, by omega⟩ k) = Cert.ReferenceIdeal.Gen.inW m' c (ix2 v k))
    (hB : ∀ k, B (ix2 (tok h l) k) = Cert.ReferenceIdeal.Gen.outCodes m' c (ix2 (tok h l) k))
    (e2 : vh (ix2 0 l) = Cert.ReferenceIdeal.Gen.hostScale (Cert.ReferenceIdeal.Gen.refE m' c) (ix2 (tok h l) 0))
    (e3 : v7 (ix2 j r) = argWs m' c (ix2 v 0)) (e4 : v12 (ix2 j r) = argB m' c (ix1 v)) :
    Cert.KernelIdeal.Gen.kTile A B v7 v12 vh h j r l = zOf m' c (tok h l) v := by
  unfold Cert.KernelIdeal.Gen.kTile Cert.KernelIdeal.Gen.kZ
  rw [Cert.KernelIdeal.Gen.named_inv_softcap, Cert.KernelIdeal.Gen.logit_arg, e2, e3, e4]
  unfold zOf
  rw [acc_at]
  refine congrArg (fun s : EReal => Ideal.tanh (Ideal.div (s * (Cert.ReferenceIdeal.Gen.hostScale (Cert.ReferenceIdeal.Gen.refE m' c) (ix2 (tok h l) 0) * argWs m' c (ix2 v 0)) + argB m' c (ix1 v))
    (Ideal.ofBits .f32 0x41F00000#32))) ?_
  refine Finset.sum_congr rfl fun k _ => ?_
  rw [hA, hB]
  exact mul_comm (G := EReal) _ _

include hs hr in
/-- The kernel's logits, block by block, are those. -/
theorem tile_at (t : Fin Cert.KernelIdeal.cfg0.N) (h : Fin 2) (l : Fin 128) (j : Fin 8) (r : Fin 128)
    (hv : 1024 * t.val + 128 * j.val + r.val < 32768) :
    Cert.KernelIdeal.Gen.tileAt m c t h l j r = zOf m' c (tok h l) ⟨1024 * t.val + 128 * j.val + r.val, hv⟩ := by
  have ht := tile_lt t
  have hj := j.isLt
  have hrr := r.isLt
  refine tile_of m' c _ _ _ _ _ h j r l _ (fun k => ?_) (fun k => code_at m m' c hs hr h l k) (step_at m m' c hs hr h l) ?_ ?_
  · refine (Cert.KernelIdeal.Gen.iblk2_apply m c t ⟨128 * j.val + r.val, by omega⟩ k (by show 1024 * t.val + (128 * j.val + r.val) < 32768; omega)).trans ?_
    refine (congrFun hs.a2.symm _).trans ?_
    exact congrArg (fun q : Fin 32768 => Cert.ReferenceIdeal.Gen.inW m' c (ix2 q k)) (Fin.ext (Nat.add_assoc _ _ _).symm)
  · refine (Cert.KernelIdeal.Gen.iblk3_apply m c t j r (by omega)).trans ?_
    refine (congrFun hs.a3.symm _).trans ?_
    exact congrArg (fun q : Fin 32768 => argWs m' c (ix2 q 0)) (Fin.ext (by show 128 * (8 * t.val + j.val) + r.val = 1024 * t.val + 128 * j.val + r.val; omega))
  · refine (Cert.KernelIdeal.Gen.iblk4_apply m c t j r (by omega)).trans ?_
    refine (congrFun hs.a4.symm _).trans ?_
    exact congrArg (fun q : Fin 32768 => argB m' c (ix1 q)) (Fin.ext (by show 128 * (8 * t.val + j.val) + r.val = 1024 * t.val + 128 * j.val + r.val; omega))

/-! ## The sums over the vocabulary -/

/-- A function of the vocabulary, zero outside. -/
def vocF (g : Fin 32768 → EReal) (n : ℕ) : EReal := if h : n < 32768 then g ⟨n, h⟩ else 0

theorem vocF_of (g : Fin 32768 → EReal) (n : ℕ) (h : n < 32768) : vocF g n = g ⟨n, h⟩ := dif_pos h

/-- A sum over the points, each in eight blocks of sixteen groups, over the eight sublanes, is a sum over the vocabulary. -/
theorem sum_points (g : Fin 32768 → EReal) (f : Fin 8 → Fin Cert.KernelIdeal.cfg0.N → Fin 8 → Fin 16 → EReal)
    (hf : ∀ a t j q, ∀ hv : 1024 * t.val + 128 * j.val + (q.val * 8 + a.val) < 32768, f a t j q = g ⟨_, hv⟩) :
    (∑ a : Fin 8, ∑ t : Fin Cert.KernelIdeal.cfg0.N, if t.val < 32 then (∑ j : Fin 8, ∑ q : Fin 16, f a t j q) else 0) = ∑ v : Fin 32768, g v := by
  refine Eq.trans (Finset.sum_congr rfl fun a _ => ?_)
    ((Cert.KernelIdeal.Gen.sum_vocab (vocF g)).trans (Finset.sum_congr rfl fun v _ => vocF_of g v.val v.isLt))
  refine Fintype.sum_equiv (finCongr Cert.KernelIdeal.Gen.N_0) _ _ fun t => ?_
  rw [if_pos (tile_lt t)]
  refine Finset.sum_congr rfl fun j _ => Finset.sum_congr rfl fun q _ => ?_
  have ht := tile_lt t
  have hv : 1024 * t.val + 128 * j.val + (q.val * 8 + a.val) < 32768 := by have := j.isLt; have := q.isLt; have := a.isLt; omega
  exact (hf a t j q hv).trans (vocF_of g _ hv).symm

include hs hr in
theorem sum_at (h : Fin 2) (l : Fin 128) : (∑ a : Fin 8, Cert.KernelIdeal.Gen.sumTo m c 32 (ix3 h a l))
    = ∑ v : Fin 32768, Ideal.exp2 (zOf m' c (tok h l) v * (Named.named Cert.KernelIdeal.κ "softcap_log2e" 0x422D1F97#32 : Ideal .f32)) := by
  refine sum_points _ (fun a t j q => Ideal.exp2 (Cert.KernelIdeal.Gen.tileAt m c t h l j ⟨q.val * 8 + a.val, by omega⟩ * (Named.named Cert.KernelIdeal.κ "softcap_log2e" 0x422D1F97#32 : Ideal .f32)))
    fun a t j q hv => ?_
  show Ideal.exp2 (Cert.KernelIdeal.Gen.tileAt m c t h l j ⟨q.val * 8 + a.val, by omega⟩ * _) = _
  rw [tile_at m m' c hs hr t h l j ⟨q.val * 8 + a.val, by omega⟩ hv]

include hs hr in
theorem pick_at (h : Fin 2) (l : Fin 128) (v0 : Fin 32768) (hl : argLab m' c (ix2 h l) = BitVec.ofNat 32 v0.val) :
    (∑ a : Fin 8, Cert.KernelIdeal.Gen.pickTo m c 32 (ix3 h a l)) = zOf m' c (tok h l) v0 := by
  have hp := sum_points (fun v : Fin 32768 => if v = v0 then zOf m' c (tok h l) v else 0)
    (fun a t j q => Scalar.select (IntOp.cmpi .eq (BitVec.ofNat 32 (q.val * 8 + a.val))
        (IntOp.subi (Cert.KernelIdeal.Gen.labOf (Cert.KernelIdeal.grid0.coords t) (Cert.KernelIdeal.Gen.iblk m c 5 t) h l) (BitVec.ofNat 32 (128 * j.val))))
      (Cert.KernelIdeal.Gen.tileAt m c t h l j ⟨q.val * 8 + a.val, by omega⟩) 0) ?_
  · refine Eq.trans hp ?_
    rw [Finset.sum_ite_eq' Finset.univ v0, if_pos (Finset.mem_univ _)]
  · intro a t j q hv
    have ht := tile_lt t
    have e : Cert.KernelIdeal.Gen.labOf (Cert.KernelIdeal.grid0.coords t) (Cert.KernelIdeal.Gen.iblk m c 5 t) h l
        = IntOp.subi (BitVec.ofNat 32 v0.val) (Scalar.muli (BitVec.ofNat 32 t.val) 1024#32) := by
      unfold Cert.KernelIdeal.Gen.labOf
      rw [Cert.KernelIdeal.Gen.iblk5_apply, Cert.KernelIdeal.Gen.coord_val]
      refine congrArg (fun z => IntOp.subi z (Scalar.muli (BitVec.ofNat 32 t.val) 1024#32)) ?_
      exact (congrFun hs.a5.symm _).trans hl
    show Scalar.select (IntOp.cmpi .eq (BitVec.ofNat 32 (q.val * 8 + a.val))
        (IntOp.subi (Cert.KernelIdeal.Gen.labOf (Cert.KernelIdeal.grid0.coords t) (Cert.KernelIdeal.Gen.iblk m c 5 t) h l) (BitVec.ofNat 32 (128 * j.val))))
      (Cert.KernelIdeal.Gen.tileAt m c t h l j ⟨q.val * 8 + a.val, by omega⟩) 0 = _
    rw [e, Cert.KernelIdeal.Gen.pick_iff v0.val t.val j.val _ v0.isLt ht j.isLt (by omega),
      tile_at m m' c hs hr t h l j ⟨q.val * 8 + a.val, by omega⟩ hv]
    by_cases hE : 1024 * t.val + 128 * j.val + (q.val * 8 + a.val) = v0.val
    · rw [decide_eq_true hE, if_pos (Fin.ext hE)]; rfl
    · rw [decide_eq_false hE, if_neg fun h' => hE (congrArg Fin.val h')]; rfl

/-! ## The loss -/

theorem loss_ref (h : Fin 2) (l : Fin 128) (v0 : Fin 32768) (hl : argLab m' c (ix2 h l) = BitVec.ofNat 32 v0.val) :
    Cert.ReferenceIdeal.Gen.outLoss m' c (ix2 h l)
      = Ideal.log (∑ v : Fin 32768, Ideal.exp2 (zOf m' c (tok h l) v * (Named.named Cert.KernelIdeal.κ "softcap_log2e" 0x422D1F97#32 : Ideal .f32)))
        - Ideal.ofBits .f32 0x41F00000#32 * zOf m' c (tok h l) v0 - Ideal.ofBits .f32 0x41265AF6#32 := by
  have hz : ∀ v : Fin 32768, ∃ r : ℝ, zOf m' c (tok h l) v = (r : EReal) := fun v => Cert.KernelIdeal.Gen.tanh_real _
  choose z hz using hz
  have hL : ∀ v : Fin 32768, Cert.ReferenceIdeal.Gen.outLogit m' c (ix2 (tok h l) v) = ((30 * z v : ℝ) : EReal) := fun v => by
    rw [logit_at, hz, Cert.KernelIdeal.Gen.ofBits_thirty, EReal.coe_mul]
  obtain ⟨M, hM⟩ := Cert.KernelIdeal.Gen.fold_max_real (n := 32768) (by norm_num) fun v => 30 * z v
  have hMax : Cert.ReferenceIdeal.Gen.hostMax (Cert.ReferenceIdeal.Gen.outLogit m' c) (ix2 (tok h l) 0) = (M : EReal) := by
    rw [Cert.ReferenceIdeal.Gen.hostMax_apply, Cert.KernelIdeal.Gen.ofBits_minf, ← hM]
    exact congrArg (fun f => Finset.fold max (⊥ : EReal) f Finset.univ) (funext hL)
  unfold Cert.ReferenceIdeal.Gen.outLoss
  rw [Cert.ReferenceIdeal.Gen.hostLoss_apply, Cert.ReferenceIdeal.Gen.hostLse_apply, hMax,
    Cert.ReferenceIdeal.Gen.hostPick_of _ _ _ v0 ((Cert.ReferenceIdeal.Gen.hostLab_apply _ h l).trans hl), logit_at]
  refine congrArg (fun s => s - Ideal.ofBits .f32 0x41F00000#32 * zOf m' c (tok h l) v0 - Ideal.ofBits .f32 0x41265AF6#32) ?_
  refine Eq.trans ?_ ((Cert.KernelIdeal.Gen.lse_eq (n := 32768) (by norm_num) (fun v => 30 * z v) M).trans ?_)
  · refine congrArg (fun s => (M : EReal) + Ideal.log s) (Finset.sum_congr rfl fun v _ => ?_)
    rw [hL]
  · refine congrArg Ideal.log (Finset.sum_congr rfl fun v _ => ?_)
    rw [hz, Cert.KernelIdeal.Gen.named_softcap_log2e, Cert.KernelIdeal.Gen.exp2_eq]

include hs hr in
theorem loss_eq : (Cert.KernelIdeal.Gen.lossOf (Cert.KernelIdeal.Gen.sumTo m c 32) (Cert.KernelIdeal.Gen.pickTo m c 32) : Vec Ideal Cert.KernelIdeal.S2x128 .f32)
    = Cert.ReferenceIdeal.Gen.outLoss m' c := by
  funext y
  rw [eq_ix2 y]
  obtain ⟨v0, hl⟩ := hr.lab (y 0) (y 1)
  refine Eq.trans ?_ (loss_ref m' c (y 0) (y 1) v0 hl).symm
  rw [← sum_at m m' c hs hr (y 0) (y 1), ← pick_at m m' c hs hr (y 0) (y 1) v0 hl]
  rfl

end Cert.Equal

end
-- ==== Proof.EqualPre.lean ====
/-
  What the precondition says of the arguments: the norm weights are finite and the labels name vocabulary entries.
-/
module

public import proofs.«01_k».proof.Defs
public import proofs.«01_k».proof.Proof.EqualAll

@[expose] public section

noncomputable section

namespace Cert.Equal

open Idealize.ShloMosaic Idealize.ShloMosaic.TcCoe Idealize.SL.Sem

/-- The shape relations of the precondition's operations. -/
theorem preFacts : Cert.Pre_in_range.Facts where
  bcast_S_S6144 := by decide
  bcast_S_S2x128 := by decide

/-- A bit that is the outcome of a test is one when the test holds. -/
theorem of_ofBool {b : Bool} (h : BitVec.ofBool b = 1#1) : b = true := by
  cases b
  · exact absurd h (by decide)
  · rfl

/-- A nonnegative word below 32768 is a vocabulary entry. -/
theorem label_of (x : BitVec 32) (h : IntOp.andi (IntOp.cmpi .sge x 0#32) (IntOp.cmpi .slt x 32768#32) = 1#1) :
    ∃ v : Fin 32768, x = BitVec.ofNat 32 v.val := by
  have hb : (BitVec.sle 0#32 x && BitVec.slt x 32768#32) = true := by
    revert h
    show BitVec.ofBool (BitVec.sle 0#32 x) &&& BitVec.ofBool (BitVec.slt x 32768#32) = 1#1 → _
    generalize BitVec.sle 0#32 x = p
    generalize BitVec.slt x 32768#32 = q
    revert p q
    decide
  rw [Bool.and_eq_true, BitVec.sle_eq_decide, BitVec.slt_eq_decide, decide_eq_true_eq, decide_eq_true_eq] at hb
  obtain ⟨h0, h1⟩ := hb
  have e0 : (0#32 : BitVec 32).toInt = 0 := by decide
  have e1 : (32768#32 : BitVec 32).toInt = 32768 := by decide
  rw [e0] at h0
  rw [e1] at h1
  have hx := x.isLt
  have hn : x.toNat < 32768 := by
    rw [BitVec.toInt_eq_toNat_cond] at h0 h1
    split at h0 <;> omega
  exact ⟨⟨x.toNat, hn⟩, (BitVec.ofNat_toNat 32 x).symm ▸ (by simp)⟩

/-- The precondition gives the range. -/
theorem range_of [Cert.Pre_in_range.Facts] (x0 x1 x2 x3 x4 x5)
    (h : (Cert.Pre_in_range.fn (F := Ideal) x0 x1 x2 x3 x4 x5).1 = (fun _ => 1#1)
      ∧ (Cert.Pre_in_range.fn (F := Ideal) x0 x1 x2 x3 x4 x5).2 = (fun _ => 1#1)) :
    (∀ k : Fin 6144, max (x1 (ix1 k)) (-x1 (ix1 k)) ≤ Ideal.ofBits .f32 0x7F7FFFFF#32)
      ∧ ∀ (a : Fin 2) (l : Fin 128), ∃ v : Fin 32768, x5 (ix2 a l) = BitVec.ofNat 32 v.val := by
  refine ⟨fun k => ?_, fun a l => label_of _ ?_⟩
  · exact of_decide_eq_true (of_ofBool (congrFun h.1 (ix1 k)))
  · exact congrFun h.2 (ix2 a l)

end Cert.Equal

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.FrameKernel
public import proofs.«01_k».proof.Proof.FrameIdeal
public import proofs.«01_k».proof.Proof.Gen.ReferenceIdeal.Frame
public import proofs.«01_k».proof.Proof.EqualPre
public import Idealize.ShloMosaic.Adequacy
public import Idealize.ShloMosaic.Init

@[expose] public section

noncomputable section

namespace Cert.Proof

open Idealize.ShloMosaic Idealize.SL.Sem

/-- The three constants of the kernel that are named reals at the ideal floats: 1/6144, 1/30 and 30/log 2. -/
theorem preserves : Cert.preserves_Kernel_KernelIdeal :=
  ⟨IdealRules.named_const.statement Cert.KernelIdeal.κ "inv_d" .f32 0x392AAAAB#32 ((1 / 6144 : ℝ) : EReal) rfl,
    IdealRules.named_const.statement Cert.KernelIdeal.κ "inv_softcap" .f32 0x3D088889#32 ((1 / 30 : ℝ) : EReal) rfl,
    IdealRules.named_const.statement Cert.KernelIdeal.κ "softcap_log2e" .f32 0x422D1F97#32 ((30 * (Real.log 2)⁻¹ : ℝ) : EReal) rfl⟩

/-- At the ideal floats, from equal arguments in range, the kernel and the reference end with equal results. -/
theorem algebraic : Cert.algebraic_KernelIdeal_ReferenceIdeal_pre_in_range (hKernelIdeal := Cert.KernelIdeal.Gen.facts)
    (hReferenceIdeal := Cert.ReferenceIdeal.Gen.facts) (hPre_in_range := Cert.Equal.preFacts) := by
  intro m ρ m' ρ' hpre hagree
  have hs : ∀ c, Cert.Equal.Same m m' c := fun c =>
    ⟨(hagree c).1, (hagree c).2.1, (hagree c).2.2.1, (hagree c).2.2.2.1, (hagree c).2.2.2.2.1, (hagree c).2.2.2.2.2⟩
  have hr : ∀ c, Cert.Equal.InRange m' c := fun c => by
    have hp := @Cert.Equal.range_of Cert.Equal.preFacts _ _ _ _ _ _ (hpre c)
    refine ⟨fun k => ?_, fun a l => ?_⟩
    · have := hp.1 k
      rw [← (hs c).a1] at this
      exact this
    · have := hp.2 a l
      rw [← (hs c).a5] at this
      exact this
  refine ⟨fun c => Cert.KernelIdeal.Gen.lossOf (Cert.KernelIdeal.Gen.sumTo m c 32) (Cert.KernelIdeal.Gen.pickTo m c 32),
    fun c => Cert.KernelIdeal.Gen.theCodes m c, fun c => Cert.KernelIdeal.Gen.theSteps m c,
    Cert.KernelIdeal.Gen.run_values m ρ, ?_⟩
  exact (θ_run Cert.ReferenceIdeal.defs _ _).mono (fun _ h c =>
    ⟨(h c).1.trans (Cert.Equal.loss_eq m m' c (hs c) (hr c)).symm,
      (h c).2.1.trans (Cert.Equal.codes_eq m m' c (hs c) (hr c)).symm,
      (h c).2.2.1.trans (Cert.Equal.steps_eq m m' c (hs c) (hr c)).symm, (h c).2.2.2⟩)
    (Cert.ReferenceIdeal.Gen.run_values m' ρ')

theorem claim : Cert.Claim := ⟨Cert.Kernel.Gen.facts, Cert.KernelIdeal.Gen.facts, Cert.ReferenceIdeal.Gen.facts, Cert.Equal.preFacts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, preserves, algebraic⟩

end Cert.Proof

end
